-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_affine [hPre_finite_affine : Cert.Pre_finite_affine.Facts] (m : (ℓ : Loc Cert.KernelIdeal.nD Cert.KernelIdeal.τ Cert.KernelIdeal.sig) → Buf (Elt Ideal) ℓ) : Prop :=
  ∀ c : Dev Cert.KernelIdeal.nD,
    (Cert.Pre_finite_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_affine [hPre_finite_affine : Cert.Pre_finite_affine.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2 = (fun _ => 1#1)

def Pre_Reference (m : (ℓ : Loc Cert.Reference.nD Cert.Reference.τ Cert.Reference.sig) → Buf (Elt Bits) ℓ) : Prop :=
  True

def Pre_Dwln (m : (ℓ : Loc Cert.Dwln.nD Cert.Dwln.τ Cert.Dwln.sig) → Buf (Elt Bits) ℓ) : Prop :=
  True

def Pre_DwlnIdeal (m : (ℓ : Loc Cert.DwlnIdeal.nD Cert.DwlnIdeal.τ Cert.DwlnIdeal.sig) → Buf (Elt Ideal) ℓ) : Prop :=
  True

def Pre_DwlnReferenceIdeal (m : (ℓ : Loc Cert.DwlnReferenceIdeal.nD Cert.DwlnReferenceIdeal.τ Cert.DwlnReferenceIdeal.sig) → Buf (Elt Ideal) ℓ) : Prop :=
  True

def Pre_DwlnReference (m : (ℓ : Loc Cert.DwlnReference.nD Cert.DwlnReference.τ Cert.DwlnReference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_affine [hKernelIdeal : Cert.KernelIdeal.Facts] [hPre_finite_affine : Cert.Pre_finite_affine.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_affine m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_affine [hReferenceIdeal : Cert.ReferenceIdeal.Facts] [hPre_finite_affine : Cert.Pre_finite_affine.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_affine m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8)
      ∧ r.2.mem ((c.tc : Thread Cert.Reference.nD Cert.Reference.τ).loc Cert.Reference.main_arg9) = m ((c.tc : Thread Cert.Reference.nD Cert.Reference.τ).loc Cert.Reference.main_arg9))
      ∧ r.2.sem = fun _ => 0)

def quiescent_Dwln [hDwln : Cert.Dwln.Facts] : Prop :=
  ∀ (m : (ℓ : Loc Cert.Dwln.nD Cert.Dwln.τ Cert.Dwln.sig) → Buf (Elt Bits) ℓ) (g : Dev Cert.Dwln.nD → PrngReg), Pre_Dwln m →
    θ_run (Cert.Dwln.defs (F := Bits)) (onTc (τ := Cert.Dwln.τ) (Cert.Dwln.main (F := Bits))) ⟨m, fun _ => 0, g⟩ (fun r => (∀ c : Dev Cert.Dwln.nD,
      r.2.mem ((c.tc : Thread Cert.Dwln.nD Cert.Dwln.τ).loc Cert.Dwln.main_arg0) = m ((c.tc : Thread Cert.Dwln.nD Cert.Dwln.τ).loc Cert.Dwln.main_arg0)
      ∧ r.2.mem ((c.tc : Thread Cert.Dwln.nD Cert.Dwln.τ).loc Cert.Dwln.main_arg1) = m ((c.tc : Thread Cert.Dwln.nD Cert.Dwln.τ).loc Cert.Dwln.main_arg1)
      ∧ r.2.mem ((c.tc : Thread Cert.Dwln.nD Cert.Dwln.τ).loc Cert.Dwln.main_arg2) = m ((c.tc : Thread Cert.Dwln.nD Cert.Dwln.τ).loc Cert.Dwln.main_arg2)
      ∧ r.2.mem ((c.tc : Thread Cert.Dwln.nD Cert.Dwln.τ).loc Cert.Dwln.main_arg3) = m ((c.tc : Thread Cert.Dwln.nD Cert.Dwln.τ).loc Cert.Dwln.main_arg3)
      ∧ r.2.mem ((c.tc : Thread Cert.Dwln.nD Cert.Dwln.τ).loc Cert.Dwln.main_arg4) = m ((c.tc : Thread Cert.Dwln.nD Cert.Dwln.τ).loc Cert.Dwln.main_arg4))
      ∧ r.2.sem = fun _ => 0)

def quiescent_DwlnIdeal [hDwlnIdeal : Cert.DwlnIdeal.Facts] : Prop :=
  ∀ (m : (ℓ : Loc Cert.DwlnIdeal.nD Cert.DwlnIdeal.τ Cert.DwlnIdeal.sig) → Buf (Elt Ideal) ℓ) (g : Dev Cert.DwlnIdeal.nD → PrngReg), Pre_DwlnIdeal m →
    θ_run (Cert.DwlnIdeal.defs (F := Ideal)) (onTc (τ := Cert.DwlnIdeal.τ) (Cert.DwlnIdeal.main (F := Ideal))) ⟨m, fun _ => 0, g⟩ (fun r => (∀ c : Dev Cert.DwlnIdeal.nD,
      r.2.mem ((c.tc : Thread Cert.DwlnIdeal.nD Cert.DwlnIdeal.τ).loc Cert.DwlnIdeal.main_arg0) = m ((c.tc : Thread Cert.DwlnIdeal.nD Cert.DwlnIdeal.τ).loc Cert.DwlnIdeal.main_arg0)
      ∧ r.2.mem ((c.tc : Thread Cert.DwlnIdeal.nD Cert.DwlnIdeal.τ).loc Cert.DwlnIdeal.main_arg1) = m ((c.tc : Thread Cert.DwlnIdeal.nD Cert.DwlnIdeal.τ).loc Cert.DwlnIdeal.main_arg1)
      ∧ r.2.mem ((c.tc : Thread Cert.DwlnIdeal.nD Cert.DwlnIdeal.τ).loc Cert.DwlnIdeal.main_arg2) = m ((c.tc : Thread Cert.DwlnIdeal.nD Cert.DwlnIdeal.τ).loc Cert.DwlnIdeal.main_arg2)
      ∧ r.2.mem ((c.tc : Thread Cert.DwlnIdeal.nD Cert.DwlnIdeal.τ).loc Cert.DwlnIdeal.main_arg3) = m ((c.tc : Thread Cert.DwlnIdeal.nD Cert.DwlnIdeal.τ).loc Cert.DwlnIdeal.main_arg3)
      ∧ r.2.mem ((c.tc : Thread Cert.DwlnIdeal.nD Cert.DwlnIdeal.τ).loc Cert.DwlnIdeal.main_arg4) = m ((c.tc : Thread Cert.DwlnIdeal.nD Cert.DwlnIdeal.τ).loc Cert.DwlnIdeal.main_arg4))
      ∧ r.2.sem = fun _ => 0)

def quiescent_DwlnReferenceIdeal [hDwlnReferenceIdeal : Cert.DwlnReferenceIdeal.Facts] : Prop :=
  ∀ (m : (ℓ : Loc Cert.DwlnReferenceIdeal.nD Cert.DwlnReferenceIdeal.τ Cert.DwlnReferenceIdeal.sig) → Buf (Elt Ideal) ℓ) (g : Dev Cert.DwlnReferenceIdeal.nD → PrngReg), Pre_DwlnReferenceIdeal m →
    θ_run (Cert.DwlnReferenceIdeal.defs (F := Ideal)) (onTc (τ := Cert.DwlnReferenceIdeal.τ) (Cert.DwlnReferenceIdeal.main (F := Ideal))) ⟨m, fun _ => 0, g⟩ (fun r => (∀ c : Dev Cert.DwlnReferenceIdeal.nD,
      r.2.mem ((c.tc : Thread Cert.DwlnReferenceIdeal.nD Cert.DwlnReferenceIdeal.τ).loc Cert.DwlnReferenceIdeal.main_arg0) = m ((c.tc : Thread Cert.DwlnReferenceIdeal.nD Cert.DwlnReferenceIdeal.τ).loc Cert.DwlnReferenceIdeal.main_arg0)
      ∧ r.2.mem ((c.tc : Thread Cert.DwlnReferenceIdeal.nD Cert.DwlnReferenceIdeal.τ).loc Cert.DwlnReferenceIdeal.main_arg1) = m ((c.tc : Thread Cert.DwlnReferenceIdeal.nD Cert.DwlnReferenceIdeal.τ).loc Cert.DwlnReferenceIdeal.main_arg1)
      ∧ r.2.mem ((c.tc : Thread Cert.DwlnReferenceIdeal.nD Cert.DwlnReferenceIdeal.τ).loc Cert.DwlnReferenceIdeal.main_arg2) = m ((c.tc : Thread Cert.DwlnReferenceIdeal.nD Cert.DwlnReferenceIdeal.τ).loc Cert.DwlnReferenceIdeal.main_arg2)
      ∧ r.2.mem ((c.tc : Thread Cert.DwlnReferenceIdeal.nD Cert.DwlnReferenceIdeal.τ).loc Cert.DwlnReferenceIdeal.main_arg3) = m ((c.tc : Thread Cert.DwlnReferenceIdeal.nD Cert.DwlnReferenceIdeal.τ).loc Cert.DwlnReferenceIdeal.main_arg3)
      ∧ r.2.mem ((c.tc : Thread Cert.DwlnReferenceIdeal.nD Cert.DwlnReferenceIdeal.τ).loc Cert.DwlnReferenceIdeal.main_arg4) = m ((c.tc : Thread Cert.DwlnReferenceIdeal.nD Cert.DwlnReferenceIdeal.τ).loc Cert.DwlnReferenceIdeal.main_arg4))
      ∧ r.2.sem = fun _ => 0)

def quiescent_DwlnReference [hDwlnReference : Cert.DwlnReference.Facts] : Prop :=
  ∀ (m : (ℓ : Loc Cert.DwlnReference.nD Cert.DwlnReference.τ Cert.DwlnReference.sig) → Buf (Elt Bits) ℓ) (g : Dev Cert.DwlnReference.nD → PrngReg), Pre_DwlnReference m →
    θ_run (Cert.DwlnReference.defs (F := Bits)) (onTc (τ := Cert.DwlnReference.τ) (Cert.DwlnReference.main (F := Bits))) ⟨m, fun _ => 0, g⟩ (fun r => (∀ c : Dev Cert.DwlnReference.nD,
      r.2.mem ((c.tc : Thread Cert.DwlnReference.nD Cert.DwlnReference.τ).loc Cert.DwlnReference.main_arg0) = m ((c.tc : Thread Cert.DwlnReference.nD Cert.DwlnReference.τ).loc Cert.DwlnReference.main_arg0)
      ∧ r.2.mem ((c.tc : Thread Cert.DwlnReference.nD Cert.DwlnReference.τ).loc Cert.DwlnReference.main_arg1) = m ((c.tc : Thread Cert.DwlnReference.nD Cert.DwlnReference.τ).loc Cert.DwlnReference.main_arg1)
      ∧ r.2.mem ((c.tc : Thread Cert.DwlnReference.nD Cert.DwlnReference.τ).loc Cert.DwlnReference.main_arg2) = m ((c.tc : Thread Cert.DwlnReference.nD Cert.DwlnReference.τ).loc Cert.DwlnReference.main_arg2)
      ∧ r.2.mem ((c.tc : Thread Cert.DwlnReference.nD Cert.DwlnReference.τ).loc Cert.DwlnReference.main_arg3) = m ((c.tc : Thread Cert.DwlnReference.nD Cert.DwlnReference.τ).loc Cert.DwlnReference.main_arg3)
      ∧ r.2.mem ((c.tc : Thread Cert.DwlnReference.nD Cert.DwlnReference.τ).loc Cert.DwlnReference.main_arg4) = m ((c.tc : Thread Cert.DwlnReference.nD Cert.DwlnReference.τ).loc Cert.DwlnReference.main_arg4))
      ∧ r.2.sem = fun _ => 0)

def preserves_Kernel_KernelIdeal : Prop :=
  IdealRules.named_const.Statement Cert.KernelIdeal.κ "sqrt_half" .f32 0x3F3504F3#32 (((Real.sqrt 2)⁻¹ : ℝ) : EReal)

def preserves_Reference_ReferenceIdeal : Prop :=
  IdealRules.named_const.Statement Cert.ReferenceIdeal.κ "sqrt_half" .f32 0x3F3504F3#32 (((Real.sqrt 2)⁻¹ : ℝ) : EReal)
  ∧ IdealRules.named_const.Statement Cert.ReferenceIdeal.κ "ln_two" .f32 0x3F317218#32 ((Real.log 2 : ℝ) : EReal)

def algebraic_KernelIdeal_ReferenceIdeal_pre_finite_affine [hKernelIdeal : Cert.KernelIdeal.Facts] [hReferenceIdeal : Cert.ReferenceIdeal.Facts] [hPre_finite_affine : Cert.Pre_finite_affine.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_affine m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_0) = v0 c
          ∧ r.2.mem ((c.tc : Thread Cert.ReferenceIdeal.nD Cert.ReferenceIdeal.τ).loc Cert.ReferenceIdeal.main_v7_1) = v1 c
          ∧ r.2.mem ((c.tc : Thread Cert.ReferenceIdeal.nD Cert.ReferenceIdeal.τ).loc Cert.ReferenceIdeal.main_v7_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Dwln_DwlnIdeal : Prop :=
  IdealRules.bf16_pair.BufferStatement Cert.DwlnIdeal.S12x864x2x128 Cert.DwlnIdeal.S12x864x1x128
  ∧ IdealRules.bf16_pair.Statement Cert.DwlnIdeal.S12x864x2x128 Cert.DwlnIdeal.S12x864x1x128
  ∧ IdealRules.bf16_pair.SelectZeroStatement Cert.DwlnIdeal.S12x864x128
  ∧ IdealRules.bf16_pair.Statement Cert.DwlnIdeal.S128x128 Cert.DwlnIdeal.S64x128
  ∧ IdealRules.bf16_pair.Statement Cert.DwlnIdeal.S1x8x2x128 Cert.DwlnIdeal.S1x8x1x128
  ∧ IdealRules.bf16_pair.Statement Cert.DwlnIdeal.S16x128 Cert.DwlnIdeal.S8x128
  ∧ IdealRules.named_const.Statement Cert.DwlnIdeal.κ "inv_d" .f32 0x3A2AAAAB#32 ((1536⁻¹ : ℝ) : EReal)

def preserves_DwlnReference_DwlnReferenceIdeal : Prop :=
  IdealRules.named_const.Statement Cert.DwlnReferenceIdeal.κ "ln_two" .f32 0x3F317218#32 ((Real.log 2 : ℝ) : EReal)

def algebraic_DwlnIdeal_DwlnReferenceIdeal [hDwlnIdeal : Cert.DwlnIdeal.Facts] [hDwlnReferenceIdeal : Cert.DwlnReferenceIdeal.Facts] : Prop :=
  ∀ (m : (ℓ : Loc Cert.DwlnIdeal.nD Cert.DwlnIdeal.τ Cert.DwlnIdeal.sig) → Buf (Elt Ideal) ℓ) (g : Dev Cert.DwlnIdeal.nD → PrngReg)
    (m' : (ℓ : Loc Cert.DwlnReferenceIdeal.nD Cert.DwlnReferenceIdeal.τ Cert.DwlnReferenceIdeal.sig) → Buf (Elt Ideal) ℓ) (g' : Dev Cert.DwlnReferenceIdeal.nD → PrngReg), Pre_DwlnIdeal m →
    (∀ c : Dev Cert.DwlnIdeal.nD,
      m' ((c.tc : Thread Cert.DwlnReferenceIdeal.nD Cert.DwlnReferenceIdeal.τ).loc Cert.DwlnReferenceIdeal.main_arg0) = m ((c.tc : Thread Cert.DwlnIdeal.nD Cert.DwlnIdeal.τ).loc Cert.DwlnIdeal.main_arg0)
      ∧ m' ((c.tc : Thread Cert.DwlnReferenceIdeal.nD Cert.DwlnReferenceIdeal.τ).loc Cert.DwlnReferenceIdeal.main_arg1) = m ((c.tc : Thread Cert.DwlnIdeal.nD Cert.DwlnIdeal.τ).loc Cert.DwlnIdeal.main_arg1)
      ∧ m' ((c.tc : Thread Cert.DwlnReferenceIdeal.nD Cert.DwlnReferenceIdeal.τ).loc Cert.DwlnReferenceIdeal.main_arg2) = m ((c.tc : Thread Cert.DwlnIdeal.nD Cert.DwlnIdeal.τ).loc Cert.DwlnIdeal.main_arg2)
      ∧ m' ((c.tc : Thread Cert.DwlnReferenceIdeal.nD Cert.DwlnReferenceIdeal.τ).loc Cert.DwlnReferenceIdeal.main_arg3) = m ((c.tc : Thread Cert.DwlnIdeal.nD Cert.DwlnIdeal.τ).loc Cert.DwlnIdeal.main_arg3)
      ∧ m' ((c.tc : Thread Cert.DwlnReferenceIdeal.nD Cert.DwlnReferenceIdeal.τ).loc Cert.DwlnReferenceIdeal.main_arg4) = m ((c.tc : Thread Cert.DwlnIdeal.nD Cert.DwlnIdeal.τ).loc Cert.DwlnIdeal.main_arg4)) →
    ∃ (v0 : (c : Dev Cert.DwlnIdeal.nD) → Buf (Elt Ideal) ((c.tc : Thread Cert.DwlnIdeal.nD Cert.DwlnIdeal.τ).loc Cert.DwlnIdeal.main_v7_0)) (v1 : (c : Dev Cert.DwlnIdeal.nD) → Buf (Elt Ideal) ((c.tc : Thread Cert.DwlnIdeal.nD Cert.DwlnIdeal.τ).loc Cert.DwlnIdeal.main_v7_1)),
      θ_run (Cert.DwlnIdeal.defs (F := Ideal)) (onTc (τ := Cert.DwlnIdeal.τ) (Cert.DwlnIdeal.main (F := Ideal))) ⟨m, fun _ => 0, g⟩ (fun r => ∀ c : Dev Cert.DwlnIdeal.nD,
          r.2.mem ((c.tc : Thread Cert.DwlnIdeal.nD Cert.DwlnIdeal.τ).loc Cert.DwlnIdeal.main_v7_0) = v0 c
          ∧ r.2.mem ((c.tc : Thread Cert.DwlnIdeal.nD Cert.DwlnIdeal.τ).loc Cert.DwlnIdeal.main_v7_1) = v1 c
          ∧ r.2.mem ((c.tc : Thread Cert.DwlnIdeal.nD Cert.DwlnIdeal.τ).loc Cert.DwlnIdeal.main_arg0) = m ((c.tc : Thread Cert.DwlnIdeal.nD Cert.DwlnIdeal.τ).loc Cert.DwlnIdeal.main_arg0)
          ∧ r.2.mem ((c.tc : Thread Cert.DwlnIdeal.nD Cert.DwlnIdeal.τ).loc Cert.DwlnIdeal.main_arg1) = m ((c.tc : Thread Cert.DwlnIdeal.nD Cert.DwlnIdeal.τ).loc Cert.DwlnIdeal.main_arg1)
          ∧ r.2.mem ((c.tc : Thread Cert.DwlnIdeal.nD Cert.DwlnIdeal.τ).loc Cert.DwlnIdeal.main_arg2) = m ((c.tc : Thread Cert.DwlnIdeal.nD Cert.DwlnIdeal.τ).loc Cert.DwlnIdeal.main_arg2)
          ∧ r.2.mem ((c.tc : Thread Cert.DwlnIdeal.nD Cert.DwlnIdeal.τ).loc Cert.DwlnIdeal.main_arg3) = m ((c.tc : Thread Cert.DwlnIdeal.nD Cert.DwlnIdeal.τ).loc Cert.DwlnIdeal.main_arg3)
          ∧ r.2.mem ((c.tc : Thread Cert.DwlnIdeal.nD Cert.DwlnIdeal.τ).loc Cert.DwlnIdeal.main_arg4) = m ((c.tc : Thread Cert.DwlnIdeal.nD Cert.DwlnIdeal.τ).loc Cert.DwlnIdeal.main_arg4))
      ∧ θ_run (Cert.DwlnReferenceIdeal.defs (F := Ideal)) (onTc (τ := Cert.DwlnReferenceIdeal.τ) (Cert.DwlnReferenceIdeal.main (F := Ideal))) ⟨m', fun _ => 0, g'⟩ (fun r => ∀ c : Dev Cert.DwlnReferenceIdeal.nD,
          r.2.mem ((c.tc : Thread Cert.DwlnReferenceIdeal.nD Cert.DwlnReferenceIdeal.τ).loc Cert.DwlnReferenceIdeal.main_v7_0) = v0 c
          ∧ r.2.mem ((c.tc : Thread Cert.DwlnReferenceIdeal.nD Cert.DwlnReferenceIdeal.τ).loc Cert.DwlnReferenceIdeal.main_v7_1) = v1 c
          ∧ r.2.mem ((c.tc : Thread Cert.DwlnReferenceIdeal.nD Cert.DwlnReferenceIdeal.τ).loc Cert.DwlnReferenceIdeal.main_arg0) = m' ((c.tc : Thread Cert.DwlnReferenceIdeal.nD Cert.DwlnReferenceIdeal.τ).loc Cert.DwlnReferenceIdeal.main_arg0)
          ∧ r.2.mem ((c.tc : Thread Cert.DwlnReferenceIdeal.nD Cert.DwlnReferenceIdeal.τ).loc Cert.DwlnReferenceIdeal.main_arg1) = m' ((c.tc : Thread Cert.DwlnReferenceIdeal.nD Cert.DwlnReferenceIdeal.τ).loc Cert.DwlnReferenceIdeal.main_arg1)
          ∧ r.2.mem ((c.tc : Thread Cert.DwlnReferenceIdeal.nD Cert.DwlnReferenceIdeal.τ).loc Cert.DwlnReferenceIdeal.main_arg2) = m' ((c.tc : Thread Cert.DwlnReferenceIdeal.nD Cert.DwlnReferenceIdeal.τ).loc Cert.DwlnReferenceIdeal.main_arg2)
          ∧ r.2.mem ((c.tc : Thread Cert.DwlnReferenceIdeal.nD Cert.DwlnReferenceIdeal.τ).loc Cert.DwlnReferenceIdeal.main_arg3) = m' ((c.tc : Thread Cert.DwlnReferenceIdeal.nD Cert.DwlnReferenceIdeal.τ).loc Cert.DwlnReferenceIdeal.main_arg3)
          ∧ r.2.mem ((c.tc : Thread Cert.DwlnReferenceIdeal.nD Cert.DwlnReferenceIdeal.τ).loc Cert.DwlnReferenceIdeal.main_arg4) = m' ((c.tc : Thread Cert.DwlnReferenceIdeal.nD Cert.DwlnReferenceIdeal.τ).loc Cert.DwlnReferenceIdeal.main_arg4))

def Claim : Prop :=
  ∃ (hKernel : Cert.Kernel.Facts) (hKernelIdeal : Cert.KernelIdeal.Facts) (hReferenceIdeal : Cert.ReferenceIdeal.Facts) (hReference : Cert.Reference.Facts) (hDwln : Cert.Dwln.Facts) (hDwlnIdeal : Cert.DwlnIdeal.Facts) (hDwlnReferenceIdeal : Cert.DwlnReferenceIdeal.Facts) (hDwlnReference : Cert.DwlnReference.Facts) (hPre_finite_affine : Cert.Pre_finite_affine.Facts),
    quiescent_Kernel (hKernel := hKernel)
    ∧ quiescent_KernelIdeal (hKernelIdeal := hKernelIdeal)
    ∧ quiescent_KernelIdeal_pre_finite_affine (hKernelIdeal := hKernelIdeal) (hPre_finite_affine := hPre_finite_affine)
    ∧ quiescent_ReferenceIdeal (hReferenceIdeal := hReferenceIdeal)
    ∧ quiescent_ReferenceIdeal_pre_finite_affine (hReferenceIdeal := hReferenceIdeal) (hPre_finite_affine := hPre_finite_affine)
    ∧ quiescent_Reference (hReference := hReference)
    ∧ quiescent_Dwln (hDwln := hDwln)
    ∧ quiescent_DwlnIdeal (hDwlnIdeal := hDwlnIdeal)
    ∧ quiescent_DwlnReferenceIdeal (hDwlnReferenceIdeal := hDwlnReferenceIdeal)
    ∧ quiescent_DwlnReference (hDwlnReference := hDwlnReference)
    ∧ preserves_Kernel_KernelIdeal
    ∧ preserves_Reference_ReferenceIdeal
    ∧ algebraic_KernelIdeal_ReferenceIdeal_pre_finite_affine (hKernelIdeal := hKernelIdeal) (hReferenceIdeal := hReferenceIdeal) (hPre_finite_affine := hPre_finite_affine)
    ∧ preserves_Dwln_DwlnIdeal
    ∧ preserves_DwlnReference_DwlnReferenceIdeal
    ∧ algebraic_DwlnIdeal_DwlnReferenceIdeal (hDwlnIdeal := hDwlnIdeal) (hDwlnReferenceIdeal := hDwlnReferenceIdeal)
-- ==== Pre_finite_affine.lean ====
abbrev S12x1280x1536 : Shape := ⟨3, ![12, 1280, 1536]⟩
abbrev S12x1280 : Shape := ⟨2, ![12, 1280]⟩
abbrev S12x1536x1280 : Shape := ⟨3, ![12, 1536, 1280]⟩
abbrev S1536x6144 : Shape := ⟨2, ![1536, 6144]⟩
abbrev S6144 : Shape := ⟨1, ![6144]⟩
abbrev S6144x1536 : Shape := ⟨2, ![6144, 1536]⟩
abbrev S1536 : Shape := ⟨1, ![1536]⟩
abbrev S_ : Shape := ⟨0, ![]⟩

class Facts : Prop where
  bcast_S_S1536 : S_.BroadcastsInDim S1536 (![] : Fin 0 → Fin S1536.rank)

variable [Facts]

def fn {F : FTy → Type} [FloatOps F] (main_arg0 : FVec F S12x1280x1536 .fp8e4m3) (main_arg1 : FVec F S12x1280 .f32) (main_arg2 : FVec F S12x1536x1280 .bf16) (main_arg3 : FVec F S1536x6144 .fp8e4m3) (main_arg4 : FVec F S6144 .f32) (main_arg5 : FVec F S6144 .f32) (main_arg6 : FVec F S6144x1536 .fp8e4m3) (main_arg7 : FVec F S1536 .f32) (main_arg8 : FVec F S1536 .f32) (main_arg9 : FVec F S1536 .f32) : IVec S1536 1 × IVec S1536 1 :=
  let main_v0 : FVec F S1536 .f32 := Host.absf main_arg8
  let main_cst : FVec F S_ .f32 := constant S_ .f32 0x7F800000#32
  let main_v1 : FVec F S1536 .f32 := broadcastInDim S1536 ![] bcast_S_S1536 main_cst
  let main_v2 : IVec S1536 1 := cmpf .olt main_v0 main_v1
  let main_v3 : FVec F S1536 .f32 := Host.absf main_arg9
  let main_cst_0 : FVec F S_ .f32 := constant S_ .f32 0x7F800000#32
  let main_v4 : FVec F S1536 .f32 := broadcastInDim S1536 ![] bcast_S_S1536 main_cst_0
  let main_v5 : IVec S1536 1 := cmpf .olt main_v3 main_v4
  (main_v2, main_v5)
-- ==== Kernel.lean ====
abbrev S12x1280x1536 : Shape := ⟨3, ![12, 1280, 1536]⟩
abbrev S12x1280 : Shape := ⟨2, ![12, 1280]⟩
abbrev S12x1536x1280 : Shape := ⟨3, ![12, 1536, 1280]⟩
abbrev S1536x6144 : Shape := ⟨2, ![1536, 6144]⟩
abbrev S6144 : Shape := ⟨1, ![6144]⟩
abbrev S6144x1536 : Shape := ⟨2, ![6144, 1536]⟩
abbrev S1536 : Shape := ⟨1, ![1536]⟩
abbrev S15360x1536 : Shape := ⟨2, ![15360, 1536]⟩
abbrev S60x1x256 : Shape := ⟨3, ![60, 1, 256]⟩
abbrev S1x6144 : Shape := ⟨2, ![1, 6144]⟩
abbrev S1x1536 : Shape := ⟨2, ![1, 1536]⟩
abbrev S15360x6144 : Shape := ⟨2, ![15360, 6144]⟩
abbrev S256x1536 : Shape := ⟨2, ![256, 1536]⟩
abbrev S1x1x256 : Shape := ⟨3, ![1, 1, 256]⟩
abbrev S1x1536x256 : Shape := ⟨3, ![1, 1536, 256]⟩
abbrev S256x6144 : Shape := ⟨2, ![256, 6144]⟩
abbrev S1x256 : Shape := ⟨2, ![1, 256]⟩
abbrev S128x256 : Shape := ⟨2, ![128, 256]⟩
abbrev S256x128 : Shape := ⟨2, ![256, 128]⟩
abbrev S256x1 : Shape := ⟨2, ![256, 1]⟩
abbrev S1536x512 : Shape := ⟨2, ![1536, 512]⟩
abbrev S256x512 : Shape := ⟨2, ![256, 512]⟩
abbrev S1x512 : Shape := ⟨2, ![1, 512]⟩
abbrev S256 : Shape := ⟨1, ![256]⟩
abbrev S6144x256 : Shape := ⟨2, ![6144, 256]⟩
abbrev S256x256 : Shape := ⟨2, ![256, 256]⟩
abbrev S1x256x256 : Shape := ⟨3, ![1, 256, 256]⟩

abbrev nBuf : Space → Nat
  | .hbm => 21
  | .vmem => 19
  | .smem => 0
  | _ => 0

abbrev bufTy : (tb : Table) → Fin (tcTables nBuf tb) → BufTy
  | .hbm, ⟨0, _⟩ => ⟨S12x1280x1536, .fp8e4m3⟩
  | .hbm, ⟨1, _⟩ => ⟨S12x1280, .f32⟩
  | .hbm, ⟨2, _⟩ => ⟨S12x1536x1280, .bf16⟩
  | .hbm, ⟨3, _⟩ => ⟨S1536x6144, .fp8e4m3⟩
  | .hbm, ⟨4, _⟩ => ⟨S6144, .f32⟩
  | .hbm, ⟨5, _⟩ => ⟨S6144, .f32⟩
  | .hbm, ⟨6, _⟩ => ⟨S6144x1536, .fp8e4m3⟩
  | .hbm, ⟨7, _⟩ => ⟨S1536, .f32⟩
  | .hbm, ⟨8, _⟩ => ⟨S1536, .f32⟩
  | .hbm, ⟨9, _⟩ => ⟨S1536, .f32⟩
  | .hbm, ⟨10, _⟩ => ⟨S15360x1536, .fp8e4m3⟩
  | .hbm, ⟨11, _⟩ => ⟨S60x1x256, .f32⟩
  | .hbm, ⟨12, _⟩ => ⟨S1x6144, .f32⟩
  | .hbm, ⟨13, _⟩ => ⟨S1x6144, .f32⟩
  | .hbm, ⟨14, _⟩ => ⟨S1536, .f32⟩
  | .hbm, ⟨15, _⟩ => ⟨S1x1536, .f32⟩
  | .hbm, ⟨16, _⟩ => ⟨S1536, .f32⟩
  | .hbm, ⟨17, _⟩ => ⟨S1x1536, .f32⟩
  | .hbm, ⟨18, _⟩ => ⟨S12x1536x1280, .bf16⟩
  | .hbm, ⟨19, _⟩ => ⟨S15360x6144, .fp8e4m3⟩
  | .hbm, ⟨20, _⟩ => ⟨S60x1x256, .f32⟩
  | .local _ .vmem, ⟨0, _⟩ => ⟨S256x1536, .fp8e4m3⟩
  | .local _ .vmem, ⟨1, _⟩ => ⟨S256x1536, .fp8e4m3⟩
  | .local _ .vmem, ⟨2, _⟩ => ⟨S1x1x256, .f32⟩
  | .local _ .vmem, ⟨3, _⟩ => ⟨S1x1x256, .f32⟩
  | .local _ .vmem, ⟨4, _⟩ => ⟨S1x1536x256, .bf16⟩
  | .local _ .vmem, ⟨5, _⟩ => ⟨S1x1536x256, .bf16⟩
  | .local _ .vmem, ⟨6, _⟩ => ⟨S1536x6144, .fp8e4m3⟩
  | .local _ .vmem, ⟨7, _⟩ => ⟨S1x6144, .f32⟩
  | .local _ .vmem, ⟨8, _⟩ => ⟨S1x6144, .f32⟩
  | .local _ .vmem, ⟨9, _⟩ => ⟨S6144x1536, .fp8e4m3⟩
  | .local _ .vmem, ⟨10, _⟩ => ⟨S1x1536, .f32⟩
  | .local _ .vmem, ⟨11, _⟩ => ⟨S1x1536, .f32⟩
  | .local _ .vmem, ⟨12, _⟩ => ⟨S1x1536x256, .bf16⟩
  | .local _ .vmem, ⟨13, _⟩ => ⟨S1x1536x256, .bf16⟩
  | .local _ .vmem, ⟨14, _⟩ => ⟨S256x6144, .fp8e4m3⟩
  | .local _ .vmem, ⟨15, _⟩ => ⟨S256x6144, .fp8e4m3⟩
  | .local _ .vmem, ⟨16, _⟩ => ⟨S1x1x256, .f32⟩
  | .local _ .vmem, ⟨17, _⟩ => ⟨S1x1x256, .f32⟩
  | .local _ .vmem, ⟨18, _⟩ => ⟨S256x6144, .f32⟩
  | _, _ => ⟨S12x1280x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![60], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c5_i32 : BitVec 32 := 5#32
  let v0 : BitVec 32 := Scalar.divsi arg0 c5_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32_4 : BitVec 32 := 5#32
  let c0_i32_5 : BitVec 32 := 0#32
  let v17 : BitVec 1 := Scalar.cmpi .eq c5_i32_4 c0_i32_5
  let c1_i32_6 : BitVec 32 := 1#32
  let v18 : BitVec 32 := Scalar.select v17 c1_i32_6 c5_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c5_i32 : BitVec 32 := 5#32
  let v0 : BitVec 32 := Scalar.divsi arg0 c5_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32_4 : BitVec 32 := 5#32
  let c0_i32_5 : BitVec 32 := 0#32
  let v17 : BitVec 1 := Scalar.cmpi .eq c5_i32_4 c0_i32_5
  let c1_i32_6 : BitVec 32 := 1#32
  let v18 : BitVec 32 := Scalar.select v17 c1_i32_6 c5_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1536 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1536x6144 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6144x1536 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1536x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x6144 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "sqrt_half" => some (((Real.sqrt 2)⁻¹ : ℝ) : EReal)
  | _ => none
-- ==== ReferenceIdeal.lean ====
variable {F : FTy → Type} [FloatOps F] [Named F]
def κ : String → Option EReal := fun
  | "ln_two" => some ((Real.log 2 : ℝ) : EReal)
  | "sqrt_half" => some (((Real.sqrt 2)⁻¹ : ℝ) : EReal)
  | _ => none
-- ==== Reference.lean ====
abbrev S12x1280x1536 : Shape := ⟨3, ![12, 1280, 1536]⟩
abbrev S12x1280 : Shape := ⟨2, ![12, 1280]⟩
abbrev S12x1536x1280 : Shape := ⟨3, ![12, 1536, 1280]⟩
abbrev S1536x6144 : Shape := ⟨2, ![1536, 6144]⟩
abbrev S6144 : Shape := ⟨1, ![6144]⟩
abbrev S6144x1536 : Shape := ⟨2, ![6144, 1536]⟩
abbrev S1536 : Shape := ⟨1, ![1536]⟩
abbrev S15360x1536 : Shape := ⟨2, ![15360, 1536]⟩
abbrev S15360x1 : Shape := ⟨2, ![15360, 1]⟩
abbrev S1x6144 : Shape := ⟨2, ![1, 6144]⟩
abbrev S1x1536 : Shape := ⟨2, ![1, 1536]⟩
abbrev S15360x6144 : Shape := ⟨2, ![15360, 6144]⟩
abbrev S60x1x256 : Shape := ⟨3, ![60, 1, 256]⟩
abbrev S15360 : Shape := ⟨1, ![15360]⟩

abbrev nBuf : Space → Nat
  | .hbm => 20
  | .vmem => 13
  | .smem => 0
  | _ => 0

abbrev bufTy : (tb : Table) → Fin (tcTables nBuf tb) → BufTy
  | .hbm, ⟨0, _⟩ => ⟨S12x1280x1536, .fp8e4m3⟩
  | .hbm, ⟨1, _⟩ => ⟨S12x1280, .f32⟩
  | .hbm, ⟨2, _⟩ => ⟨S12x1536x1280, .bf16⟩
  | .hbm, ⟨3, _⟩ => ⟨S1536x6144, .fp8e4m3⟩
  | .hbm, ⟨4, _⟩ => ⟨S6144, .f32⟩
  | .hbm, ⟨5, _⟩ => ⟨S6144, .f32⟩
  | .hbm, ⟨6, _⟩ => ⟨S6144x1536, .fp8e4m3⟩
  | .hbm, ⟨7, _⟩ => ⟨S1536, .f32⟩
  | .hbm, ⟨8, _⟩ => ⟨S1536, .f32⟩
  | .hbm, ⟨9, _⟩ => ⟨S1536, .f32⟩
  | .hbm, ⟨10, _⟩ => ⟨S15360x1536, .fp8e4m3⟩
  | .hbm, ⟨11, _⟩ => ⟨S15360x1, .f32⟩
  | .hbm, ⟨12, _⟩ => ⟨S1x6144, .f32⟩
  | .hbm, ⟨13, _⟩ => ⟨S1x6144, .f32⟩
  | .hbm, ⟨14, _⟩ => ⟨S1x1536, .f32⟩
  | .hbm, ⟨15, _⟩ => ⟨S1x1536, .f32⟩
  | .hbm, ⟨16, _⟩ => ⟨S1x1536, .f32⟩
  | .hbm, ⟨17, _⟩ => ⟨S12x1536x1280, .bf16⟩
  | .hbm, ⟨18, _⟩ => ⟨S15360x6144, .fp8e4m3⟩
  | .hbm, ⟨19, _⟩ => ⟨S60x1x256, .f32⟩
  | .local _ .vmem, ⟨0, _⟩ => ⟨S15360x1536, .fp8e4m3⟩
  | .local _ .vmem, ⟨1, _⟩ => ⟨S15360x1, .f32⟩
  | .local _ .vmem, ⟨2, _⟩ => ⟨S12x1536x1280, .bf16⟩
  | .local _ .vmem, ⟨3, _⟩ => ⟨S1536x6144, .fp8e4m3⟩
  | .local _ .vmem, ⟨4, _⟩ => ⟨S1x6144, .f32⟩
  | .local _ .vmem, ⟨5, _⟩ => ⟨S1x6144, .f32⟩
  | .local _ .vmem, ⟨6, _⟩ => ⟨S6144x1536, .fp8e4m3⟩
  | .local _ .vmem, ⟨7, _⟩ => ⟨S1x1536, .f32⟩
  | .local _ .vmem, ⟨8, _⟩ => ⟨S1x1536, .f32⟩
  | .local _ .vmem, ⟨9, _⟩ => ⟨S1x1536, .f32⟩
  | .local _ .vmem, ⟨10, _⟩ => ⟨S12x1536x1280, .bf16⟩
  | .local _ .vmem, ⟨11, _⟩ => ⟨S15360x6144, .fp8e4m3⟩
  | .local _ .vmem, ⟨12, _⟩ => ⟨S60x1x256, .f32⟩
  | _, _ => ⟨S12x1280x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S15360x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S15360x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x1536x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x6144 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x1536 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12x1536x1280 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S15360x6144 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S60x1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Dwln.lean ====
abbrev S12x1536x1280 : Shape := ⟨3, ![12, 1536, 1280]⟩
abbrev S1536x7x7 : Shape := ⟨3, ![1536, 7, 7]⟩
abbrev S1536 : Shape := ⟨1, ![1536]⟩
abbrev S12x128x49 : Shape := ⟨3, ![12, 128, 49]⟩
abbrev S12x49x128 : Shape := ⟨3, ![12, 49, 128]⟩
abbrev S12x49x1x128 : Shape := ⟨4, ![12, 49, 1, 128]⟩
abbrev S12x49x16x128 : Shape := ⟨4, ![12, 49, 16, 128]⟩
abbrev S1x1536 : Shape := ⟨2, ![1, 1536]⟩
abbrev S12x1280x1536 : Shape := ⟨3, ![12, 1280, 1536]⟩
abbrev S12x1x1280 : Shape := ⟨3, ![12, 1, 1280]⟩
abbrev S1x1536x1280 : Shape := ⟨3, ![1, 1536, 1280]⟩
abbrev S1x1280x1536 : Shape := ⟨3, ![1, 1280, 1536]⟩
abbrev S1x1x1280 : Shape := ⟨3, ![1, 1, 1280]⟩
abbrev S12x864x128 : Shape := ⟨3, ![12, 864, 128]⟩
abbrev S1280x1536 : Shape := ⟨2, ![1280, 1536]⟩
abbrev S1280x128 : Shape := ⟨2, ![1280, 128]⟩
abbrev S1x128x128 : Shape := ⟨3, ![1, 128, 128]⟩
abbrev S128x128 : Shape := ⟨2, ![128, 128]⟩
abbrev S64x128 : Shape := ⟨2, ![64, 128]⟩
abbrev S8x128 : Shape := ⟨2, ![8, 128]⟩
abbrev S1x8x128 : Shape := ⟨3, ![1, 8, 128]⟩
abbrev S16x128 : Shape := ⟨2, ![16, 128]⟩
abbrev S1x128 : Shape := ⟨2, ![1, 128]⟩
abbrev S1x1x16x128 : Shape := ⟨4, ![1, 1, 16, 128]⟩
abbrev S32x1536 : Shape := ⟨2, ![32, 1536]⟩
abbrev S32 : Shape := ⟨1, ![32]⟩
abbrev S32x1 : Shape := ⟨2, ![32, 1]⟩
abbrev S32x128 : Shape := ⟨2, ![32, 128]⟩
abbrev S1x32x1536 : Shape := ⟨3, ![1, 32, 1536]⟩
abbrev S1x1x128 : Shape := ⟨3, ![1, 1, 128]⟩

abbrev nBuf : Space → Nat
  | .hbm => 14
  | .vmem => 14
  | .smem => 0
  | _ => 0

abbrev bufTy : (tb : Table) → Fin (tcTables nBuf tb) → BufTy
  | .hbm, ⟨0, _⟩ => ⟨S12x1536x1280, .bf16⟩
  | .hbm, ⟨1, _⟩ => ⟨S1536x7x7, .bf16⟩
  | .hbm, ⟨2, _⟩ => ⟨S1536, .f32⟩
  | .hbm, ⟨3, _⟩ => ⟨S1536, .f32⟩
  | .hbm, ⟨4, _⟩ => ⟨S1536, .f32⟩
  | .hbm, ⟨5, _⟩ => ⟨S12x128x49, .bf16⟩
  | .hbm, ⟨6, _⟩ => ⟨S12x49x128, .bf16⟩
  | .hbm, ⟨7, _⟩ => ⟨S12x49x1x128, .bf16⟩
  | .hbm, ⟨8, _⟩ => ⟨S12x49x16x128, .bf16⟩
  | .hbm, ⟨9, _⟩ => ⟨S1x1536, .f32⟩
  | .hbm, ⟨10, _⟩ => ⟨S1x1536, .f32⟩
  | .hbm, ⟨11, _⟩ => ⟨S1x1536, .f32⟩
  | .hbm, ⟨12, _⟩ => ⟨S12x1280x1536, .fp8e4m3⟩
  | .hbm, ⟨13, _⟩ => ⟨S12x1x1280, .f32⟩
  | .local _ .vmem, ⟨0, _⟩ => ⟨S1x1536x1280, .bf16⟩
  | .local _ .vmem, ⟨1, _⟩ => ⟨S1x1536x1280, .bf16⟩
  | .local _ .vmem, ⟨2, _⟩ => ⟨S12x49x16x128, .bf16⟩
  | .local _ .vmem, ⟨3, _⟩ => ⟨S1x1536, .f32⟩
  | .local _ .vmem, ⟨4, _⟩ => ⟨S1x1536, .f32⟩
  | .local _ .vmem, ⟨5, _⟩ => ⟨S1x1536, .f32⟩
  | .local _ .vmem, ⟨6, _⟩ => ⟨S1x1280x1536, .fp8e4m3⟩
  | .local _ .vmem, ⟨7, _⟩ => ⟨S1x1280x1536, .fp8e4m3⟩
  | .local _ .vmem, ⟨8, _⟩ => ⟨S1x1x1280, .f32⟩
  | .local _ .vmem, ⟨9, _⟩ => ⟨S1x1x1280, .f32⟩
  | .local _ .vmem, ⟨10, _⟩ => ⟨S12x864x128, .i32⟩
  | .local _ .vmem, ⟨11, _⟩ => ⟨S12x864x128, .i32⟩
  | .local _ .vmem, ⟨12, _⟩ => ⟨S1280x1536, .f32⟩
  | .local _ .vmem, ⟨13, _⟩ => ⟨S1280x128, .f32⟩
  | _, _ => ⟨S12x1536x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [BitOps F]

abbrev grid0 : Pipeline.Grid := ⟨1, ![12], ![false]⟩

@[reducible] def k0_t1_loop : Scf.Loop 32 :=
  let c0_i32_1 : BitVec 32 := 0#32
  let c12_i32 : BitVec 32 := 12#32
  let v3 : BitVec 32 := Scalar.addi c0_i32_1 c12_i32
  let c1_i32 : BitVec 32 := 1#32
  ⟨c0_i32_1, v3, c1_i32⟩
@[reducible] def k0_t2_loop : Scf.Loop 32 :=
  let c0_i32_46 : BitVec 32 := 0#32
  let c10_i32 : BitVec 32 := 10#32
  let v65 : BitVec 32 := Scalar.addi c0_i32_46 c10_i32
  let c1_i32_47 : BitVec 32 := 1#32
  ⟨c0_i32_46, v65, c1_i32_47⟩
def k0_mult1 (k0_t1 : Fin k0_t1_loop.trips) : BitVec 32 :=
  let c0_i32_1 : BitVec 32 := 0#32
  let c1_i32 : BitVec 32 := 1#32
  let arg12 : BitVec 32 := Scf.iv c0_i32_1 c1_i32 k0_t1
  let c128_i32_57 : BitVec 32 := 128#32
  let v73 : BitVec 32 := Scalar.muli arg12 c128_i32_57
  v73
def k0_mult2 (k0_t2 : Fin k0_t2_loop.trips) : BitVec 32 :=
  let c0_i32_46 : BitVec 32 := 0#32
  let c1_i32_47 : BitVec 32 := 1#32
  let arg13 : BitVec 32 := Scf.iv c0_i32_46 c1_i32_47 k0_t2
  let c128_i32_58 : BitVec 32 := 128#32
  let v75 : BitVec 32 := Scalar.muli arg13 c128_i32_58
  v75
def k0_off1 (k0_t1 : Fin k0_t1_loop.trips) (k0_t2 : Fin k0_t2_loop.trips) : Fin 3 → Nat :=
  let c0_59 : Index := 0#32
  let c0_i32_1 : BitVec 32 := 0#32
  let c1_i32 : BitVec 32 := 1#32
  let arg12 : BitVec 32 := Scf.iv c0_i32_1 c1_i32 k0_t1
  let c128_i32_57 : BitVec 32 := 128#32
  let v73 : BitVec 32 := Scalar.muli arg12 c128_i32_57
  let v74 : BitVec 32 := v73
  let v77 : Index := Scalar.indexCast v74
  let c0_i32_46 : BitVec 32 := 0#32
  let c1_i32_47 : BitVec 32 := 1#32
  let arg13 : BitVec 32 := Scf.iv c0_i32_46 c1_i32_47 k0_t2
  let c128_i32_58 : BitVec 32 := 128#32
  let v75 : BitVec 32 := Scalar.muli arg13 c128_i32_58
  let v76 : BitVec 32 := v75
  let v78 : Index := Scalar.indexCast v76
  ![0, v77.toNat, v78.toNat]
def k0_off2 (k0_t1 : Fin k0_t1_loop.trips) (k0_t2 : Fin k0_t2_loop.trips) (c0_i32_60 : BitVec 32) (c0_i32_61 : BitVec 32) : Fin 3 → Nat :=
  let c0_i32_1 : BitVec 32 := 0#32
  let c1_i32 : BitVec 32 := 1#32
  let arg12 : BitVec 32 := Scf.iv c0_i32_1 c1_i32 k0_t1
  let v90 : Index := Scalar.indexCast arg12
  let c2_i32 : BitVec 32 := 2#32
  let c3_i32 : BitVec 32 := 3#32
  let c4_i32 : BitVec 32 := 4#32
  let c0_i32_46 : BitVec 32 := 0#32
  let c1_i32_47 : BitVec 32 := 1#32
  let arg13 : BitVec 32 := Scf.iv c0_i32_46 c1_i32_47 k0_t2
  let v84 : BitVec 32 := Scalar.muli c4_i32 arg13
  let v85 : BitVec 32 := Scalar.addi c3_i32 v84
  let v86 : BitVec 32 := Scalar.addi v85 c0_i32_60
  let c18_i32 : BitVec 32 := 18#32
  let v87 : BitVec 32 := Scalar.muli v86 c18_i32
  let v88 : BitVec 32 := Scalar.addi c2_i32 v87
  let v89 : BitVec 32 := Scalar.addi v88 c0_i32_61
  let v91 : Index := Scalar.indexCast v89
  let c0_62 : Index := 0#32
  ![v90.toNat, v91.toNat, 0]
@[reducible] def k0_t3_loop : Scf.Loop 32 :=
  let c0_i32_49 : BitVec 32 := 0#32
  let c23_i32 : BitVec 32 := 23#32
  let v66 : BitVec 32 := Scalar.addi c0_i32_49 c23_i32
  let c1_i32_50 : BitVec 32 := 1#32
  ⟨c0_i32_49, v66, c1_i32_50⟩
def k0_off3 (k0_t1 : Fin k0_t1_loop.trips) (k0_t3 : Fin k0_t3_loop.trips) (c0_i32_57 : BitVec 32) : Fin 3 → Nat :=
  let c0_i32_1 : BitVec 32 := 0#32
  let c1_i32 : BitVec 32 := 1#32
  let arg12 : BitVec 32 := Scf.iv c0_i32_1 c1_i32 k0_t1
  let v76 : Index := Scalar.indexCast arg12
  let c54_i32 : BitVec 32 := 54#32
  let c32_i32 : BitVec 32 := 32#32
  let c0_i32_49 : BitVec 32 := 0#32
  let c1_i32_50 : BitVec 32 := 1#32
  let arg13 : BitVec 32 := Scf.iv c0_i32_49 c1_i32_50 k0_t3
  let v73 : BitVec 32 := Scalar.muli c32_i32 arg13
  let v74 : BitVec 32 := Scalar.addi c54_i32 v73
  let v75 : BitVec 32 := Scalar.addi v74 c0_i32_57
  let v77 : Index := Scalar.indexCast v75
  let c0_58 : Index := 0#32
  ![v76.toNat, v77.toNat, 0]
def k0_off4 (k0_t1 : Fin k0_t1_loop.trips) (k0_t3 : Fin k0_t3_loop.trips) (c0_i32_61 : BitVec 32) : Fin 3 → Nat :=
  let c0_i32_1 : BitVec 32 := 0#32
  let c1_i32 : BitVec 32 := 1#32
  let arg12 : BitVec 32 := Scf.iv c0_i32_1 c1_i32 k0_t1
  let v84 : Index := Scalar.indexCast arg12
  let c54_i32_60 : BitVec 32 := 54#32
  let c32_i32_59 : BitVec 32 := 32#32
  let c0_i32_49 : BitVec 32 := 0#32
  let c1_i32_50 : BitVec 32 := 1#32
  let arg13 : BitVec 32 := Scf.iv c0_i32_49 c1_i32_50 k0_t3
  let v80 : BitVec 32 := Scalar.muli c32_i32_59 arg13
  let v81 : BitVec 32 := Scalar.addi c54_i32_60 v80
  let v82 : BitVec 32 := Scalar.addi v81 c0_i32_61
  let c1_i32_62 : BitVec 32 := 1#32
  let v83 : BitVec 32 := Scalar.addi v82 c1_i32_62
  let v85 : Index := Scalar.indexCast v83
  let c0_63 : Index := 0#32
  ![v84.toNat, v85.toNat, 0]
def k0_mult3 (k0_t1 : Fin k0_t1_loop.trips) : BitVec 32 :=
  let c0_i32_1 : BitVec 32 := 0#32
  let c1_i32 : BitVec 32 := 1#32
  let arg12 : BitVec 32 := Scf.iv c0_i32_1 c1_i32 k0_t1
  let c128_i32 : BitVec 32 := 128#32
  let v67 : BitVec 32 := Scalar.muli arg12 c128_i32
  v67
def k0_off5 (k0_t1 : Fin k0_t1_loop.trips) : Fin 2 → Nat :=
  let c0_52 : Index := 0#32
  let c0_i32_1 : BitVec 32 := 0#32
  let c1_i32 : BitVec 32 := 1#32
  let arg12 : BitVec 32 := Scf.iv c0_i32_1 c1_i32 k0_t1
  let c128_i32 : BitVec 32 := 128#32
  let v67 : BitVec 32 := Scalar.muli arg12 c128_i32
  let v68 : BitVec 32 := v67
  let v69 : Index := Scalar.indexCast v68
  ![0, v69.toNat]
@[reducible] def k0_t4_loop : Scf.Loop 32 :=
  let c0_i32_53 : BitVec 32 := 0#32
  let c10_i32_54 : BitVec 32 := 10#32
  let v72 : BitVec 32 := Scalar.addi c0_i32_53 c10_i32_54
  let c1_i32_55 : BitVec 32 := 1#32
  ⟨c0_i32_53, v72, c1_i32_55⟩
def k0_off6 (k0_t1 : Fin k0_t1_loop.trips) (k0_t4 : Fin k0_t4_loop.trips) (c0_i32_57 : BitVec 32) (c0_i32_58 : BitVec 32) : Fin 3 → Nat :=
  let c0_i32_1 : BitVec 32 := 0#32
  let c1_i32 : BitVec 32 := 1#32
  let arg12 : BitVec 32 := Scf.iv c0_i32_1 c1_i32 k0_t1
  let v76 : Index := Scalar.indexCast arg12
  let c0_i32_53 : BitVec 32 := 0#32
  let c1_i32_55 : BitVec 32 := 1#32
  let arg13 : BitVec 32 := Scf.iv c0_i32_53 c1_i32_55 k0_t4
  let c72_i32 : BitVec 32 := 72#32
  let v73 : BitVec 32 := Scalar.muli arg13 c72_i32
  let v74 : BitVec 32 := Scalar.addi v73 c0_i32_57
  let v75 : BitVec 32 := Scalar.addi v74 c0_i32_58
  let v77 : Index := Scalar.indexCast v75
  let c0_59 : Index := 0#32
  ![v76.toNat, v77.toNat, 0]
def k0_off6_at (r : Fin 80) : BitVec 32 × BitVec 32 :=
  if r.val < 40 then
    if r.val < 20 then
      if r.val < 10 then
        if r.val < 5 then
          if r.val < 2 then
            if r.val < 1 then
              (0#32, 0#32)
            else
              (18#32, 0#32)
          else
            if r.val < 3 then
              (36#32, 0#32)
            else
              if r.val < 4 then
                (54#32, 0#32)
              else
                (72#32, 0#32)
        else
          if r.val < 7 then
            if r.val < 6 then
              (90#32, 0#32)
            else
              (108#32, 0#32)
          else
            if r.val < 8 then
              (126#32, 0#32)
            else
              if r.val < 9 then
                (144#32, 0#32)
              else
                (162#32, 0#32)
      else
        if r.val < 15 then
          if r.val < 12 then
            if r.val < 11 then
              (0#32, 1#32)
            else
              (18#32, 1#32)
          else
            if r.val < 13 then
              (36#32, 1#32)
            else
              if r.val < 14 then
                (54#32, 1#32)
              else
                (72#32, 1#32)
        else
          if r.val < 17 then
            if r.val < 16 then
              (90#32, 1#32)
            else
              (108#32, 1#32)
          else
            if r.val < 18 then
              (126#32, 1#32)
            else
              if r.val < 19 then
                (144#32, 1#32)
              else
                (162#32, 1#32)
    else
      if r.val < 30 then
        if r.val < 25 then
          if r.val < 22 then
            if r.val < 21 then
              (0#32, 2#32)
            else
              (18#32, 2#32)
          else
            if r.val < 23 then
              (36#32, 2#32)
            else
              if r.val < 24 then
                (54#32, 2#32)
              else
                (72#32, 2#32)
        else
          if r.val < 27 then
            if r.val < 26 then
              (90#32, 2#32)
            else
              (108#32, 2#32)
          else
            if r.val < 28 then
              (126#32, 2#32)
            else
              if r.val < 29 then
                (144#32, 2#32)
              else
                (162#32, 2#32)
      else
        if r.val < 35 then
          if r.val < 32 then
            if r.val < 31 then
              (0#32, 3#32)
            else
              (18#32, 3#32)
          else
            if r.val < 33 then
              (36#32, 3#32)
            else
              if r.val < 34 then
                (54#32, 3#32)
              else
                (72#32, 3#32)
        else
          if r.val < 37 then
            if r.val < 36 then
              (90#32, 3#32)
            else
              (108#32, 3#32)
          else
            if r.val < 38 then
              (126#32, 3#32)
            else
              if r.val < 39 then
                (144#32, 3#32)
              else
                (162#32, 3#32)
  else
    if r.val < 60 then
      if r.val < 50 then
        if r.val < 45 then
          if r.val < 42 then
            if r.val < 41 then
              (0#32, 8#32)
            else
              (18#32, 8#32)
          else
            if r.val < 43 then
              (36#32, 8#32)
            else
              if r.val < 44 then
                (54#32, 8#32)
              else
                (72#32, 8#32)
        else
          if r.val < 47 then
            if r.val < 46 then
              (90#32, 8#32)
            else
              (108#32, 8#32)
          else
            if r.val < 48 then
              (126#32, 8#32)
            else
              if r.val < 49 then
                (144#32, 8#32)
              else
                (162#32, 8#32)
      else
        if r.val < 55 then
          if r.val < 52 then
            if r.val < 51 then
              (0#32, 9#32)
            else
              (18#32, 9#32)
          else
            if r.val < 53 then
              (36#32, 9#32)
            else
              if r.val < 54 then
                (54#32, 9#32)
              else
                (72#32, 9#32)
        else
          if r.val < 57 then
            if r.val < 56 then
              (90#32, 9#32)
            else
              (108#32, 9#32)
          else
            if r.val < 58 then
              (126#32, 9#32)
            else
              if r.val < 59 then
                (144#32, 9#32)
              else
                (162#32, 9#32)
    else
      if r.val < 70 then
        if r.val < 65 then
          if r.val < 62 then
            if r.val < 61 then
              (0#32, 10#32)
            else
              (18#32, 10#32)
          else
            if r.val < 63 then
              (36#32, 10#32)
            else
              if r.val < 64 then
                (54#32, 10#32)
              else
                (72#32, 10#32)
        else
          if r.val < 67 then
            if r.val < 66 then
              (90#32, 10#32)
            else
              (108#32, 10#32)
          else
            if r.val < 68 then
              (126#32, 10#32)
            else
              if r.val < 69 then
                (144#32, 10#32)
              else
                (162#32, 10#32)
      else
        if r.val < 75 then
          if r.val < 72 then
            if r.val < 71 then
              (0#32, 11#32)
            else
              (18#32, 11#32)
          else
            if r.val < 73 then
              (36#32, 11#32)
            else
              if r.val < 74 then
                (54#32, 11#32)
              else
                (72#32, 11#32)
        else
          if r.val < 77 then
            if r.val < 76 then
              (90#32, 11#32)
            else
              (108#32, 11#32)
          else
            if r.val < 78 then
              (126#32, 11#32)
            else
              if r.val < 79 then
                (144#32, 11#32)
              else
                (162#32, 11#32)
def k0_off7 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v81 : Index := Scalar.indexCast arg12
  let c0_60 : Index := 0#32
  let c0_61 : Index := 0#32
  let c0_62 : Index := 0#32
  ![v81.toNat, 0, 0, 0]
def k0_off8 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v94 : Index := Scalar.indexCast arg12
  let c7 : Index := 7#32
  let c0_65 : Index := 0#32
  let c0_66 : Index := 0#32
  ![v94.toNat, 7, 0, 0]
def k0_off9 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v114 : Index := Scalar.indexCast arg12
  let c14 : Index := 14#32
  let c0_72 : Index := 0#32
  let c0_73 : Index := 0#32
  ![v114.toNat, 14, 0, 0]
def k0_off10 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v141 : Index := Scalar.indexCast arg12
  let c21 : Index := 21#32
  let c0_82 : Index := 0#32
  let c0_83 : Index := 0#32
  ![v141.toNat, 21, 0, 0]
def k0_off11 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v175 : Index := Scalar.indexCast arg12
  let c28 : Index := 28#32
  let c0_96 : Index := 0#32
  let c0_97 : Index := 0#32
  ![v175.toNat, 28, 0, 0]
def k0_off12 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v210 : Index := Scalar.indexCast arg12
  let c35 : Index := 35#32
  let c0_109 : Index := 0#32
  let c0_110 : Index := 0#32
  ![v210.toNat, 35, 0, 0]
def k0_off13 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v245 : Index := Scalar.indexCast arg12
  let c42 : Index := 42#32
  let c0_122 : Index := 0#32
  let c0_123 : Index := 0#32
  ![v245.toNat, 42, 0, 0]
def k0_off14 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v343 : Index := Scalar.indexCast arg12
  let c1 : Index := 1#32
  let c0_160 : Index := 0#32
  let c0_161 : Index := 0#32
  ![v343.toNat, 1, 0, 0]
def k0_off15 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v357 : Index := Scalar.indexCast arg12
  let c8 : Index := 8#32
  let c0_165 : Index := 0#32
  let c0_166 : Index := 0#32
  ![v357.toNat, 8, 0, 0]
def k0_off16 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v378 : Index := Scalar.indexCast arg12
  let c15 : Index := 15#32
  let c0_173 : Index := 0#32
  let c0_174 : Index := 0#32
  ![v378.toNat, 15, 0, 0]
def k0_off17 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v406 : Index := Scalar.indexCast arg12
  let c22 : Index := 22#32
  let c0_184 : Index := 0#32
  let c0_185 : Index := 0#32
  ![v406.toNat, 22, 0, 0]
def k0_off18 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v441 : Index := Scalar.indexCast arg12
  let c29 : Index := 29#32
  let c0_198 : Index := 0#32
  let c0_199 : Index := 0#32
  ![v441.toNat, 29, 0, 0]
def k0_off19 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v476 : Index := Scalar.indexCast arg12
  let c36 : Index := 36#32
  let c0_212 : Index := 0#32
  let c0_213 : Index := 0#32
  ![v476.toNat, 36, 0, 0]
def k0_off20 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v511 : Index := Scalar.indexCast arg12
  let c43 : Index := 43#32
  let c0_226 : Index := 0#32
  let c0_227 : Index := 0#32
  ![v511.toNat, 43, 0, 0]
def k0_off21 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v609 : Index := Scalar.indexCast arg12
  let c2 : Index := 2#32
  let c0_267 : Index := 0#32
  let c0_268 : Index := 0#32
  ![v609.toNat, 2, 0, 0]
def k0_off22 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v623 : Index := Scalar.indexCast arg12
  let c9 : Index := 9#32
  let c0_272 : Index := 0#32
  let c0_273 : Index := 0#32
  ![v623.toNat, 9, 0, 0]
def k0_off23 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v644 : Index := Scalar.indexCast arg12
  let c16 : Index := 16#32
  let c0_280 : Index := 0#32
  let c0_281 : Index := 0#32
  ![v644.toNat, 16, 0, 0]
def k0_off24 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v672 : Index := Scalar.indexCast arg12
  let c23 : Index := 23#32
  let c0_291 : Index := 0#32
  let c0_292 : Index := 0#32
  ![v672.toNat, 23, 0, 0]
def k0_off25 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v707 : Index := Scalar.indexCast arg12
  let c30 : Index := 30#32
  let c0_305 : Index := 0#32
  let c0_306 : Index := 0#32
  ![v707.toNat, 30, 0, 0]
def k0_off26 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v742 : Index := Scalar.indexCast arg12
  let c37 : Index := 37#32
  let c0_319 : Index := 0#32
  let c0_320 : Index := 0#32
  ![v742.toNat, 37, 0, 0]
def k0_off27 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v777 : Index := Scalar.indexCast arg12
  let c44 : Index := 44#32
  let c0_333 : Index := 0#32
  let c0_334 : Index := 0#32
  ![v777.toNat, 44, 0, 0]
def k0_off28 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v875 : Index := Scalar.indexCast arg12
  let c3 : Index := 3#32
  let c0_373 : Index := 0#32
  let c0_374 : Index := 0#32
  ![v875.toNat, 3, 0, 0]
def k0_off29 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v889 : Index := Scalar.indexCast arg12
  let c10 : Index := 10#32
  let c0_378 : Index := 0#32
  let c0_379 : Index := 0#32
  ![v889.toNat, 10, 0, 0]
def k0_off30 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v910 : Index := Scalar.indexCast arg12
  let c17 : Index := 17#32
  let c0_386 : Index := 0#32
  let c0_387 : Index := 0#32
  ![v910.toNat, 17, 0, 0]
def k0_off31 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v938 : Index := Scalar.indexCast arg12
  let c24 : Index := 24#32
  let c0_397 : Index := 0#32
  let c0_398 : Index := 0#32
  ![v938.toNat, 24, 0, 0]
def k0_off32 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v973 : Index := Scalar.indexCast arg12
  let c31 : Index := 31#32
  let c0_411 : Index := 0#32
  let c0_412 : Index := 0#32
  ![v973.toNat, 31, 0, 0]
def k0_off33 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1008 : Index := Scalar.indexCast arg12
  let c38 : Index := 38#32
  let c0_425 : Index := 0#32
  let c0_426 : Index := 0#32
  ![v1008.toNat, 38, 0, 0]
def k0_off34 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1043 : Index := Scalar.indexCast arg12
  let c45 : Index := 45#32
  let c0_439 : Index := 0#32
  let c0_440 : Index := 0#32
  ![v1043.toNat, 45, 0, 0]
def k0_off35 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1141 : Index := Scalar.indexCast arg12
  let c4 : Index := 4#32
  let c0_480 : Index := 0#32
  let c0_481 : Index := 0#32
  ![v1141.toNat, 4, 0, 0]
def k0_off36 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1155 : Index := Scalar.indexCast arg12
  let c11 : Index := 11#32
  let c0_485 : Index := 0#32
  let c0_486 : Index := 0#32
  ![v1155.toNat, 11, 0, 0]
def k0_off37 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1176 : Index := Scalar.indexCast arg12
  let c18 : Index := 18#32
  let c0_493 : Index := 0#32
  let c0_494 : Index := 0#32
  ![v1176.toNat, 18, 0, 0]
def k0_off38 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1204 : Index := Scalar.indexCast arg12
  let c25 : Index := 25#32
  let c0_504 : Index := 0#32
  let c0_505 : Index := 0#32
  ![v1204.toNat, 25, 0, 0]
def k0_off39 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1239 : Index := Scalar.indexCast arg12
  let c32 : Index := 32#32
  let c0_518 : Index := 0#32
  let c0_519 : Index := 0#32
  ![v1239.toNat, 32, 0, 0]
def k0_off40 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1274 : Index := Scalar.indexCast arg12
  let c39 : Index := 39#32
  let c0_532 : Index := 0#32
  let c0_533 : Index := 0#32
  ![v1274.toNat, 39, 0, 0]
def k0_off41 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1309 : Index := Scalar.indexCast arg12
  let c46 : Index := 46#32
  let c0_546 : Index := 0#32
  let c0_547 : Index := 0#32
  ![v1309.toNat, 46, 0, 0]
def k0_off42 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1407 : Index := Scalar.indexCast arg12
  let c5 : Index := 5#32
  let c0_586 : Index := 0#32
  let c0_587 : Index := 0#32
  ![v1407.toNat, 5, 0, 0]
def k0_off43 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1421 : Index := Scalar.indexCast arg12
  let c12 : Index := 12#32
  let c0_591 : Index := 0#32
  let c0_592 : Index := 0#32
  ![v1421.toNat, 12, 0, 0]
def k0_off44 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1442 : Index := Scalar.indexCast arg12
  let c19 : Index := 19#32
  let c0_599 : Index := 0#32
  let c0_600 : Index := 0#32
  ![v1442.toNat, 19, 0, 0]
def k0_off45 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1470 : Index := Scalar.indexCast arg12
  let c26 : Index := 26#32
  let c0_610 : Index := 0#32
  let c0_611 : Index := 0#32
  ![v1470.toNat, 26, 0, 0]
def k0_off46 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1505 : Index := Scalar.indexCast arg12
  let c33 : Index := 33#32
  let c0_624 : Index := 0#32
  let c0_625 : Index := 0#32
  ![v1505.toNat, 33, 0, 0]
def k0_off47 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1540 : Index := Scalar.indexCast arg12
  let c40 : Index := 40#32
  let c0_638 : Index := 0#32
  let c0_639 : Index := 0#32
  ![v1540.toNat, 40, 0, 0]
def k0_off48 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1575 : Index := Scalar.indexCast arg12
  let c47 : Index := 47#32
  let c0_652 : Index := 0#32
  let c0_653 : Index := 0#32
  ![v1575.toNat, 47, 0, 0]
def k0_off49 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1673 : Index := Scalar.indexCast arg12
  let c6 : Index := 6#32
  let c0_693 : Index := 0#32
  let c0_694 : Index := 0#32
  ![v1673.toNat, 6, 0, 0]
def k0_off50 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1687 : Index := Scalar.indexCast arg12
  let c13 : Index := 13#32
  let c0_698 : Index := 0#32
  let c0_699 : Index := 0#32
  ![v1687.toNat, 13, 0, 0]
def k0_off51 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1708 : Index := Scalar.indexCast arg12
  let c20 : Index := 20#32
  let c0_706 : Index := 0#32
  let c0_707 : Index := 0#32
  ![v1708.toNat, 20, 0, 0]
def k0_off52 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1736 : Index := Scalar.indexCast arg12
  let c27 : Index := 27#32
  let c0_717 : Index := 0#32
  let c0_718 : Index := 0#32
  ![v1736.toNat, 27, 0, 0]
def k0_off53 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1771 : Index := Scalar.indexCast arg12
  let c34 : Index := 34#32
  let c0_731 : Index := 0#32
  let c0_732 : Index := 0#32
  ![v1771.toNat, 34, 0, 0]
def k0_off54 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1806 : Index := Scalar.indexCast arg12
  let c41 : Index := 41#32
  let c0_745 : Index := 0#32
  let c0_746 : Index := 0#32
  ![v1806.toNat, 41, 0, 0]
def k0_off55 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1841 : Index := Scalar.indexCast arg12
  let c48 : Index := 48#32
  let c0_759 : Index := 0#32
  let c0_760 : Index := 0#32
  ![v1841.toNat, 48, 0, 0]
def k0_mult4 (k0_t4 : Fin k0_t4_loop.trips) : BitVec 32 :=
  let c0_i32_53 : BitVec 32 := 0#32
  let c1_i32_55 : BitVec 32 := 1#32
  let arg13 : BitVec 32 := Scf.iv c0_i32_53 c1_i32_55 k0_t4
  let c4_i32 : BitVec 32 := 4#32
  let v1934 : BitVec 32 := Scalar.muli arg13 c4_i32
  let c0_i32_797 : BitVec 32 := 0#32
  let v1935 : BitVec 32 := Scalar.addi v1934 c0_i32_797
  let c32_i32 : BitVec 32 := 32#32
  let v1936 : BitVec 32 := Scalar.muli v1935 c32_i32
  let c0_i32_798 : BitVec 32 := 0#32
  let v1937 : BitVec 32 := Scalar.addi v1936 c0_i32_798
  v1937
def k0_mult5 (k0_t1 : Fin k0_t1_loop.trips) : BitVec 32 :=
  let c0_i32_1 : BitVec 32 := 0#32
  let c1_i32 : BitVec 32 := 1#32
  let arg12 : BitVec 32 := Scf.iv c0_i32_1 c1_i32 k0_t1
  let c128_i32_799 : BitVec 32 := 128#32
  let v1939 : BitVec 32 := Scalar.muli arg12 c128_i32_799
  v1939
def k0_off56 (k0_t1 : Fin k0_t1_loop.trips) (k0_t4 : Fin k0_t4_loop.trips) (c0_i32_797 : BitVec 32) (c0_i32_798 : BitVec 32) : Fin 2 → Nat :=
  let c0_i32_53 : BitVec 32 := 0#32
  let c1_i32_55 : BitVec 32 := 1#32
  let arg13 : BitVec 32 := Scf.iv c0_i32_53 c1_i32_55 k0_t4
  let c4_i32 : BitVec 32 := 4#32
  let v1934 : BitVec 32 := Scalar.muli arg13 c4_i32
  let v1935 : BitVec 32 := Scalar.addi v1934 c0_i32_797
  let c32_i32 : BitVec 32 := 32#32
  let v1936 : BitVec 32 := Scalar.muli v1935 c32_i32
  let v1937 : BitVec 32 := Scalar.addi v1936 c0_i32_798
  let v1938 : BitVec 32 := v1937
  let v1941 : Index := Scalar.indexCast v1938
  let c0_i32_1 : BitVec 32 := 0#32
  let c1_i32 : BitVec 32 := 1#32
  let arg12 : BitVec 32 := Scf.iv c0_i32_1 c1_i32 k0_t1
  let c128_i32_799 : BitVec 32 := 128#32
  let v1939 : BitVec 32 := Scalar.muli arg12 c128_i32_799
  let v1940 : BitVec 32 := v1939
  let v1942 : Index := Scalar.indexCast v1940
  ![v1941.toNat, v1942.toNat]
def k0_mult6 (k0_t4 : Fin k0_t4_loop.trips) : BitVec 32 :=
  let c0_i32_53 : BitVec 32 := 0#32
  let c1_i32_55 : BitVec 32 := 1#32
  let arg13 : BitVec 32 := Scf.iv c0_i32_53 c1_i32_55 k0_t4
  let c4_i32_800 : BitVec 32 := 4#32
  let v1948 : BitVec 32 := Scalar.muli arg13 c4_i32_800
  let c1_i32_801 : BitVec 32 := 1#32
  let v1949 : BitVec 32 := Scalar.addi v1948 c1_i32_801
  let c32_i32_802 : BitVec 32 := 32#32
  let v1950 : BitVec 32 := Scalar.muli v1949 c32_i32_802
  let c0_i32_803 : BitVec 32 := 0#32
  let v1951 : BitVec 32 := Scalar.addi v1950 c0_i32_803
  v1951
def k0_mult7 (k0_t1 : Fin k0_t1_loop.trips) : BitVec 32 :=
  let c0_i32_1 : BitVec 32 := 0#32
  let c1_i32 : BitVec 32 := 1#32
  let arg12 : BitVec 32 := Scf.iv c0_i32_1 c1_i32 k0_t1
  let c128_i32_804 : BitVec 32 := 128#32
  let v1953 : BitVec 32 := Scalar.muli arg12 c128_i32_804
  v1953
def k0_mult8 (k0_t4 : Fin k0_t4_loop.trips) : BitVec 32 :=
  let c0_i32_53 : BitVec 32 := 0#32
  let c1_i32_55 : BitVec 32 := 1#32
  let arg13 : BitVec 32 := Scf.iv c0_i32_53 c1_i32_55 k0_t4
  let c4_i32_805 : BitVec 32 := 4#32
  let v1962 : BitVec 32 := Scalar.muli arg13 c4_i32_805
  let c2_i32_806 : BitVec 32 := 2#32
  let v1963 : BitVec 32 := Scalar.addi v1962 c2_i32_806
  let c32_i32_807 : BitVec 32 := 32#32
  let v1964 : BitVec 32 := Scalar.muli v1963 c32_i32_807
  let c0_i32_808 : BitVec 32 := 0#32
  let v1965 : BitVec 32 := Scalar.addi v1964 c0_i32_808
  v1965
def k0_mult9 (k0_t1 : Fin k0_t1_loop.trips) : BitVec 32 :=
  let c0_i32_1 : BitVec 32 := 0#32
  let c1_i32 : BitVec 32 := 1#32
  let arg12 : BitVec 32 := Scf.iv c0_i32_1 c1_i32 k0_t1
  let c128_i32_809 : BitVec 32 := 128#32
  let v1967 : BitVec 32 := Scalar.muli arg12 c128_i32_809
  v1967
def k0_mult10 (k0_t4 : Fin k0_t4_loop.trips) : BitVec 32 :=
  let c0_i32_53 : BitVec 32 := 0#32
  let c1_i32_55 : BitVec 32 := 1#32
  let arg13 : BitVec 32 := Scf.iv c0_i32_53 c1_i32_55 k0_t4
  let c4_i32_810 : BitVec 32 := 4#32
  let v1976 : BitVec 32 := Scalar.muli arg13 c4_i32_810
  let c3_i32_811 : BitVec 32 := 3#32
  let v1977 : BitVec 32 := Scalar.addi v1976 c3_i32_811
  let c32_i32_812 : BitVec 32 := 32#32
  let v1978 : BitVec 32 := Scalar.muli v1977 c32_i32_812
  let c0_i32_813 : BitVec 32 := 0#32
  let v1979 : BitVec 32 := Scalar.addi v1978 c0_i32_813
  v1979
def k0_mult11 (k0_t1 : Fin k0_t1_loop.trips) : BitVec 32 :=
  let c0_i32_1 : BitVec 32 := 0#32
  let c1_i32 : BitVec 32 := 1#32
  let arg12 : BitVec 32 := Scf.iv c0_i32_1 c1_i32 k0_t1
  let c128_i32_814 : BitVec 32 := 128#32
  let v1981 : BitVec 32 := Scalar.muli arg12 c128_i32_814
  v1981
def k0_mult12 (k0_t4 : Fin k0_t4_loop.trips) : BitVec 32 :=
  let c0_i32_53 : BitVec 32 := 0#32
  let c1_i32_55 : BitVec 32 := 1#32
  let arg13 : BitVec 32 := Scf.iv c0_i32_53 c1_i32_55 k0_t4
  let c4_i32_1610 : BitVec 32 := 4#32
  let v3848 : BitVec 32 := Scalar.muli arg13 c4_i32_1610
  let c0_i32_1611 : BitVec 32 := 0#32
  let v3849 : BitVec 32 := Scalar.addi v3848 c0_i32_1611
  let c32_i32_1612 : BitVec 32 := 32#32
  let v3850 : BitVec 32 := Scalar.muli v3849 c32_i32_1612
  let c16_i32 : BitVec 32 := 16#32
  let v3851 : BitVec 32 := Scalar.addi v3850 c16_i32
  v3851
def k0_mult13 (k0_t1 : Fin k0_t1_loop.trips) : BitVec 32 :=
  let c0_i32_1 : BitVec 32 := 0#32
  let c1_i32 : BitVec 32 := 1#32
  let arg12 : BitVec 32 := Scf.iv c0_i32_1 c1_i32 k0_t1
  let c128_i32_1613 : BitVec 32 := 128#32
  let v3853 : BitVec 32 := Scalar.muli arg12 c128_i32_1613
  v3853
def k0_mult14 (k0_t4 : Fin k0_t4_loop.trips) : BitVec 32 :=
  let c0_i32_53 : BitVec 32 := 0#32
  let c1_i32_55 : BitVec 32 := 1#32
  let arg13 : BitVec 32 := Scf.iv c0_i32_53 c1_i32_55 k0_t4
  let c4_i32_1614 : BitVec 32 := 4#32
  let v3862 : BitVec 32 := Scalar.muli arg13 c4_i32_1614
  let c1_i32_1615 : BitVec 32 := 1#32
  let v3863 : BitVec 32 := Scalar.addi v3862 c1_i32_1615
  let c32_i32_1616 : BitVec 32 := 32#32
  let v3864 : BitVec 32 := Scalar.muli v3863 c32_i32_1616
  let c16_i32_1617 : BitVec 32 := 16#32
  let v3865 : BitVec 32 := Scalar.addi v3864 c16_i32_1617
  v3865
def k0_mult15 (k0_t1 : Fin k0_t1_loop.trips) : BitVec 32 :=
  let c0_i32_1 : BitVec 32 := 0#32
  let c1_i32 : BitVec 32 := 1#32
  let arg12 : BitVec 32 := Scf.iv c0_i32_1 c1_i32 k0_t1
  let c128_i32_1618 : BitVec 32 := 128#32
  let v3867 : BitVec 32 := Scalar.muli arg12 c128_i32_1618
  v3867
def k0_mult16 (k0_t4 : Fin k0_t4_loop.trips) : BitVec 32 :=
  let c0_i32_53 : BitVec 32 := 0#32
  let c1_i32_55 : BitVec 32 := 1#32
  let arg13 : BitVec 32 := Scf.iv c0_i32_53 c1_i32_55 k0_t4
  let c4_i32_1619 : BitVec 32 := 4#32
  let v3876 : BitVec 32 := Scalar.muli arg13 c4_i32_1619
  let c2_i32_1620 : BitVec 32 := 2#32
  let v3877 : BitVec 32 := Scalar.addi v3876 c2_i32_1620
  let c32_i32_1621 : BitVec 32 := 32#32
  let v3878 : BitVec 32 := Scalar.muli v3877 c32_i32_1621
  let c16_i32_1622 : BitVec 32 := 16#32
  let v3879 : BitVec 32 := Scalar.addi v3878 c16_i32_1622
  v3879
def k0_mult17 (k0_t1 : Fin k0_t1_loop.trips) : BitVec 32 :=
  let c0_i32_1 : BitVec 32 := 0#32
  let c1_i32 : BitVec 32 := 1#32
  let arg12 : BitVec 32 := Scf.iv c0_i32_1 c1_i32 k0_t1
  let c128_i32_1623 : BitVec 32 := 128#32
  let v3881 : BitVec 32 := Scalar.muli arg12 c128_i32_1623
  v3881
def k0_mult18 (k0_t4 : Fin k0_t4_loop.trips) : BitVec 32 :=
  let c0_i32_53 : BitVec 32 := 0#32
  let c1_i32_55 : BitVec 32 := 1#32
  let arg13 : BitVec 32 := Scf.iv c0_i32_53 c1_i32_55 k0_t4
  let c4_i32_1624 : BitVec 32 := 4#32
  let v3890 : BitVec 32 := Scalar.muli arg13 c4_i32_1624
  let c3_i32_1625 : BitVec 32 := 3#32
  let v3891 : BitVec 32 := Scalar.addi v3890 c3_i32_1625
  let c32_i32_1626 : BitVec 32 := 32#32
  let v3892 : BitVec 32 := Scalar.muli v3891 c32_i32_1626
  let c16_i32_1627 : BitVec 32 := 16#32
  let v3893 : BitVec 32 := Scalar.addi v3892 c16_i32_1627
  v3893
def k0_mult19 (k0_t1 : Fin k0_t1_loop.trips) : BitVec 32 :=
  let c0_i32_1 : BitVec 32 := 0#32
  let c1_i32 : BitVec 32 := 1#32
  let arg12 : BitVec 32 := Scf.iv c0_i32_1 c1_i32 k0_t1
  let c128_i32_1628 : BitVec 32 := 128#32
  let v3895 : BitVec 32 := Scalar.muli arg12 c128_i32_1628
  v3895
@[reducible] def k0_t5_loop : Scf.Loop 32 :=
  let c0_i32_3 : BitVec 32 := 0#32
  let c40_i32 : BitVec 32 := 40#32
  let v4 : BitVec 32 := Scalar.addi c0_i32_3 c40_i32
  let c1_i32_4 : BitVec 32 := 1#32
  ⟨c0_i32_3, v4, c1_i32_4⟩
def k0_mult20 (k0_t5 : Fin k0_t5_loop.trips) : BitVec 32 :=
  let c0_i32_3 : BitVec 32 := 0#32
  let c1_i32_4 : BitVec 32 := 1#32
  let arg12 : BitVec 32 := Scf.iv c0_i32_3 c1_i32_4 k0_t5
  let c32_i32 : BitVec 32 := 32#32
  let v65 : BitVec 32 := Scalar.muli arg12 c32_i32
  v65
def k0_off57 (k0_t5 : Fin k0_t5_loop.trips) : Fin 2 → Nat :=
  let c0_i32_3 : BitVec 32 := 0#32
  let c1_i32_4 : BitVec 32 := 1#32
  let arg12 : BitVec 32 := Scf.iv c0_i32_3 c1_i32_4 k0_t5
  let c32_i32 : BitVec 32 := 32#32
  let v65 : BitVec 32 := Scalar.muli arg12 c32_i32
  let v66 : BitVec 32 := v65
  let v67 : Index := Scalar.indexCast v66
  let c0_46 : Index := 0#32
  ![v67.toNat, 0]
def k0_off58 (k0_t5 : Fin k0_t5_loop.trips) : Fin 3 → Nat :=
  let c0_83 : Index := 0#32
  let c0_i32_3 : BitVec 32 := 0#32
  let c1_i32_4 : BitVec 32 := 1#32
  let arg12 : BitVec 32 := Scf.iv c0_i32_3 c1_i32_4 k0_t5
  let c32_i32 : BitVec 32 := 32#32
  let v65 : BitVec 32 := Scalar.muli arg12 c32_i32
  let v66 : BitVec 32 := v65
  let v200 : Index := Scalar.indexCast v66
  let c0_84 : Index := 0#32
  ![0, v200.toNat, 0]
def k0_off59 (k0_t5 : Fin k0_t5_loop.trips) : Fin 2 → Nat :=
  let c0_i32_3 : BitVec 32 := 0#32
  let c1_i32_4 : BitVec 32 := 1#32
  let arg12 : BitVec 32 := Scf.iv c0_i32_3 c1_i32_4 k0_t5
  let c32_i32 : BitVec 32 := 32#32
  let v65 : BitVec 32 := Scalar.muli arg12 c32_i32
  let v66 : BitVec 32 := v65
  let v204 : Index := Scalar.indexCast v66
  let c0_85 : Index := 0#32
  ![v204.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1536x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x49x16x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1280x1536 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DwlnIdeal.lean ====
abbrev S12x1536x1280 : Shape := ⟨3, ![12, 1536, 1280]⟩
abbrev S1536x7x7 : Shape := ⟨3, ![1536, 7, 7]⟩
abbrev S1536 : Shape := ⟨1, ![1536]⟩
abbrev S12x128x49 : Shape := ⟨3, ![12, 128, 49]⟩
abbrev S12x49x128 : Shape := ⟨3, ![12, 49, 128]⟩
abbrev S12x49x1x128 : Shape := ⟨4, ![12, 49, 1, 128]⟩
abbrev S12x49x16x128 : Shape := ⟨4, ![12, 49, 16, 128]⟩
abbrev S1x1536 : Shape := ⟨2, ![1, 1536]⟩
abbrev S12x1280x1536 : Shape := ⟨3, ![12, 1280, 1536]⟩
abbrev S12x1x1280 : Shape := ⟨3, ![12, 1, 1280]⟩
abbrev S1x1536x1280 : Shape := ⟨3, ![1, 1536, 1280]⟩
abbrev S1x1280x1536 : Shape := ⟨3, ![1, 1280, 1536]⟩
abbrev S1x1x1280 : Shape := ⟨3, ![1, 1, 1280]⟩
abbrev S12x864x128 : Shape := ⟨3, ![12, 864, 128]⟩
abbrev S12x864x2x128 : Shape := ⟨4, ![12, 864, 2, 128]⟩
abbrev S12x864x1x128 : Shape := ⟨4, ![12, 864, 1, 128]⟩
abbrev S1280x1536 : Shape := ⟨2, ![1280, 1536]⟩
abbrev S1280x128 : Shape := ⟨2, ![1280, 128]⟩
abbrev S1x128x128 : Shape := ⟨3, ![1, 128, 128]⟩
abbrev S128x128 : Shape := ⟨2, ![128, 128]⟩
abbrev S64x128 : Shape := ⟨2, ![64, 128]⟩
abbrev S8x128 : Shape := ⟨2, ![8, 128]⟩
abbrev S1x8x128 : Shape := ⟨3, ![1, 8, 128]⟩
abbrev S1x8x2x128 : Shape := ⟨4, ![1, 8, 2, 128]⟩
abbrev S1x8x1x128 : Shape := ⟨4, ![1, 8, 1, 128]⟩
abbrev S16x128 : Shape := ⟨2, ![16, 128]⟩
abbrev S1x128 : Shape := ⟨2, ![1, 128]⟩
abbrev S1x1x16x128 : Shape := ⟨4, ![1, 1, 16, 128]⟩
abbrev S32x1536 : Shape := ⟨2, ![32, 1536]⟩
abbrev S32 : Shape := ⟨1, ![32]⟩
abbrev S32x1 : Shape := ⟨2, ![32, 1]⟩
abbrev S32x128 : Shape := ⟨2, ![32, 128]⟩
abbrev S1x32x1536 : Shape := ⟨3, ![1, 32, 1536]⟩
abbrev S1x1x128 : Shape := ⟨3, ![1, 1, 128]⟩

abbrev nBuf : Space → Nat
  | .hbm => 14
  | .vmem => 14
  | .smem => 0
  | _ => 0

abbrev bufTy : (tb : Table) → Fin (tcTables nBuf tb) → BufTy
  | .hbm, ⟨0, _⟩ => ⟨S12x1536x1280, .bf16⟩
  | .hbm, ⟨1, _⟩ => ⟨S1536x7x7, .bf16⟩
  | .hbm, ⟨2, _⟩ => ⟨S1536, .f32⟩
  | .hbm, ⟨3, _⟩ => ⟨S1536, .f32⟩
  | .hbm, ⟨4, _⟩ => ⟨S1536, .f32⟩
  | .hbm, ⟨5, _⟩ => ⟨S12x128x49, .bf16⟩
  | .hbm, ⟨6, _⟩ => ⟨S12x49x128, .bf16⟩
  | .hbm, ⟨7, _⟩ => ⟨S12x49x1x128, .bf16⟩
  | .hbm, ⟨8, _⟩ => ⟨S12x49x16x128, .bf16⟩
  | .hbm, ⟨9, _⟩ => ⟨S1x1536, .f32⟩
  | .hbm, ⟨10, _⟩ => ⟨S1x1536, .f32⟩
  | .hbm, ⟨11, _⟩ => ⟨S1x1536, .f32⟩
  | .hbm, ⟨12, _⟩ => ⟨S12x1280x1536, .fp8e4m3⟩
  | .hbm, ⟨13, _⟩ => ⟨S12x1x1280, .f32⟩
  | .local _ .vmem, ⟨0, _⟩ => ⟨S1x1536x1280, .bf16⟩
  | .local _ .vmem, ⟨1, _⟩ => ⟨S1x1536x1280, .bf16⟩
  | .local _ .vmem, ⟨2, _⟩ => ⟨S12x49x16x128, .bf16⟩
  | .local _ .vmem, ⟨3, _⟩ => ⟨S1x1536, .f32⟩
  | .local _ .vmem, ⟨4, _⟩ => ⟨S1x1536, .f32⟩
  | .local _ .vmem, ⟨5, _⟩ => ⟨S1x1536, .f32⟩
  | .local _ .vmem, ⟨6, _⟩ => ⟨S1x1280x1536, .fp8e4m3⟩
  | .local _ .vmem, ⟨7, _⟩ => ⟨S1x1280x1536, .fp8e4m3⟩
  | .local _ .vmem, ⟨8, _⟩ => ⟨S1x1x1280, .f32⟩
  | .local _ .vmem, ⟨9, _⟩ => ⟨S1x1x1280, .f32⟩
  | .local _ .vmem, ⟨10, _⟩ => ⟨S12x864x2x128, .bf16⟩
  | .local _ .vmem, ⟨11, _⟩ => ⟨S12x864x2x128, .bf16⟩
  | .local _ .vmem, ⟨12, _⟩ => ⟨S1280x1536, .f32⟩
  | .local _ .vmem, ⟨13, _⟩ => ⟨S1280x128, .f32⟩
  | _, _ => ⟨S12x1536x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F] [Named F]

def κ : String → Option EReal := fun
  | "inv_d" => some ((1536⁻¹ : ℝ) : EReal)
  | _ => none

abbrev grid0 : Pipeline.Grid := ⟨1, ![12], ![false]⟩

@[reducible] def k0_t1_loop : Scf.Loop 32 :=
  let c0_i32_1 : BitVec 32 := 0#32
  let c12_i32 : BitVec 32 := 12#32
  let v3 : BitVec 32 := Scalar.addi c0_i32_1 c12_i32
  let c1_i32 : BitVec 32 := 1#32
  ⟨c0_i32_1, v3, c1_i32⟩
@[reducible] def k0_t2_loop : Scf.Loop 32 :=
  let c0_i32_46 : BitVec 32 := 0#32
  let c10_i32 : BitVec 32 := 10#32
  let v65 : BitVec 32 := Scalar.addi c0_i32_46 c10_i32
  let c1_i32_47 : BitVec 32 := 1#32
  ⟨c0_i32_46, v65, c1_i32_47⟩
def k0_mult1 (k0_t1 : Fin k0_t1_loop.trips) : BitVec 32 :=
  let c0_i32_1 : BitVec 32 := 0#32
  let c1_i32 : BitVec 32 := 1#32
  let arg12 : BitVec 32 := Scf.iv c0_i32_1 c1_i32 k0_t1
  let c128_i32_57 : BitVec 32 := 128#32
  let v73 : BitVec 32 := Scalar.muli arg12 c128_i32_57
  v73
def k0_mult2 (k0_t2 : Fin k0_t2_loop.trips) : BitVec 32 :=
  let c0_i32_46 : BitVec 32 := 0#32
  let c1_i32_47 : BitVec 32 := 1#32
  let arg13 : BitVec 32 := Scf.iv c0_i32_46 c1_i32_47 k0_t2
  let c128_i32_58 : BitVec 32 := 128#32
  let v75 : BitVec 32 := Scalar.muli arg13 c128_i32_58
  v75
def k0_off1 (k0_t1 : Fin k0_t1_loop.trips) (k0_t2 : Fin k0_t2_loop.trips) : Fin 3 → Nat :=
  let c0_59 : Index := 0#32
  let c0_i32_1 : BitVec 32 := 0#32
  let c1_i32 : BitVec 32 := 1#32
  let arg12 : BitVec 32 := Scf.iv c0_i32_1 c1_i32 k0_t1
  let c128_i32_57 : BitVec 32 := 128#32
  let v73 : BitVec 32 := Scalar.muli arg12 c128_i32_57
  let v74 : BitVec 32 := v73
  let v77 : Index := Scalar.indexCast v74
  let c0_i32_46 : BitVec 32 := 0#32
  let c1_i32_47 : BitVec 32 := 1#32
  let arg13 : BitVec 32 := Scf.iv c0_i32_46 c1_i32_47 k0_t2
  let c128_i32_58 : BitVec 32 := 128#32
  let v75 : BitVec 32 := Scalar.muli arg13 c128_i32_58
  let v76 : BitVec 32 := v75
  let v78 : Index := Scalar.indexCast v76
  ![0, v77.toNat, v78.toNat]
def k0_off2 (k0_t1 : Fin k0_t1_loop.trips) (k0_t2 : Fin k0_t2_loop.trips) (c0_i32_60 : BitVec 32) (c0_i32_61 : BitVec 32) : Fin 4 → Nat :=
  let c0_i32_1 : BitVec 32 := 0#32
  let c1_i32 : BitVec 32 := 1#32
  let arg12 : BitVec 32 := Scf.iv c0_i32_1 c1_i32 k0_t1
  let v90 : Index := Scalar.indexCast arg12
  let c2_i32 : BitVec 32 := 2#32
  let c3_i32 : BitVec 32 := 3#32
  let c4_i32 : BitVec 32 := 4#32
  let c0_i32_46 : BitVec 32 := 0#32
  let c1_i32_47 : BitVec 32 := 1#32
  let arg13 : BitVec 32 := Scf.iv c0_i32_46 c1_i32_47 k0_t2
  let v84 : BitVec 32 := Scalar.muli c4_i32 arg13
  let v85 : BitVec 32 := Scalar.addi c3_i32 v84
  let v86 : BitVec 32 := Scalar.addi v85 c0_i32_60
  let c18_i32 : BitVec 32 := 18#32
  let v87 : BitVec 32 := Scalar.muli v86 c18_i32
  let v88 : BitVec 32 := Scalar.addi c2_i32 v87
  let v89 : BitVec 32 := Scalar.addi v88 c0_i32_61
  let v91 : Index := Scalar.indexCast v89
  let c0_62 : Index := 0#32
  ![v90.toNat, v91.toNat, 0, 0]
@[reducible] def k0_t3_loop : Scf.Loop 32 :=
  let c0_i32_49 : BitVec 32 := 0#32
  let c23_i32 : BitVec 32 := 23#32
  let v66 : BitVec 32 := Scalar.addi c0_i32_49 c23_i32
  let c1_i32_50 : BitVec 32 := 1#32
  ⟨c0_i32_49, v66, c1_i32_50⟩
def k0_off3 (k0_t1 : Fin k0_t1_loop.trips) (k0_t3 : Fin k0_t3_loop.trips) (c0_i32_57 : BitVec 32) : Fin 4 → Nat :=
  let c0_i32_1 : BitVec 32 := 0#32
  let c1_i32 : BitVec 32 := 1#32
  let arg12 : BitVec 32 := Scf.iv c0_i32_1 c1_i32 k0_t1
  let v76 : Index := Scalar.indexCast arg12
  let c54_i32 : BitVec 32 := 54#32
  let c32_i32 : BitVec 32 := 32#32
  let c0_i32_49 : BitVec 32 := 0#32
  let c1_i32_50 : BitVec 32 := 1#32
  let arg13 : BitVec 32 := Scf.iv c0_i32_49 c1_i32_50 k0_t3
  let v73 : BitVec 32 := Scalar.muli c32_i32 arg13
  let v74 : BitVec 32 := Scalar.addi c54_i32 v73
  let v75 : BitVec 32 := Scalar.addi v74 c0_i32_57
  let v77 : Index := Scalar.indexCast v75
  let c0_58 : Index := 0#32
  ![v76.toNat, v77.toNat, 0, 0]
def k0_off4 (k0_t1 : Fin k0_t1_loop.trips) (k0_t3 : Fin k0_t3_loop.trips) (c0_i32_61 : BitVec 32) : Fin 4 → Nat :=
  let c0_i32_1 : BitVec 32 := 0#32
  let c1_i32 : BitVec 32 := 1#32
  let arg12 : BitVec 32 := Scf.iv c0_i32_1 c1_i32 k0_t1
  let v84 : Index := Scalar.indexCast arg12
  let c54_i32_60 : BitVec 32 := 54#32
  let c32_i32_59 : BitVec 32 := 32#32
  let c0_i32_49 : BitVec 32 := 0#32
  let c1_i32_50 : BitVec 32 := 1#32
  let arg13 : BitVec 32 := Scf.iv c0_i32_49 c1_i32_50 k0_t3
  let v80 : BitVec 32 := Scalar.muli c32_i32_59 arg13
  let v81 : BitVec 32 := Scalar.addi c54_i32_60 v80
  let v82 : BitVec 32 := Scalar.addi v81 c0_i32_61
  let c1_i32_62 : BitVec 32 := 1#32
  let v83 : BitVec 32 := Scalar.addi v82 c1_i32_62
  let v85 : Index := Scalar.indexCast v83
  let c0_63 : Index := 0#32
  ![v84.toNat, v85.toNat, 0, 0]
def k0_mult3 (k0_t1 : Fin k0_t1_loop.trips) : BitVec 32 :=
  let c0_i32_1 : BitVec 32 := 0#32
  let c1_i32 : BitVec 32 := 1#32
  let arg12 : BitVec 32 := Scf.iv c0_i32_1 c1_i32 k0_t1
  let c128_i32 : BitVec 32 := 128#32
  let v67 : BitVec 32 := Scalar.muli arg12 c128_i32
  v67
def k0_off5 (k0_t1 : Fin k0_t1_loop.trips) : Fin 2 → Nat :=
  let c0_52 : Index := 0#32
  let c0_i32_1 : BitVec 32 := 0#32
  let c1_i32 : BitVec 32 := 1#32
  let arg12 : BitVec 32 := Scf.iv c0_i32_1 c1_i32 k0_t1
  let c128_i32 : BitVec 32 := 128#32
  let v67 : BitVec 32 := Scalar.muli arg12 c128_i32
  let v68 : BitVec 32 := v67
  let v69 : Index := Scalar.indexCast v68
  ![0, v69.toNat]
@[reducible] def k0_t4_loop : Scf.Loop 32 :=
  let c0_i32_53 : BitVec 32 := 0#32
  let c10_i32_54 : BitVec 32 := 10#32
  let v72 : BitVec 32 := Scalar.addi c0_i32_53 c10_i32_54
  let c1_i32_55 : BitVec 32 := 1#32
  ⟨c0_i32_53, v72, c1_i32_55⟩
def k0_off6 (k0_t1 : Fin k0_t1_loop.trips) (k0_t4 : Fin k0_t4_loop.trips) (c0_i32_57 : BitVec 32) (c0_i32_58 : BitVec 32) : Fin 4 → Nat :=
  let c0_i32_1 : BitVec 32 := 0#32
  let c1_i32 : BitVec 32 := 1#32
  let arg12 : BitVec 32 := Scf.iv c0_i32_1 c1_i32 k0_t1
  let v76 : Index := Scalar.indexCast arg12
  let c0_i32_53 : BitVec 32 := 0#32
  let c1_i32_55 : BitVec 32 := 1#32
  let arg13 : BitVec 32 := Scf.iv c0_i32_53 c1_i32_55 k0_t4
  let c72_i32 : BitVec 32 := 72#32
  let v73 : BitVec 32 := Scalar.muli arg13 c72_i32
  let v74 : BitVec 32 := Scalar.addi v73 c0_i32_57
  let v75 : BitVec 32 := Scalar.addi v74 c0_i32_58
  let v77 : Index := Scalar.indexCast v75
  let c0_59 : Index := 0#32
  ![v76.toNat, v77.toNat, 0, 0]
def k0_off6_at (r : Fin 80) : BitVec 32 × BitVec 32 :=
  if r.val < 40 then
    if r.val < 20 then
      if r.val < 10 then
        if r.val < 5 then
          if r.val < 2 then
            if r.val < 1 then
              (0#32, 0#32)
            else
              (18#32, 0#32)
          else
            if r.val < 3 then
              (36#32, 0#32)
            else
              if r.val < 4 then
                (54#32, 0#32)
              else
                (72#32, 0#32)
        else
          if r.val < 7 then
            if r.val < 6 then
              (90#32, 0#32)
            else
              (108#32, 0#32)
          else
            if r.val < 8 then
              (126#32, 0#32)
            else
              if r.val < 9 then
                (144#32, 0#32)
              else
                (162#32, 0#32)
      else
        if r.val < 15 then
          if r.val < 12 then
            if r.val < 11 then
              (0#32, 1#32)
            else
              (18#32, 1#32)
          else
            if r.val < 13 then
              (36#32, 1#32)
            else
              if r.val < 14 then
                (54#32, 1#32)
              else
                (72#32, 1#32)
        else
          if r.val < 17 then
            if r.val < 16 then
              (90#32, 1#32)
            else
              (108#32, 1#32)
          else
            if r.val < 18 then
              (126#32, 1#32)
            else
              if r.val < 19 then
                (144#32, 1#32)
              else
                (162#32, 1#32)
    else
      if r.val < 30 then
        if r.val < 25 then
          if r.val < 22 then
            if r.val < 21 then
              (0#32, 2#32)
            else
              (18#32, 2#32)
          else
            if r.val < 23 then
              (36#32, 2#32)
            else
              if r.val < 24 then
                (54#32, 2#32)
              else
                (72#32, 2#32)
        else
          if r.val < 27 then
            if r.val < 26 then
              (90#32, 2#32)
            else
              (108#32, 2#32)
          else
            if r.val < 28 then
              (126#32, 2#32)
            else
              if r.val < 29 then
                (144#32, 2#32)
              else
                (162#32, 2#32)
      else
        if r.val < 35 then
          if r.val < 32 then
            if r.val < 31 then
              (0#32, 3#32)
            else
              (18#32, 3#32)
          else
            if r.val < 33 then
              (36#32, 3#32)
            else
              if r.val < 34 then
                (54#32, 3#32)
              else
                (72#32, 3#32)
        else
          if r.val < 37 then
            if r.val < 36 then
              (90#32, 3#32)
            else
              (108#32, 3#32)
          else
            if r.val < 38 then
              (126#32, 3#32)
            else
              if r.val < 39 then
                (144#32, 3#32)
              else
                (162#32, 3#32)
  else
    if r.val < 60 then
      if r.val < 50 then
        if r.val < 45 then
          if r.val < 42 then
            if r.val < 41 then
              (0#32, 8#32)
            else
              (18#32, 8#32)
          else
            if r.val < 43 then
              (36#32, 8#32)
            else
              if r.val < 44 then
                (54#32, 8#32)
              else
                (72#32, 8#32)
        else
          if r.val < 47 then
            if r.val < 46 then
              (90#32, 8#32)
            else
              (108#32, 8#32)
          else
            if r.val < 48 then
              (126#32, 8#32)
            else
              if r.val < 49 then
                (144#32, 8#32)
              else
                (162#32, 8#32)
      else
        if r.val < 55 then
          if r.val < 52 then
            if r.val < 51 then
              (0#32, 9#32)
            else
              (18#32, 9#32)
          else
            if r.val < 53 then
              (36#32, 9#32)
            else
              if r.val < 54 then
                (54#32, 9#32)
              else
                (72#32, 9#32)
        else
          if r.val < 57 then
            if r.val < 56 then
              (90#32, 9#32)
            else
              (108#32, 9#32)
          else
            if r.val < 58 then
              (126#32, 9#32)
            else
              if r.val < 59 then
                (144#32, 9#32)
              else
                (162#32, 9#32)
    else
      if r.val < 70 then
        if r.val < 65 then
          if r.val < 62 then
            if r.val < 61 then
              (0#32, 10#32)
            else
              (18#32, 10#32)
          else
            if r.val < 63 then
              (36#32, 10#32)
            else
              if r.val < 64 then
                (54#32, 10#32)
              else
                (72#32, 10#32)
        else
          if r.val < 67 then
            if r.val < 66 then
              (90#32, 10#32)
            else
              (108#32, 10#32)
          else
            if r.val < 68 then
              (126#32, 10#32)
            else
              if r.val < 69 then
                (144#32, 10#32)
              else
                (162#32, 10#32)
      else
        if r.val < 75 then
          if r.val < 72 then
            if r.val < 71 then
              (0#32, 11#32)
            else
              (18#32, 11#32)
          else
            if r.val < 73 then
              (36#32, 11#32)
            else
              if r.val < 74 then
                (54#32, 11#32)
              else
                (72#32, 11#32)
        else
          if r.val < 77 then
            if r.val < 76 then
              (90#32, 11#32)
            else
              (108#32, 11#32)
          else
            if r.val < 78 then
              (126#32, 11#32)
            else
              if r.val < 79 then
                (144#32, 11#32)
              else
                (162#32, 11#32)
def k0_off7 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v81 : Index := Scalar.indexCast arg12
  let c0_60 : Index := 0#32
  let c0_61 : Index := 0#32
  let c0_62 : Index := 0#32
  ![v81.toNat, 0, 0, 0]
def k0_off8 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v94 : Index := Scalar.indexCast arg12
  let c7 : Index := 7#32
  let c0_65 : Index := 0#32
  let c0_66 : Index := 0#32
  ![v94.toNat, 7, 0, 0]
def k0_off9 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v114 : Index := Scalar.indexCast arg12
  let c14 : Index := 14#32
  let c0_72 : Index := 0#32
  let c0_73 : Index := 0#32
  ![v114.toNat, 14, 0, 0]
def k0_off10 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v141 : Index := Scalar.indexCast arg12
  let c21 : Index := 21#32
  let c0_82 : Index := 0#32
  let c0_83 : Index := 0#32
  ![v141.toNat, 21, 0, 0]
def k0_off11 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v175 : Index := Scalar.indexCast arg12
  let c28 : Index := 28#32
  let c0_96 : Index := 0#32
  let c0_97 : Index := 0#32
  ![v175.toNat, 28, 0, 0]
def k0_off12 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v210 : Index := Scalar.indexCast arg12
  let c35 : Index := 35#32
  let c0_109 : Index := 0#32
  let c0_110 : Index := 0#32
  ![v210.toNat, 35, 0, 0]
def k0_off13 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v245 : Index := Scalar.indexCast arg12
  let c42 : Index := 42#32
  let c0_122 : Index := 0#32
  let c0_123 : Index := 0#32
  ![v245.toNat, 42, 0, 0]
def k0_off14 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v343 : Index := Scalar.indexCast arg12
  let c1 : Index := 1#32
  let c0_160 : Index := 0#32
  let c0_161 : Index := 0#32
  ![v343.toNat, 1, 0, 0]
def k0_off15 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v357 : Index := Scalar.indexCast arg12
  let c8 : Index := 8#32
  let c0_165 : Index := 0#32
  let c0_166 : Index := 0#32
  ![v357.toNat, 8, 0, 0]
def k0_off16 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v378 : Index := Scalar.indexCast arg12
  let c15 : Index := 15#32
  let c0_173 : Index := 0#32
  let c0_174 : Index := 0#32
  ![v378.toNat, 15, 0, 0]
def k0_off17 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v406 : Index := Scalar.indexCast arg12
  let c22 : Index := 22#32
  let c0_184 : Index := 0#32
  let c0_185 : Index := 0#32
  ![v406.toNat, 22, 0, 0]
def k0_off18 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v441 : Index := Scalar.indexCast arg12
  let c29 : Index := 29#32
  let c0_198 : Index := 0#32
  let c0_199 : Index := 0#32
  ![v441.toNat, 29, 0, 0]
def k0_off19 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v476 : Index := Scalar.indexCast arg12
  let c36 : Index := 36#32
  let c0_212 : Index := 0#32
  let c0_213 : Index := 0#32
  ![v476.toNat, 36, 0, 0]
def k0_off20 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v511 : Index := Scalar.indexCast arg12
  let c43 : Index := 43#32
  let c0_226 : Index := 0#32
  let c0_227 : Index := 0#32
  ![v511.toNat, 43, 0, 0]
def k0_off21 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v609 : Index := Scalar.indexCast arg12
  let c2 : Index := 2#32
  let c0_267 : Index := 0#32
  let c0_268 : Index := 0#32
  ![v609.toNat, 2, 0, 0]
def k0_off22 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v623 : Index := Scalar.indexCast arg12
  let c9 : Index := 9#32
  let c0_272 : Index := 0#32
  let c0_273 : Index := 0#32
  ![v623.toNat, 9, 0, 0]
def k0_off23 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v644 : Index := Scalar.indexCast arg12
  let c16 : Index := 16#32
  let c0_280 : Index := 0#32
  let c0_281 : Index := 0#32
  ![v644.toNat, 16, 0, 0]
def k0_off24 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v672 : Index := Scalar.indexCast arg12
  let c23 : Index := 23#32
  let c0_291 : Index := 0#32
  let c0_292 : Index := 0#32
  ![v672.toNat, 23, 0, 0]
def k0_off25 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v707 : Index := Scalar.indexCast arg12
  let c30 : Index := 30#32
  let c0_305 : Index := 0#32
  let c0_306 : Index := 0#32
  ![v707.toNat, 30, 0, 0]
def k0_off26 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v742 : Index := Scalar.indexCast arg12
  let c37 : Index := 37#32
  let c0_319 : Index := 0#32
  let c0_320 : Index := 0#32
  ![v742.toNat, 37, 0, 0]
def k0_off27 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v777 : Index := Scalar.indexCast arg12
  let c44 : Index := 44#32
  let c0_333 : Index := 0#32
  let c0_334 : Index := 0#32
  ![v777.toNat, 44, 0, 0]
def k0_off28 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v875 : Index := Scalar.indexCast arg12
  let c3 : Index := 3#32
  let c0_373 : Index := 0#32
  let c0_374 : Index := 0#32
  ![v875.toNat, 3, 0, 0]
def k0_off29 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v889 : Index := Scalar.indexCast arg12
  let c10 : Index := 10#32
  let c0_378 : Index := 0#32
  let c0_379 : Index := 0#32
  ![v889.toNat, 10, 0, 0]
def k0_off30 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v910 : Index := Scalar.indexCast arg12
  let c17 : Index := 17#32
  let c0_386 : Index := 0#32
  let c0_387 : Index := 0#32
  ![v910.toNat, 17, 0, 0]
def k0_off31 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v938 : Index := Scalar.indexCast arg12
  let c24 : Index := 24#32
  let c0_397 : Index := 0#32
  let c0_398 : Index := 0#32
  ![v938.toNat, 24, 0, 0]
def k0_off32 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v973 : Index := Scalar.indexCast arg12
  let c31 : Index := 31#32
  let c0_411 : Index := 0#32
  let c0_412 : Index := 0#32
  ![v973.toNat, 31, 0, 0]
def k0_off33 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1008 : Index := Scalar.indexCast arg12
  let c38 : Index := 38#32
  let c0_425 : Index := 0#32
  let c0_426 : Index := 0#32
  ![v1008.toNat, 38, 0, 0]
def k0_off34 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1043 : Index := Scalar.indexCast arg12
  let c45 : Index := 45#32
  let c0_439 : Index := 0#32
  let c0_440 : Index := 0#32
  ![v1043.toNat, 45, 0, 0]
def k0_off35 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1141 : Index := Scalar.indexCast arg12
  let c4 : Index := 4#32
  let c0_480 : Index := 0#32
  let c0_481 : Index := 0#32
  ![v1141.toNat, 4, 0, 0]
def k0_off36 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1155 : Index := Scalar.indexCast arg12
  let c11 : Index := 11#32
  let c0_485 : Index := 0#32
  let c0_486 : Index := 0#32
  ![v1155.toNat, 11, 0, 0]
def k0_off37 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1176 : Index := Scalar.indexCast arg12
  let c18 : Index := 18#32
  let c0_493 : Index := 0#32
  let c0_494 : Index := 0#32
  ![v1176.toNat, 18, 0, 0]
def k0_off38 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1204 : Index := Scalar.indexCast arg12
  let c25 : Index := 25#32
  let c0_504 : Index := 0#32
  let c0_505 : Index := 0#32
  ![v1204.toNat, 25, 0, 0]
def k0_off39 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1239 : Index := Scalar.indexCast arg12
  let c32 : Index := 32#32
  let c0_518 : Index := 0#32
  let c0_519 : Index := 0#32
  ![v1239.toNat, 32, 0, 0]
def k0_off40 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1274 : Index := Scalar.indexCast arg12
  let c39 : Index := 39#32
  let c0_532 : Index := 0#32
  let c0_533 : Index := 0#32
  ![v1274.toNat, 39, 0, 0]
def k0_off41 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1309 : Index := Scalar.indexCast arg12
  let c46 : Index := 46#32
  let c0_546 : Index := 0#32
  let c0_547 : Index := 0#32
  ![v1309.toNat, 46, 0, 0]
def k0_off42 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1407 : Index := Scalar.indexCast arg12
  let c5 : Index := 5#32
  let c0_586 : Index := 0#32
  let c0_587 : Index := 0#32
  ![v1407.toNat, 5, 0, 0]
def k0_off43 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1421 : Index := Scalar.indexCast arg12
  let c12 : Index := 12#32
  let c0_591 : Index := 0#32
  let c0_592 : Index := 0#32
  ![v1421.toNat, 12, 0, 0]
def k0_off44 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1442 : Index := Scalar.indexCast arg12
  let c19 : Index := 19#32
  let c0_599 : Index := 0#32
  let c0_600 : Index := 0#32
  ![v1442.toNat, 19, 0, 0]
def k0_off45 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1470 : Index := Scalar.indexCast arg12
  let c26 : Index := 26#32
  let c0_610 : Index := 0#32
  let c0_611 : Index := 0#32
  ![v1470.toNat, 26, 0, 0]
def k0_off46 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1505 : Index := Scalar.indexCast arg12
  let c33 : Index := 33#32
  let c0_624 : Index := 0#32
  let c0_625 : Index := 0#32
  ![v1505.toNat, 33, 0, 0]
def k0_off47 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1540 : Index := Scalar.indexCast arg12
  let c40 : Index := 40#32
  let c0_638 : Index := 0#32
  let c0_639 : Index := 0#32
  ![v1540.toNat, 40, 0, 0]
def k0_off48 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1575 : Index := Scalar.indexCast arg12
  let c47 : Index := 47#32
  let c0_652 : Index := 0#32
  let c0_653 : Index := 0#32
  ![v1575.toNat, 47, 0, 0]
def k0_off49 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1673 : Index := Scalar.indexCast arg12
  let c6 : Index := 6#32
  let c0_693 : Index := 0#32
  let c0_694 : Index := 0#32
  ![v1673.toNat, 6, 0, 0]
def k0_off50 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1687 : Index := Scalar.indexCast arg12
  let c13 : Index := 13#32
  let c0_698 : Index := 0#32
  let c0_699 : Index := 0#32
  ![v1687.toNat, 13, 0, 0]
def k0_off51 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1708 : Index := Scalar.indexCast arg12
  let c20 : Index := 20#32
  let c0_706 : Index := 0#32
  let c0_707 : Index := 0#32
  ![v1708.toNat, 20, 0, 0]
def k0_off52 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1736 : Index := Scalar.indexCast arg12
  let c27 : Index := 27#32
  let c0_717 : Index := 0#32
  let c0_718 : Index := 0#32
  ![v1736.toNat, 27, 0, 0]
def k0_off53 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1771 : Index := Scalar.indexCast arg12
  let c34 : Index := 34#32
  let c0_731 : Index := 0#32
  let c0_732 : Index := 0#32
  ![v1771.toNat, 34, 0, 0]
def k0_off54 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1806 : Index := Scalar.indexCast arg12
  let c41 : Index := 41#32
  let c0_745 : Index := 0#32
  let c0_746 : Index := 0#32
  ![v1806.toNat, 41, 0, 0]
def k0_off55 (k0_t1 : Fin k0_t1_loop.trips) : Fin 4 → Nat :=
  let c0_i32_1 : BitVec 32 := 0#32
  let c1_i32 : BitVec 32 := 1#32
  let arg12 : BitVec 32 := Scf.iv c0_i32_1 c1_i32 k0_t1
  let v1841 : Index := Scalar.indexCast arg12
  let c48 : Index := 48#32
  let c0_759 : Index := 0#32
  let c0_760 : Index := 0#32
  ![v1841.toNat, 48, 0, 0]
def k0_mult4 (k0_t4 : Fin k0_t4_loop.trips) : BitVec 32 :=
  let c0_i32_53 : BitVec 32 := 0#32
  let c1_i32_55 : BitVec 32 := 1#32
  let arg13 : BitVec 32 := Scf.iv c0_i32_53 c1_i32_55 k0_t4
  let c4_i32 : BitVec 32 := 4#32
  let v1934 : BitVec 32 := Scalar.muli arg13 c4_i32
  let c0_i32_797 : BitVec 32 := 0#32
  let v1935 : BitVec 32 := Scalar.addi v1934 c0_i32_797
  let c32_i32 : BitVec 32 := 32#32
  let v1936 : BitVec 32 := Scalar.muli v1935 c32_i32
  let c0_i32_798 : BitVec 32 := 0#32
  let v1937 : BitVec 32 := Scalar.addi v1936 c0_i32_798
  v1937
def k0_mult5 (k0_t1 : Fin k0_t1_loop.trips) : BitVec 32 :=
  let c0_i32_1 : BitVec 32 := 0#32
  let c1_i32 : BitVec 32 := 1#32
  let arg12 : BitVec 32 := Scf.iv c0_i32_1 c1_i32 k0_t1
  let c128_i32_799 : BitVec 32 := 128#32
  let v1939 : BitVec 32 := Scalar.muli arg12 c128_i32_799
  v1939
def k0_off56 (k0_t1 : Fin k0_t1_loop.trips) (k0_t4 : Fin k0_t4_loop.trips) (c0_i32_797 : BitVec 32) (c0_i32_798 : BitVec 32) : Fin 2 → Nat :=
  let c0_i32_53 : BitVec 32 := 0#32
  let c1_i32_55 : BitVec 32 := 1#32
  let arg13 : BitVec 32 := Scf.iv c0_i32_53 c1_i32_55 k0_t4
  let c4_i32 : BitVec 32 := 4#32
  let v1934 : BitVec 32 := Scalar.muli arg13 c4_i32
  let v1935 : BitVec 32 := Scalar.addi v1934 c0_i32_797
  let c32_i32 : BitVec 32 := 32#32
  let v1936 : BitVec 32 := Scalar.muli v1935 c32_i32
  let v1937 : BitVec 32 := Scalar.addi v1936 c0_i32_798
  let v1938 : BitVec 32 := v1937
  let v1941 : Index := Scalar.indexCast v1938
  let c0_i32_1 : BitVec 32 := 0#32
  let c1_i32 : BitVec 32 := 1#32
  let arg12 : BitVec 32 := Scf.iv c0_i32_1 c1_i32 k0_t1
  let c128_i32_799 : BitVec 32 := 128#32
  let v1939 : BitVec 32 := Scalar.muli arg12 c128_i32_799
  let v1940 : BitVec 32 := v1939
  let v1942 : Index := Scalar.indexCast v1940
  ![v1941.toNat, v1942.toNat]
def k0_mult6 (k0_t4 : Fin k0_t4_loop.trips) : BitVec 32 :=
  let c0_i32_53 : BitVec 32 := 0#32
  let c1_i32_55 : BitVec 32 := 1#32
  let arg13 : BitVec 32 := Scf.iv c0_i32_53 c1_i32_55 k0_t4
  let c4_i32_800 : BitVec 32 := 4#32
  let v1948 : BitVec 32 := Scalar.muli arg13 c4_i32_800
  let c1_i32_801 : BitVec 32 := 1#32
  let v1949 : BitVec 32 := Scalar.addi v1948 c1_i32_801
  let c32_i32_802 : BitVec 32 := 32#32
  let v1950 : BitVec 32 := Scalar.muli v1949 c32_i32_802
  let c0_i32_803 : BitVec 32 := 0#32
  let v1951 : BitVec 32 := Scalar.addi v1950 c0_i32_803
  v1951
def k0_mult7 (k0_t1 : Fin k0_t1_loop.trips) : BitVec 32 :=
  let c0_i32_1 : BitVec 32 := 0#32
  let c1_i32 : BitVec 32 := 1#32
  let arg12 : BitVec 32 := Scf.iv c0_i32_1 c1_i32 k0_t1
  let c128_i32_804 : BitVec 32 := 128#32
  let v1953 : BitVec 32 := Scalar.muli arg12 c128_i32_804
  v1953
def k0_mult8 (k0_t4 : Fin k0_t4_loop.trips) : BitVec 32 :=
  let c0_i32_53 : BitVec 32 := 0#32
  let c1_i32_55 : BitVec 32 := 1#32
  let arg13 : BitVec 32 := Scf.iv c0_i32_53 c1_i32_55 k0_t4
  let c4_i32_805 : BitVec 32 := 4#32
  let v1962 : BitVec 32 := Scalar.muli arg13 c4_i32_805
  let c2_i32_806 : BitVec 32 := 2#32
  let v1963 : BitVec 32 := Scalar.addi v1962 c2_i32_806
  let c32_i32_807 : BitVec 32 := 32#32
  let v1964 : BitVec 32 := Scalar.muli v1963 c32_i32_807
  let c0_i32_808 : BitVec 32 := 0#32
  let v1965 : BitVec 32 := Scalar.addi v1964 c0_i32_808
  v1965
def k0_mult9 (k0_t1 : Fin k0_t1_loop.trips) : BitVec 32 :=
  let c0_i32_1 : BitVec 32 := 0#32
  let c1_i32 : BitVec 32 := 1#32
  let arg12 : BitVec 32 := Scf.iv c0_i32_1 c1_i32 k0_t1
  let c128_i32_809 : BitVec 32 := 128#32
  let v1967 : BitVec 32 := Scalar.muli arg12 c128_i32_809
  v1967
def k0_mult10 (k0_t4 : Fin k0_t4_loop.trips) : BitVec 32 :=
  let c0_i32_53 : BitVec 32 := 0#32
  let c1_i32_55 : BitVec 32 := 1#32
  let arg13 : BitVec 32 := Scf.iv c0_i32_53 c1_i32_55 k0_t4
  let c4_i32_810 : BitVec 32 := 4#32
  let v1976 : BitVec 32 := Scalar.muli arg13 c4_i32_810
  let c3_i32_811 : BitVec 32 := 3#32
  let v1977 : BitVec 32 := Scalar.addi v1976 c3_i32_811
  let c32_i32_812 : BitVec 32 := 32#32
  let v1978 : BitVec 32 := Scalar.muli v1977 c32_i32_812
  let c0_i32_813 : BitVec 32 := 0#32
  let v1979 : BitVec 32 := Scalar.addi v1978 c0_i32_813
  v1979
def k0_mult11 (k0_t1 : Fin k0_t1_loop.trips) : BitVec 32 :=
  let c0_i32_1 : BitVec 32 := 0#32
  let c1_i32 : BitVec 32 := 1#32
  let arg12 : BitVec 32 := Scf.iv c0_i32_1 c1_i32 k0_t1
  let c128_i32_814 : BitVec 32 := 128#32
  let v1981 : BitVec 32 := Scalar.muli arg12 c128_i32_814
  v1981
def k0_mult12 (k0_t4 : Fin k0_t4_loop.trips) : BitVec 32 :=
  let c0_i32_53 : BitVec 32 := 0#32
  let c1_i32_55 : BitVec 32 := 1#32
  let arg13 : BitVec 32 := Scf.iv c0_i32_53 c1_i32_55 k0_t4
  let c4_i32_1610 : BitVec 32 := 4#32
  let v3848 : BitVec 32 := Scalar.muli arg13 c4_i32_1610
  let c0_i32_1611 : BitVec 32 := 0#32
  let v3849 : BitVec 32 := Scalar.addi v3848 c0_i32_1611
  let c32_i32_1612 : BitVec 32 := 32#32
  let v3850 : BitVec 32 := Scalar.muli v3849 c32_i32_1612
  let c16_i32 : BitVec 32 := 16#32
  let v3851 : BitVec 32 := Scalar.addi v3850 c16_i32
  v3851
def k0_mult13 (k0_t1 : Fin k0_t1_loop.trips) : BitVec 32 :=
  let c0_i32_1 : BitVec 32 := 0#32
  let c1_i32 : BitVec 32 := 1#32
  let arg12 : BitVec 32 := Scf.iv c0_i32_1 c1_i32 k0_t1
  let c128_i32_1613 : BitVec 32 := 128#32
  let v3853 : BitVec 32 := Scalar.muli arg12 c128_i32_1613
  v3853
def k0_mult14 (k0_t4 : Fin k0_t4_loop.trips) : BitVec 32 :=
  let c0_i32_53 : BitVec 32 := 0#32
  let c1_i32_55 : BitVec 32 := 1#32
  let arg13 : BitVec 32 := Scf.iv c0_i32_53 c1_i32_55 k0_t4
  let c4_i32_1614 : BitVec 32 := 4#32
  let v3862 : BitVec 32 := Scalar.muli arg13 c4_i32_1614
  let c1_i32_1615 : BitVec 32 := 1#32
  let v3863 : BitVec 32 := Scalar.addi v3862 c1_i32_1615
  let c32_i32_1616 : BitVec 32 := 32#32
  let v3864 : BitVec 32 := Scalar.muli v3863 c32_i32_1616
  let c16_i32_1617 : BitVec 32 := 16#32
  let v3865 : BitVec 32 := Scalar.addi v3864 c16_i32_1617
  v3865
def k0_mult15 (k0_t1 : Fin k0_t1_loop.trips) : BitVec 32 :=
  let c0_i32_1 : BitVec 32 := 0#32
  let c1_i32 : BitVec 32 := 1#32
  let arg12 : BitVec 32 := Scf.iv c0_i32_1 c1_i32 k0_t1
  let c128_i32_1618 : BitVec 32 := 128#32
  let v3867 : BitVec 32 := Scalar.muli arg12 c128_i32_1618
  v3867
def k0_mult16 (k0_t4 : Fin k0_t4_loop.trips) : BitVec 32 :=
  let c0_i32_53 : BitVec 32 := 0#32
  let c1_i32_55 : BitVec 32 := 1#32
  let arg13 : BitVec 32 := Scf.iv c0_i32_53 c1_i32_55 k0_t4
  let c4_i32_1619 : BitVec 32 := 4#32
  let v3876 : BitVec 32 := Scalar.muli arg13 c4_i32_1619
  let c2_i32_1620 : BitVec 32 := 2#32
  let v3877 : BitVec 32 := Scalar.addi v3876 c2_i32_1620
  let c32_i32_1621 : BitVec 32 := 32#32
  let v3878 : BitVec 32 := Scalar.muli v3877 c32_i32_1621
  let c16_i32_1622 : BitVec 32 := 16#32
  let v3879 : BitVec 32 := Scalar.addi v3878 c16_i32_1622
  v3879
def k0_mult17 (k0_t1 : Fin k0_t1_loop.trips) : BitVec 32 :=
  let c0_i32_1 : BitVec 32 := 0#32
  let c1_i32 : BitVec 32 := 1#32
  let arg12 : BitVec 32 := Scf.iv c0_i32_1 c1_i32 k0_t1
  let c128_i32_1623 : BitVec 32 := 128#32
  let v3881 : BitVec 32 := Scalar.muli arg12 c128_i32_1623
  v3881
def k0_mult18 (k0_t4 : Fin k0_t4_loop.trips) : BitVec 32 :=
  let c0_i32_53 : BitVec 32 := 0#32
  let c1_i32_55 : BitVec 32 := 1#32
  let arg13 : BitVec 32 := Scf.iv c0_i32_53 c1_i32_55 k0_t4
  let c4_i32_1624 : BitVec 32 := 4#32
  let v3890 : BitVec 32 := Scalar.muli arg13 c4_i32_1624
  let c3_i32_1625 : BitVec 32 := 3#32
  let v3891 : BitVec 32 := Scalar.addi v3890 c3_i32_1625
  let c32_i32_1626 : BitVec 32 := 32#32
  let v3892 : BitVec 32 := Scalar.muli v3891 c32_i32_1626
  let c16_i32_1627 : BitVec 32 := 16#32
  let v3893 : BitVec 32 := Scalar.addi v3892 c16_i32_1627
  v3893
def k0_mult19 (k0_t1 : Fin k0_t1_loop.trips) : BitVec 32 :=
  let c0_i32_1 : BitVec 32 := 0#32
  let c1_i32 : BitVec 32 := 1#32
  let arg12 : BitVec 32 := Scf.iv c0_i32_1 c1_i32 k0_t1
  let c128_i32_1628 : BitVec 32 := 128#32
  let v3895 : BitVec 32 := Scalar.muli arg12 c128_i32_1628
  v3895
@[reducible] def k0_t5_loop : Scf.Loop 32 :=
  let c0_i32_3 : BitVec 32 := 0#32
  let c40_i32 : BitVec 32 := 40#32
  let v4 : BitVec 32 := Scalar.addi c0_i32_3 c40_i32
  let c1_i32_4 : BitVec 32 := 1#32
  ⟨c0_i32_3, v4, c1_i32_4⟩
def k0_mult20 (k0_t5 : Fin k0_t5_loop.trips) : BitVec 32 :=
  let c0_i32_3 : BitVec 32 := 0#32
  let c1_i32_4 : BitVec 32 := 1#32
  let arg12 : BitVec 32 := Scf.iv c0_i32_3 c1_i32_4 k0_t5
  let c32_i32 : BitVec 32 := 32#32
  let v65 : BitVec 32 := Scalar.muli arg12 c32_i32
  v65
def k0_off57 (k0_t5 : Fin k0_t5_loop.trips) : Fin 2 → Nat :=
  let c0_i32_3 : BitVec 32 := 0#32
  let c1_i32_4 : BitVec 32 := 1#32
  let arg12 : BitVec 32 := Scf.iv c0_i32_3 c1_i32_4 k0_t5
  let c32_i32 : BitVec 32 := 32#32
  let v65 : BitVec 32 := Scalar.muli arg12 c32_i32
  let v66 : BitVec 32 := v65
  let v67 : Index := Scalar.indexCast v66
  let c0_46 : Index := 0#32
  ![v67.toNat, 0]
def k0_off58 (k0_t5 : Fin k0_t5_loop.trips) : Fin 3 → Nat :=
  let c0_83 : Index := 0#32
  let c0_i32_3 : BitVec 32 := 0#32
  let c1_i32_4 : BitVec 32 := 1#32
  let arg12 : BitVec 32 := Scf.iv c0_i32_3 c1_i32_4 k0_t5
  let c32_i32 : BitVec 32 := 32#32
  let v65 : BitVec 32 := Scalar.muli arg12 c32_i32
  let v66 : BitVec 32 := v65
  let v200 : Index := Scalar.indexCast v66
  let c0_84 : Index := 0#32
  ![0, v200.toNat, 0]
def k0_off59 (k0_t5 : Fin k0_t5_loop.trips) : Fin 2 → Nat :=
  let c0_i32_3 : BitVec 32 := 0#32
  let c1_i32_4 : BitVec 32 := 1#32
  let arg12 : BitVec 32 := Scf.iv c0_i32_3 c1_i32_4 k0_t5
  let c32_i32 : BitVec 32 := 32#32
  let v65 : BitVec 32 := Scalar.muli arg12 c32_i32
  let v66 : BitVec 32 := v65
  let v204 : Index := Scalar.indexCast v66
  let c0_85 : Index := 0#32
  ![v204.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1536x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x49x16x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1280x1536 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DwlnReferenceIdeal.lean ====
variable {F : FTy → Type} [FloatOps F] [Named F]
def κ : String → Option EReal := fun
  | "ln_two" => some ((Real.log 2 : ℝ) : EReal)
  | _ => none
-- ==== DwlnReference.lean ====
abbrev S12x1536x1280 : Shape := ⟨3, ![12, 1536, 1280]⟩
abbrev S1536x7x7 : Shape := ⟨3, ![1536, 7, 7]⟩
abbrev S1536 : Shape := ⟨1, ![1536]⟩
abbrev S12x1280x1536 : Shape := ⟨3, ![12, 1280, 1536]⟩
abbrev S12x40x32x1536 : Shape := ⟨4, ![12, 40, 32, 1536]⟩
abbrev S_ : Shape := ⟨0, ![]⟩
abbrev S12x46x38x1536 : Shape := ⟨4, ![12, 46, 38, 1536]⟩
abbrev S7x7x1536 : Shape := ⟨3, ![7, 7, 1536]⟩
abbrev S1x1x1x1536 : Shape := ⟨4, ![1, 1, 1, 1536]⟩
abbrev S1x1x1536 : Shape := ⟨3, ![1, 1, 1536]⟩
abbrev S12x1x1280 : Shape := ⟨3, ![12, 1, 1280]⟩
abbrev S12x1280 : Shape := ⟨2, ![12, 1280]⟩
abbrev S12x1280x1 : Shape := ⟨3, ![12, 1280, 1]⟩

abbrev nBuf : Space → Nat
  | .hbm => 16
  | .vmem => 7
  | .smem => 0
  | _ => 0

abbrev bufTy : (tb : Table) → Fin (tcTables nBuf tb) → BufTy
  | .hbm, ⟨0, _⟩ => ⟨S12x1536x1280, .bf16⟩
  | .hbm, ⟨1, _⟩ => ⟨S1536x7x7, .bf16⟩
  | .hbm, ⟨2, _⟩ => ⟨S1536, .f32⟩
  | .hbm, ⟨3, _⟩ => ⟨S1536, .f32⟩
  | .hbm, ⟨4, _⟩ => ⟨S1536, .f32⟩
  | .hbm, ⟨5, _⟩ => ⟨S12x1280x1536, .bf16⟩
  | .hbm, ⟨6, _⟩ => ⟨S12x40x32x1536, .bf16⟩
  | .hbm, ⟨7, _⟩ => ⟨S_, .i32⟩
  | .hbm, ⟨8, _⟩ => ⟨S_, .bf16⟩
  | .hbm, ⟨9, _⟩ => ⟨S12x46x38x1536, .bf16⟩
  | .hbm, ⟨10, _⟩ => ⟨S7x7x1536, .bf16⟩
  | .hbm, ⟨11, _⟩ => ⟨S1x1x1x1536, .f32⟩
  | .hbm, ⟨12, _⟩ => ⟨S1x1x1536, .f32⟩
  | .hbm, ⟨13, _⟩ => ⟨S1x1x1536, .f32⟩
  | .hbm, ⟨14, _⟩ => ⟨S12x1280x1536, .fp8e4m3⟩
  | .hbm, ⟨15, _⟩ => ⟨S12x1x1280, .f32⟩
  | .local _ .vmem, ⟨0, _⟩ => ⟨S12x46x38x1536, .bf16⟩
  | .local _ .vmem, ⟨1, _⟩ => ⟨S7x7x1536, .bf16⟩
  | .local _ .vmem, ⟨2, _⟩ => ⟨S1x1x1x1536, .f32⟩
  | .local _ .vmem, ⟨3, _⟩ => ⟨S1x1x1536, .f32⟩
  | .local _ .vmem, ⟨4, _⟩ => ⟨S1x1x1536, .f32⟩
  | .local _ .vmem, ⟨5, _⟩ => ⟨S12x1280x1536, .fp8e4m3⟩
  | .local _ .vmem, ⟨6, _⟩ => ⟨S12x1x1280, .f32⟩
  | _, _ => ⟨S12x1536x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S12x46x38x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7x7x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1x1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x1280x1536 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x1x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Gelu.lean ====
/- The arithmetic of one element on both sides, over the extended reals. The kernel folds the root of a half into the
   first product's scale and bias and never multiplies by a half: its `h` is `u * (1 + erf u)` with `u = c * y`, and
   `h * c` is the reference's `0.5 * y * (1 + erf (y * c))`. The second product's layer scale is folded the same way. -/
module

public import Idealize.ShloMosaic.PureOps.Ideal.Laws
public import Idealize.ShloMosaic.Lib.Tactic

@[expose] public section

noncomputable section

namespace Cert.Gelu

open Idealize.ShloMosaic

/-- The root of a half, as the certificate names it. -/
def c : EReal := (((Real.sqrt 2)⁻¹ : ℝ) : EReal)

theorem c_pos : 0 < c := by
  unfold c
  exact_mod_cast inv_pos.mpr (Real.sqrt_pos.mpr two_pos)

theorem c_ne_top : c ≠ ⊤ := EReal.coe_ne_top _

theorem c_mul_c : c * c = (((1 / 2 : ℝ)) : EReal) := by
  unfold c
  rw [← EReal.coe_mul, ← mul_inv, Real.mul_self_sqrt two_pos.le, one_div]

/-- The pre-activation, the reference's and the kernel's. -/
def y (acc s w b : EReal) : EReal := acc * s * w + b
def u (acc s w b : EReal) : EReal := acc * s * (w * c) + b * c

/-- The activation, the reference's and the kernel's. -/
def hR (acc s w b : EReal) : EReal :=
  ((1 / 2 : ℝ) : EReal) * y acc s w b * (1 + Ideal.erf (y acc s w b * c))
def hK (acc s w b : EReal) : EReal := u acc s w b * (1 + Ideal.erf (u acc s w b))

theorem u_eq (acc s w b : EReal) : u acc s w b = y acc s w b * c := by
  unfold u y
  rw [EReal.right_distrib_of_nonneg_of_ne_top c_pos.le c_ne_top, mul_assoc (acc * s)]

/-- The kernel's activation times the root of a half is the reference's. -/
theorem hK_mul (acc s w b : EReal) : hK acc s w b * c = hR acc s w b := by
  unfold hK hR
  rw [u_eq, ← c_mul_c]
  ac_rfl

/-- Multiplying by the root of a half passes under an absolute value. -/
theorem abs_mul_c (x : EReal) : max x (-x) * c = max (x * c) (-(x * c)) := by
  rw [← EReal.neg_mul]
  exact Monotone.map_max (f := fun z : EReal => z * c) (fun a b h => mul_le_mul_of_nonneg_right h c_pos.le)

theorem abs_hK (acc s w b : EReal) :
    max (hK acc s w b) (-(hK acc s w b)) * c = max (hR acc s w b) (-(hR acc s w b)) := by
  rw [abs_mul_c, hK_mul]

/-- A quantised entry: the value clipped to the format's range. -/
def clip (x : EReal) : EReal := min (448 : ℝ) (max (((-448 : ℝ)) : EReal) x)

theorem quant (acc s w b i : EReal) : clip (hK acc s w b * (i * c)) = clip (hR acc s w b * i) := by
  rw [← hK_mul]
  congr 1
  ac_rfl

/-- The layer scale folded into the second product's scale and bias, for a finite scale and bias. -/
theorem layer (acc s w b g : EReal) (hb : b ≠ ⊤) (hb' : b ≠ ⊥) (hg : g ≠ ⊤) (hg' : g ≠ ⊥) :
    acc * s * (w * g) + b * g = g * (acc * s * w + b) := by
  lift b to ℝ using ⟨hb, hb'⟩
  lift g to ℝ using ⟨hg, hg'⟩
  rw [← mul_assoc, mul_comm (g : EReal)]
  generalize acc * s * w = m
  induction m with
  | bot =>
    rw [EReal.bot_add]
    rcases lt_trichotomy g 0 with h | h | h
    · rw [EReal.bot_mul_coe_of_neg h, ← EReal.coe_mul, EReal.top_add_coe]
    · subst h; simp
    · rw [EReal.bot_mul_coe_of_pos h, EReal.bot_add]
  | top =>
    rw [EReal.top_add_coe]
    rcases lt_trichotomy g 0 with h | h | h
    · rw [EReal.top_mul_coe_of_neg h, EReal.bot_add]
    · subst h; simp
    · rw [EReal.top_mul_coe_of_pos h, ← EReal.coe_mul, EReal.top_add_coe]
  | coe m =>
    rw [← EReal.coe_mul, ← EReal.coe_mul, ← EReal.coe_add, ← EReal.coe_add, ← EReal.coe_mul]
    congr 1
    ring

end Cert.Gelu
-- ==== Proof.Activation.lean ====
/- The activation a block of the kernel holds. A block has 256 rows. It works through the 6144 hidden columns in twelve
chunks of 512; `h` is the activation at one row and column, and each chunk of the kernel's body is shown to be `h` on its
columns. The kernel's activation is √2 times the one of the problem (see `Gelu`).
-/
module

public import proofs.«01_k».proof.Proof.Gen.KernelIdeal.Frame
public import proofs.«01_k».proof.Proof.Gelu
public import Idealize.ShloMosaic.Lib.Tactic
public import Idealize.ShloMosaic.Lib.Pointwise
public import Idealize.ShloMosaic.Lib.Pipeline.Value

@[expose] public section

set_option maxRecDepth 16384

noncomputable section

namespace Cert.KernelIdeal.Block

open Idealize.ShloMosaic Idealize.ShloMosaic.TcCoe Idealize.SL.Sem
open Cert.KernelIdeal Cert.KernelIdeal.Gen

/-- The named constant is 1/√2. -/
theorem sqrt_half : Named.named (F := Ideal) Cert.KernelIdeal.κ "sqrt_half" (φ := .f32) 0x3F3504F3#32 = Gelu.c :=
  IdealRules.named_const.ideal_named_scalar _ _ _ _ rfl

variable (x0 : Vec Ideal S256x1536 .fp8e4m3)
variable (x1 : Vec Ideal S1x1x256 .f32)
variable (x3 : Vec Ideal S1536x6144 .fp8e4m3)
variable (x4 : Vec Ideal S1x6144 .f32)
variable (x5 : Vec Ideal S1x6144 .f32)

/-- The activation of a block at row `r`, column `n` (0 past the last column, so that a column may be a plain number). -/
def h (r : Fin 256) (n : ℕ) : EReal :=
  if hn : n < 6144 then
    Gelu.hK (∑ k : Fin 1536, x0 (ix2 r k) * x3 (ix2 k ⟨n, hn⟩)) (x1 (ix3 0 0 r)) (x4 (ix2 0 ⟨n, hn⟩)) (x5 (ix2 0 ⟨n, hn⟩))
  else 0

theorem h_eq (r : Fin 256) (n : ℕ) (hn : n < 6144) : h x0 x1 x3 x4 x5 r n
    = Gelu.hK (∑ k : Fin 1536, x0 (ix2 r k) * x3 (ix2 k ⟨n, hn⟩)) (x1 (ix3 0 0 r)) (x4 (ix2 0 ⟨n, hn⟩)) (x5 (ix2 0 ⟨n, hn⟩)) :=
  dif_pos hn

/-- The activation on the 512 columns from `o` on, as the vector the kernel holds. -/
def chunk (o : ℕ) : FVec Ideal S256x512 .f32 := fun x => h x0 x1 x3 x4 x5 (x 0) (o + (x 1).val)

variable (c : Dev nD)
variable (arg1 : Memref sig .tc .vmem S256x1536 .fp8e4m3) (harg1 : arg1.IsWhole)
variable (arg2 : Memref sig .tc .vmem S1x1x256 .f32) (harg2 : arg2.IsWhole)
variable (arg4 : Memref sig .tc .vmem S1536x6144 .fp8e4m3) (harg4 : arg4.IsWhole)
variable (arg5 : Memref sig .tc .vmem S1x6144 .f32) (harg5 : arg5.IsWhole)
variable (arg6 : Memref sig .tc .vmem S1x6144 .f32) (harg6 : arg6.IsWhole)

/-! ## The twelve chunks -/

theorem chunk_0 : k0_pay4 (View.readAt (Elt Ideal) arg1.view (Rect.unit (s := S256x1536) ![0, 0] S256x1536.size inb_S256x1536_S256x1536_0_0).toLoadRect (harg1.unread x0)) (View.readAt (Elt Ideal) arg2.view (Rect.unit (s := S1x1x256) ![0, 0, 0] S1x1x256.size inb_S1x1x256_S1x1x256_0_0_0).toLoadRect (harg2.unread x1)) (View.readAt (Elt Ideal) arg4.view (Rect.unit (s := S1536x6144) ![0, 0] S1536x512.size inb_S1536x6144_S1536x512_0_0).toLoadRect (harg4.unread x3)) (View.readAt (Elt Ideal) arg5.view (Rect.unit (s := S1x6144) ![0, 0] S1x512.size inb_S1x6144_S1x512_0_0).toLoadRect (harg5.unread x4)) (View.readAt (Elt Ideal) arg6.view (Rect.unit (s := S1x6144) ![0, 0] S1x512.size inb_S1x6144_S1x512_0_0).toLoadRect (harg6.unread x5))
    = chunk x0 x1 x3 x4 x5 0 := by
  funext j
  idx_vars j
  simp only [View.readAt_eq_ld, harg1.read_unread, harg2.read_unread, harg4.read_unread, harg5.read_unread, harg6.read_unread]
  unfold_payloads
  pointwise
  simp only [sqrt_half]
  exact ((h_eq x0 x1 x3 x4 x5 j0 (j1.val) (by omega)).symm.trans (congrArg _ (Nat.zero_add _).symm))

theorem chunk_1 : k0_pay8 (kernelRun0_A.sl.r c arg1 harg1 x0) (kernelRun0_A.sl.r_1 c arg2 harg2 x1) (View.readAt (Elt Ideal) arg4.view (Rect.unit (s := S1536x6144) ![0, 512] S1536x512.size inb_S1536x6144_S1536x512_0_512).toLoadRect (harg4.unread x3)) (View.readAt (Elt Ideal) arg5.view (Rect.unit (s := S1x6144) ![0, 512] S1x512.size inb_S1x6144_S1x512_0_512).toLoadRect (harg5.unread x4)) (View.readAt (Elt Ideal) arg6.view (Rect.unit (s := S1x6144) ![0, 512] S1x512.size inb_S1x6144_S1x512_0_512).toLoadRect (harg6.unread x5))
    = chunk x0 x1 x3 x4 x5 512 := by
  funext j
  idx_vars j
  unfold kernelRun0_A.sl.r kernelRun0_A.sl.r_1
  simp only [View.readAt_eq_ld, harg1.read_unread, harg2.read_unread, harg4.read_unread, harg5.read_unread, harg6.read_unread]
  unfold_payloads
  pointwise
  simp only [sqrt_half]
  exact (h_eq x0 x1 x3 x4 x5 j0 (512 + j1.val) (by omega)).symm

theorem chunk_2 : k0_pay12 (kernelRun0_A.sl.r_6 c arg1 harg1 arg2 harg2 arg4 harg4 x0 x1 x3) (View.readAt (Elt Ideal) arg5.view (Rect.unit (s := S1x6144) ![0, 1024] S1x512.size inb_S1x6144_S1x512_0_1024).toLoadRect (harg5.unread x4)) (View.readAt (Elt Ideal) arg6.view (Rect.unit (s := S1x6144) ![0, 1024] S1x512.size inb_S1x6144_S1x512_0_1024).toLoadRect (harg6.unread x5))
    = chunk x0 x1 x3 x4 x5 1024 := by
  funext j
  idx_vars j
  unfold kernelRun0_A.sl.r_6 kernelRun0_A.sl.r kernelRun0_A.sl.r_1
  simp only [View.readAt_eq_ld, harg1.read_unread, harg2.read_unread, harg4.read_unread, harg5.read_unread, harg6.read_unread]
  unfold_payloads
  pointwise
  simp only [sqrt_half]
  exact (h_eq x0 x1 x3 x4 x5 j0 (1024 + j1.val) (by omega)).symm

theorem chunk_3 : k0_pay17 (kernelRun0_A.sl.r_8 c arg1 harg1 arg2 harg2 arg4 harg4 arg5 harg5 x0 x1 x3 x4) (kernelRun0_A.sl.r_9 c arg6 harg6 x5)
    = chunk x0 x1 x3 x4 x5 1536 := by
  funext j
  idx_vars j
  unfold kernelRun0_A.sl.r_8 kernelRun0_A.sl.r_9 kernelRun0_A.sl.r kernelRun0_A.sl.r_1
  simp only [View.readAt_eq_ld, harg1.read_unread, harg2.read_unread, harg4.read_unread, harg5.read_unread, harg6.read_unread]
  unfold_payloads
  pointwise
  simp only [sqrt_half]
  exact (h_eq x0 x1 x3 x4 x5 j0 (1536 + j1.val) (by omega)).symm

theorem chunk_4 : kernelRun0_A.sl.r_11 c arg1 harg1 arg2 harg2 arg4 harg4 arg5 harg5 arg6 harg6 x0 x1 x3 x4 x5
    = chunk x0 x1 x3 x4 x5 2048 := by
  funext j
  idx_vars j
  unfold kernelRun0_A.sl.r_11 kernelRun0_A.sl.r kernelRun0_A.sl.r_1
  simp only [View.readAt_eq_ld, harg1.read_unread, harg2.read_unread, harg4.read_unread, harg5.read_unread, harg6.read_unread]
  unfold_payloads
  pointwise
  simp only [sqrt_half]
  exact (h_eq x0 x1 x3 x4 x5 j0 (2048 + j1.val) (by omega)).symm

theorem chunk_5 : k0_pay22 (kernelRun0_A.sl.r c arg1 harg1 x0) (kernelRun0_A.sl.r_1 c arg2 harg2 x1) (View.readAt (Elt Ideal) arg4.view (Rect.unit (s := S1536x6144) ![0, 2560] S1536x512.size inb_S1536x6144_S1536x512_0_2560).toLoadRect (harg4.unread x3)) (View.readAt (Elt Ideal) arg5.view (Rect.unit (s := S1x6144) ![0, 2560] S1x512.size inb_S1x6144_S1x512_0_2560).toLoadRect (harg5.unread x4)) (View.readAt (Elt Ideal) arg6.view (Rect.unit (s := S1x6144) ![0, 2560] S1x512.size inb_S1x6144_S1x512_0_2560).toLoadRect (harg6.unread x5))
    = chunk x0 x1 x3 x4 x5 2560 := by
  funext j
  idx_vars j
  unfold kernelRun0_A.sl.r kernelRun0_A.sl.r_1
  simp only [View.readAt_eq_ld, harg1.read_unread, harg2.read_unread, harg4.read_unread, harg5.read_unread, harg6.read_unread]
  unfold_payloads
  pointwise
  simp only [sqrt_half]
  exact (h_eq x0 x1 x3 x4 x5 j0 (2560 + j1.val) (by omega)).symm

theorem chunk_6 : k0_pay26 (kernelRun0_A.sl.r c arg1 harg1 x0) (kernelRun0_A.sl.r_1 c arg2 harg2 x1) (View.readAt (Elt Ideal) arg4.view (Rect.unit (s := S1536x6144) ![0, 3072] S1536x512.size inb_S1536x6144_S1536x512_0_3072).toLoadRect (harg4.unread x3)) (View.readAt (Elt Ideal) arg5.view (Rect.unit (s := S1x6144) ![0, 3072] S1x512.size inb_S1x6144_S1x512_0_3072).toLoadRect (harg5.unread x4)) (View.readAt (Elt Ideal) arg6.view (Rect.unit (s := S1x6144) ![0, 3072] S1x512.size inb_S1x6144_S1x512_0_3072).toLoadRect (harg6.unread x5))
    = chunk x0 x1 x3 x4 x5 3072 := by
  funext j
  idx_vars j
  unfold kernelRun0_A.sl.r kernelRun0_A.sl.r_1
  simp only [View.readAt_eq_ld, harg1.read_unread, harg2.read_unread, harg4.read_unread, harg5.read_unread, harg6.read_unread]
  unfold_payloads
  pointwise
  simp only [sqrt_half]
  exact (h_eq x0 x1 x3 x4 x5 j0 (3072 + j1.val) (by omega)).symm

theorem chunk_7 : k0_pay30 (kernelRun0_A.sl.r_16 c arg1 harg1 arg2 harg2 arg4 harg4 x0 x1 x3) (View.readAt (Elt Ideal) arg5.view (Rect.unit (s := S1x6144) ![0, 3584] S1x512.size inb_S1x6144_S1x512_0_3584).toLoadRect (harg5.unread x4)) (View.readAt (Elt Ideal) arg6.view (Rect.unit (s := S1x6144) ![0, 3584] S1x512.size inb_S1x6144_S1x512_0_3584).toLoadRect (harg6.unread x5))
    = chunk x0 x1 x3 x4 x5 3584 := by
  funext j
  idx_vars j
  unfold kernelRun0_A.sl.r_16 kernelRun0_A.sl.r kernelRun0_A.sl.r_1
  simp only [View.readAt_eq_ld, harg1.read_unread, harg2.read_unread, harg4.read_unread, harg5.read_unread, harg6.read_unread]
  unfold_payloads
  pointwise
  simp only [sqrt_half]
  exact (h_eq x0 x1 x3 x4 x5 j0 (3584 + j1.val) (by omega)).symm

theorem chunk_8 : k0_pay35 (kernelRun0_A.sl.r_18 c arg1 harg1 arg2 harg2 arg4 harg4 arg5 harg5 x0 x1 x3 x4) (kernelRun0_A.sl.r_19 c arg6 harg6 x5)
    = chunk x0 x1 x3 x4 x5 4096 := by
  funext j
  idx_vars j
  unfold kernelRun0_A.sl.r_18 kernelRun0_A.sl.r_19 kernelRun0_A.sl.r kernelRun0_A.sl.r_1
  simp only [View.readAt_eq_ld, harg1.read_unread, harg2.read_unread, harg4.read_unread, harg5.read_unread, harg6.read_unread]
  unfold_payloads
  pointwise
  simp only [sqrt_half]
  exact (h_eq x0 x1 x3 x4 x5 j0 (4096 + j1.val) (by omega)).symm

theorem chunk_9 : kernelRun0_A.sl.r_21 c arg1 harg1 arg2 harg2 arg4 harg4 arg5 harg5 arg6 harg6 x0 x1 x3 x4 x5
    = chunk x0 x1 x3 x4 x5 4608 := by
  funext j
  idx_vars j
  unfold kernelRun0_A.sl.r_21 kernelRun0_A.sl.r kernelRun0_A.sl.r_1
  simp only [View.readAt_eq_ld, harg1.read_unread, harg2.read_unread, harg4.read_unread, harg5.read_unread, harg6.read_unread]
  unfold_payloads
  pointwise
  simp only [sqrt_half]
  exact (h_eq x0 x1 x3 x4 x5 j0 (4608 + j1.val) (by omega)).symm

theorem chunk_10 : k0_pay40 (kernelRun0_A.sl.r c arg1 harg1 x0) (kernelRun0_A.sl.r_1 c arg2 harg2 x1) (View.readAt (Elt Ideal) arg4.view (Rect.unit (s := S1536x6144) ![0, 5120] S1536x512.size inb_S1536x6144_S1536x512_0_5120).toLoadRect (harg4.unread x3)) (View.readAt (Elt Ideal) arg5.view (Rect.unit (s := S1x6144) ![0, 5120] S1x512.size inb_S1x6144_S1x512_0_5120).toLoadRect (harg5.unread x4)) (View.readAt (Elt Ideal) arg6.view (Rect.unit (s := S1x6144) ![0, 5120] S1x512.size inb_S1x6144_S1x512_0_5120).toLoadRect (harg6.unread x5))
    = chunk x0 x1 x3 x4 x5 5120 := by
  funext j
  idx_vars j
  unfold kernelRun0_A.sl.r kernelRun0_A.sl.r_1
  simp only [View.readAt_eq_ld, harg1.read_unread, harg2.read_unread, harg4.read_unread, harg5.read_unread, harg6.read_unread]
  unfold_payloads
  pointwise
  simp only [sqrt_half]
  exact (h_eq x0 x1 x3 x4 x5 j0 (5120 + j1.val) (by omega)).symm

theorem chunk_11 : k0_pay44 (kernelRun0_A.sl.r c arg1 harg1 x0) (kernelRun0_A.sl.r_1 c arg2 harg2 x1) (View.readAt (Elt Ideal) arg4.view (Rect.unit (s := S1536x6144) ![0, 5632] S1536x512.size inb_S1536x6144_S1536x512_0_5632).toLoadRect (harg4.unread x3)) (View.readAt (Elt Ideal) arg5.view (Rect.unit (s := S1x6144) ![0, 5632] S1x512.size inb_S1x6144_S1x512_0_5632).toLoadRect (harg5.unread x4)) (View.readAt (Elt Ideal) arg6.view (Rect.unit (s := S1x6144) ![0, 5632] S1x512.size inb_S1x6144_S1x512_0_5632).toLoadRect (harg6.unread x5))
    = chunk x0 x1 x3 x4 x5 5632 := by
  funext j
  idx_vars j
  unfold kernelRun0_A.sl.r kernelRun0_A.sl.r_1
  simp only [View.readAt_eq_ld, harg1.read_unread, harg2.read_unread, harg4.read_unread, harg5.read_unread, harg6.read_unread]
  unfold_payloads
  pointwise
  simp only [sqrt_half]
  exact (h_eq x0 x1 x3 x4 x5 j0 (5632 + j1.val) (by omega)).symm

end Cert.KernelIdeal.Block
-- ==== Proof.RowMax.lean ====
/- The largest absolute value of a row, as the kernel finds it: 48 groups of 128 columns are folded lane by lane into 128
running maxima, and at the end one maximum over the 128 lanes is taken and multiplied by 1/√2.
-/
module

public import proofs.«01_k».proof.Proof.Activation

@[expose] public section

set_option maxRecDepth 16384

noncomputable section

namespace Cert.KernelIdeal.Block

open Idealize.ShloMosaic Idealize.ShloMosaic.TcCoe Idealize.SL.Sem
open Cert.KernelIdeal Cert.KernelIdeal.Gen

variable (x0 : Vec Ideal S256x1536 .fp8e4m3)
variable (x1 : Vec Ideal S1x1x256 .f32)
variable (x3 : Vec Ideal S1536x6144 .fp8e4m3)
variable (x4 : Vec Ideal S1x6144 .f32)
variable (x5 : Vec Ideal S1x6144 .f32)

/-- The running maximum of lane `l` of row `r` after the first `g` groups of 128 columns. -/
def run (r : Fin 256) (l : ℕ) : ℕ → EReal
  | 0 => 0
  | g + 1 => max (run r l g) (max (h x0 x1 x3 x4 x5 r (128 * g + l)) (-(h x0 x1 x3 x4 x5 r (128 * g + l))))

/-- The 128 running maxima of each row after `g` groups, as the vector the kernel holds. -/
def running (g : ℕ) : FVec Ideal S256x128 .f32 := fun x => run x0 x1 x3 x4 x5 (x 0) (x 1).val g

/-- The absolute values of group `g`. -/
def group (g : ℕ) : FVec Ideal S256x128 .f32 := fun x =>
  max (h x0 x1 x3 x4 x5 (x 0) (128 * g + (x 1).val)) (-(h x0 x1 x3 x4 x5 (x 0) (128 * g + (x 1).val)))

/-- An absolute value is not negative. -/
theorem abs_nonneg' (a : EReal) : 0 ≤ max a (-a) := by
  rcases le_total 0 a with h | h
  · exact le_trans h (le_max_left _ _)
  · exact le_trans (EReal.neg_nonneg.mpr h) (le_max_right _ _)

theorem absf_ideal (a : EReal) : FloatOps.absf (F := Ideal) (φ := .f32) a = max a (-a) := rfl

variable (c : Dev nD)
variable (arg1 : Memref sig .tc .vmem S256x1536 .fp8e4m3) (harg1 : arg1.IsWhole)
variable (arg2 : Memref sig .tc .vmem S1x1x256 .f32) (harg2 : arg2.IsWhole)
variable (arg4 : Memref sig .tc .vmem S1536x6144 .fp8e4m3) (harg4 : arg4.IsWhole)
variable (arg5 : Memref sig .tc .vmem S1x6144 .f32) (harg5 : arg5.IsWhole)
variable (arg6 : Memref sig .tc .vmem S1x6144 .f32) (harg6 : arg6.IsWhole)

theorem r_2_eq : (kernelRun0_A.sl.r_2 c arg1 harg1 arg2 harg2 arg4 harg4 arg5 harg5 arg6 harg6 x0 x1 x3 x4 x5) = chunk x0 x1 x3 x4 x5 0 := by
  unfold kernelRun0_A.sl.r_2
  exact chunk_0 ..

theorem r_12_eq : (kernelRun0_A.sl.r_12 c arg1 harg1 arg2 harg2 arg4 harg4 arg5 harg5 arg6 harg6 x0 x1 x3 x4 x5) = chunk x0 x1 x3 x4 x5 2560 := by
  unfold kernelRun0_A.sl.r_12
  exact chunk_5 ..

theorem r_22_eq : (kernelRun0_A.sl.r_22 c arg1 harg1 arg2 harg2 arg4 harg4 arg5 harg5 arg6 harg6 x0 x1 x3 x4 x5) = chunk x0 x1 x3 x4 x5 5120 := by
  unfold kernelRun0_A.sl.r_22
  exact chunk_10 ..

theorem r_3_eq : (kernelRun0_A.sl.r_3 c arg1 harg1 arg2 harg2 arg4 harg4 arg5 harg5 arg6 harg6 x0 x1 x3 x4 x5) = running x0 x1 x3 x4 x5 2 := by
  unfold kernelRun0_A.sl.r_3 k0_pay6
  rw [chunk_0]
  funext j
  idx_vars j
  pointwise [chunk, running, group, run]
  simp only [absf_ideal, ← Nat.add_assoc, Nat.reduceAdd]

theorem r_4_eq : (kernelRun0_A.sl.r_4 c arg1 harg1 arg2 harg2 arg4 harg4 arg5 harg5 arg6 harg6 x0 x1 x3 x4 x5) = group x0 x1 x3 x4 x5 2 := by
  unfold kernelRun0_A.sl.r_4 k0_pay7
  rw [chunk_0]
  funext j
  idx_vars j
  pointwise [chunk, running, group, run]
  simp only [absf_ideal, ← Nat.add_assoc, Nat.reduceAdd]

theorem r_5_eq : (kernelRun0_A.sl.r_5 c arg1 harg1 arg2 harg2 arg4 harg4 arg5 harg5 arg6 harg6 x0 x1 x3 x4 x5) = running x0 x1 x3 x4 x5 8 := by
  unfold kernelRun0_A.sl.r_5 k0_pay10
  rw [chunk_1, r_2_eq, r_3_eq, r_4_eq]
  funext j
  idx_vars j
  pointwise [chunk, running, group, run]
  simp only [absf_ideal, ← Nat.add_assoc, Nat.reduceAdd]

theorem r_7_eq : (kernelRun0_A.sl.r_7 c arg1 harg1 arg2 harg2 arg4 harg4 arg5 harg5 arg6 harg6 x0 x1 x3 x4 x5) = running x0 x1 x3 x4 x5 12 := by
  unfold kernelRun0_A.sl.r_7 k0_pay14
  rw [chunk_2, r_5_eq]
  funext j
  idx_vars j
  pointwise [chunk, running, group, run]
  simp only [absf_ideal, ← Nat.add_assoc, Nat.reduceAdd]

theorem r_10_eq : (kernelRun0_A.sl.r_10 c arg1 harg1 arg2 harg2 arg4 harg4 arg5 harg5 arg6 harg6 x0 x1 x3 x4 x5) = running x0 x1 x3 x4 x5 16 := by
  unfold kernelRun0_A.sl.r_10 k0_pay19
  rw [chunk_3, r_7_eq]
  funext j
  idx_vars j
  pointwise [chunk, running, group, run]
  simp only [absf_ideal, ← Nat.add_assoc, Nat.reduceAdd]

theorem r_13_eq : (kernelRun0_A.sl.r_13 c arg1 harg1 arg2 harg2 arg4 harg4 arg5 harg5 arg6 harg6 x0 x1 x3 x4 x5) = running x0 x1 x3 x4 x5 22 := by
  unfold kernelRun0_A.sl.r_13 k0_pay24
  rw [chunk_4, chunk_5, r_10_eq]
  funext j
  idx_vars j
  pointwise [chunk, running, group, run]
  simp only [absf_ideal, ← Nat.add_assoc, Nat.reduceAdd]

theorem r_14_eq : (kernelRun0_A.sl.r_14 c arg1 harg1 arg2 harg2 arg4 harg4 arg5 harg5 arg6 harg6 x0 x1 x3 x4 x5) = group x0 x1 x3 x4 x5 22 := by
  unfold kernelRun0_A.sl.r_14 k0_pay25
  rw [chunk_5]
  funext j
  idx_vars j
  pointwise [chunk, running, group, run]
  simp only [absf_ideal, ← Nat.add_assoc, Nat.reduceAdd]

theorem r_15_eq : (kernelRun0_A.sl.r_15 c arg1 harg1 arg2 harg2 arg4 harg4 arg5 harg5 arg6 harg6 x0 x1 x3 x4 x5) = running x0 x1 x3 x4 x5 28 := by
  unfold kernelRun0_A.sl.r_15 k0_pay28
  rw [chunk_6, r_12_eq, r_13_eq, r_14_eq]
  funext j
  idx_vars j
  pointwise [chunk, running, group, run]
  simp only [absf_ideal, ← Nat.add_assoc, Nat.reduceAdd]

theorem r_17_eq : (kernelRun0_A.sl.r_17 c arg1 harg1 arg2 harg2 arg4 harg4 arg5 harg5 arg6 harg6 x0 x1 x3 x4 x5) = running x0 x1 x3 x4 x5 32 := by
  unfold kernelRun0_A.sl.r_17 k0_pay32
  rw [chunk_7, r_15_eq]
  funext j
  idx_vars j
  pointwise [chunk, running, group, run]
  simp only [absf_ideal, ← Nat.add_assoc, Nat.reduceAdd]

theorem r_20_eq : (kernelRun0_A.sl.r_20 c arg1 harg1 arg2 harg2 arg4 harg4 arg5 harg5 arg6 harg6 x0 x1 x3 x4 x5) = running x0 x1 x3 x4 x5 36 := by
  unfold kernelRun0_A.sl.r_20 k0_pay37
  rw [chunk_8, r_17_eq]
  funext j
  idx_vars j
  pointwise [chunk, running, group, run]
  simp only [absf_ideal, ← Nat.add_assoc, Nat.reduceAdd]

theorem r_23_eq : (kernelRun0_A.sl.r_23 c arg1 harg1 arg2 harg2 arg4 harg4 arg5 harg5 arg6 harg6 x0 x1 x3 x4 x5) = running x0 x1 x3 x4 x5 42 := by
  unfold kernelRun0_A.sl.r_23 k0_pay42
  rw [chunk_9, chunk_10, r_20_eq]
  funext j
  idx_vars j
  pointwise [chunk, running, group, run]
  simp only [absf_ideal, ← Nat.add_assoc, Nat.reduceAdd]

theorem r_24_eq : (kernelRun0_A.sl.r_24 c arg1 harg1 arg2 harg2 arg4 harg4 arg5 harg5 arg6 harg6 x0 x1 x3 x4 x5) = group x0 x1 x3 x4 x5 42 := by
  unfold kernelRun0_A.sl.r_24 k0_pay43
  rw [chunk_10]
  funext j
  idx_vars j
  pointwise [chunk, running, group, run]
  simp only [absf_ideal, ← Nat.add_assoc, Nat.reduceAdd]

/-- The largest absolute value of row `r`. -/
def rowMax (r : Fin 256) : EReal :=
  Finset.univ.sup fun n : Fin 6144 => max (h x0 x1 x3 x4 x5 r n) (-(h x0 x1 x3 x4 x5 r n))

theorem run_le (r : Fin 256) (l : ℕ) (hl : l < 128) (g : ℕ) (hg : g ≤ 48) :
    run x0 x1 x3 x4 x5 r l g ≤ rowMax x0 x1 x3 x4 x5 r := by
  induction g with
  | zero =>
    refine le_trans ?_ (Finset.le_sup (Finset.mem_univ (0 : Fin 6144)))
    exact abs_nonneg' _
  | succ g ih =>
    exact max_le (ih (by omega)) (Finset.le_sup (f := fun n : Fin 6144 => max (h x0 x1 x3 x4 x5 r n) (-(h x0 x1 x3 x4 x5 r n)))
      (Finset.mem_univ (⟨128 * g + l, by omega⟩ : Fin 6144)))

theorem le_run (r : Fin 256) (l g k : ℕ) (hk : k < g) :
    max (h x0 x1 x3 x4 x5 r (128 * k + l)) (-(h x0 x1 x3 x4 x5 r (128 * k + l))) ≤ run x0 x1 x3 x4 x5 r l g := by
  induction g with
  | zero => omega
  | succ g ih =>
    rcases Nat.lt_succ_iff_lt_or_eq.mp hk with h | rfl
    · exact le_trans (ih h) (le_max_left _ _)
    · exact le_max_right _ _

/-- The maximum over the lanes of the 48-fold maxima is the maximum of the row. -/
theorem fold_run (r : Fin 256) :
    (Finset.univ.fold max ⊥ fun l : Fin 128 => run x0 x1 x3 x4 x5 r l.val 48) = rowMax x0 x1 x3 x4 x5 r := by
  refine le_antisymm ?_ ?_
  · exact (Finset.fold_max_le _).mpr ⟨bot_le, fun l _ => run_le _ _ _ _ _ r _ l.isLt 48 le_rfl⟩
  · refine Finset.sup_le fun n _ => ?_
    refine le_trans ?_ ((Finset.le_fold_max _).mpr (Or.inr ⟨⟨n.val % 128, by omega⟩, Finset.mem_univ _, le_rfl⟩))
    have e : n.val = 128 * (n.val / 128) + n.val % 128 := by omega
    have := le_run x0 x1 x3 x4 x5 r (n.val % 128) 48 (n.val / 128) (by omega)
    rwa [← e] at this

/-- What the kernel keeps of a row: its largest absolute value times 1/√2, in all 128 lanes. -/
theorem r_25_eq : (kernelRun0_A.sl.r_25 c arg1 harg1 arg2 harg2 arg4 harg4 arg5 harg5 arg6 harg6 x0 x1 x3 x4 x5) = fun x => rowMax x0 x1 x3 x4 x5 (x 0) * Gelu.c := by
  unfold kernelRun0_A.sl.r_25 k0_pay46
  rw [chunk_11, r_22_eq, r_23_eq, r_24_eq]
  funext j
  idx_vars j
  pointwise [chunk, running, group]
  simp only [absf_ideal, ← Nat.add_assoc, Nat.reduceAdd, sqrt_half]
  rw [← fold_run]
  rfl

end Cert.KernelIdeal.Block
-- ==== Proof.Scale.lean ====
/- The power-of-two scale of one row, on both sides. The kernel finds the exponent of `v` by a binary search over the
   words `k <<< 23`; the reference takes `floor (log2 v) + 1`, held to `[-126, 126]`. This module proves that the two
   scales, and the two inverse scales, are the same number, for every extended real `v ≥ 0`. -/
module

public import Idealize.ShloMosaic.PureOps.Ideal.Laws
public import Idealize.ShloMosaic.Lib.Tactic

@[expose] public section

noncomputable section

namespace Cert.Scale

open Idealize.ShloMosaic

/-- The float whose word is `k <<< 23`: the search's threshold, and the scale words. -/
def thr (k : BitVec 32) : EReal := Ideal.ofBits .f32 (k <<< 23)

theorem word_fields : ∀ n : Fin 255, ((BitVec.ofNat 32 n <<< 23).extractLsb' 31 1 = 0#1)
    ∧ ((BitVec.ofNat 32 n <<< 23).extractLsb' 23 8).toNat = n ∧ ((BitVec.ofNat 32 n <<< 23).extractLsb' 0 23).toNat = 0 := by
  decide +kernel

/-- The word `n <<< 23`, for `1 ≤ n ≤ 254`, is the float `2 ^ (n - 127)`. -/
theorem thr_ofNat (n : ℕ) (h1 : 1 ≤ n) (h2 : n ≤ 254) :
    thr (BitVec.ofNat 32 n) = (((2 : ℝ) ^ ((n : ℤ) - 127) : ℝ) : EReal) := by
  obtain ⟨f1, f2, f3⟩ := word_fields ⟨n, by omega⟩
  dsimp only at f1 f2 f3
  unfold thr
  simp only [Ideal.ofBits, Ideal.ieee, Nat.reduceAdd, f1, f2, f3]
  rw [if_neg (by omega), if_neg (by omega), EReal.coe_eq_coe_iff]
  have h2' : (2 : ℝ) ≠ 0 := two_ne_zero
  have e : (n : ℤ) - 127 = (23 : ℤ) + ((n : ℤ) - 127 - 23) := by ring
  rw [e, zpow_add₀ h2']
  norm_num

/-- One step of the search: raise `k` by `s` unless `v` is under the raised threshold. -/
def step (v : EReal) (s k : BitVec 32) : BitVec 32 :=
  if v < thr (k + s) then k else k + s

/-- What holds before each step, `R` the sum of the steps still to come. -/
def Inv (v : EReal) (R : ℕ) (k : BitVec 32) : Prop :=
  ∃ n : ℕ, k = BitVec.ofNat 32 n ∧ n + R ≤ 252
    ∧ (n = 0 ∨ (((2 : ℝ) ^ ((n : ℤ) - 127) : ℝ) : EReal) ≤ v)
    ∧ (n + R = 252 ∨ v < (((2 : ℝ) ^ ((n : ℤ) + R - 126) : ℝ) : EReal))

theorem zpow_le {a b : ℤ} (h : a ≤ b) : (((2 : ℝ) ^ a : ℝ) : EReal) ≤ (((2 : ℝ) ^ b : ℝ) : EReal) :=
  EReal.coe_le_coe_iff.mpr (zpow_le_zpow_right₀ one_le_two h)

theorem inv_step {v : EReal} {R : ℕ} {k : BitVec 32} (s : ℕ) (hs : 1 ≤ s) (R' : ℕ) (hR : R = R' + s) (hs' : s ≤ R' + 1)
    (h : Inv v R k) : Inv v R' (step v (BitVec.ofNat 32 s) k) := by
  obtain ⟨n, rfl, hn, hlo, hhi⟩ := h
  unfold step
  rw [← BitVec.ofNat_add, thr_ofNat _ (by omega) (by omega)]
  split
  · next hv =>
    refine ⟨n, rfl, by omega, hlo, Or.inr (hv.trans_le (zpow_le ?_))⟩
    push_cast
    omega
  · next hv =>
    refine ⟨n + s, rfl, by omega, Or.inr (not_lt.mp hv), ?_⟩
    rcases hhi with hhi | hhi
    · exact Or.inl (by omega)
    · refine Or.inr (lt_of_lt_of_eq hhi ?_)
      congr 3
      push_cast
      omega

/-- The exponent field the kernel finds: eight steps down to one. -/
def field (v : EReal) : BitVec 32 :=
  step v 1#32 (step v 2#32 (step v 4#32 (step v 8#32 (step v 16#32 (step v 32#32 (step v 64#32 (step v 125#32 0#32)))))))

/-- It is the greatest `n ≤ 252` with `2 ^ (n - 127) ≤ v`, or 0. -/
theorem field_spec (v : EReal) : ∃ n : ℕ, field v = BitVec.ofNat 32 n ∧ n ≤ 252
    ∧ (n = 0 ∨ (((2 : ℝ) ^ ((n : ℤ) - 127) : ℝ) : EReal) ≤ v)
    ∧ (n = 252 ∨ v < (((2 : ℝ) ^ ((n : ℤ) - 126) : ℝ) : EReal)) := by
  have h0 : Inv v 252 0#32 := ⟨0, rfl, le_rfl, Or.inl rfl, Or.inl rfl⟩
  have h8 := inv_step 1 (by norm_num) 0 rfl (by norm_num) <| inv_step 2 (by norm_num) 1 rfl (by norm_num) <|
    inv_step 4 (by norm_num) 3 rfl (by norm_num) <| inv_step 8 (by norm_num) 7 rfl (by norm_num) <|
    inv_step 16 (by norm_num) 15 rfl (by norm_num) <| inv_step 32 (by norm_num) 31 rfl (by norm_num) <|
    inv_step 64 (by norm_num) 63 rfl (by norm_num) <| inv_step 125 (by norm_num) 127 rfl (by norm_num) h0
  obtain ⟨n, hk, hn, hlo, hhi⟩ := h8
  refine ⟨n, hk, by omega, hlo, ?_⟩
  rcases hhi with hhi | hhi
  · exact Or.inl (by omega)
  · refine Or.inr (lt_of_lt_of_eq hhi ?_)
    congr 3

/-- The kernel's exponent word: the field less 126, and 0 for a zero row. -/
def expWord (a v : EReal) : BitVec 32 := if a = 0 ∨ v = 0 then 0#32 else field v - 126#32

/-- The kernel's scale and inverse scale. -/
def scaleK (a v : EReal) : EReal := thr (expWord a v + 127#32)
def invK (a v : EReal) : EReal := thr (127#32 - expWord a v)

/-- The reference's exponent: `floor (log2 v) + 1` held to `[-126, 126]`, and 0 for a zero row. -/
def expR (a v : EReal) : EReal :=
  if a = 0 then 0
  else min 126 (max (-126) (Ideal.liftRound Int.floor (Ideal.div (Ideal.log v) ((Real.log 2 : ℝ) : EReal)) + 1))

theorem field_sub (n : ℕ) (h : n ≤ 252) : BitVec.ofNat 32 n - 126#32 + 127#32 = BitVec.ofNat 32 (n + 1)
    ∧ 127#32 - (BitVec.ofNat 32 n - 126#32) = BitVec.ofNat 32 (253 - n) := by
  have : ∀ n : Fin 253, BitVec.ofNat 32 n - 126#32 + 127#32 = BitVec.ofNat 32 (n + 1)
    ∧ 127#32 - (BitVec.ofNat 32 n - 126#32) = BitVec.ofNat 32 (253 - n) := by decide +kernel
  exact this ⟨n, by omega⟩

theorem exp2_int (z : ℤ) : Ideal.exp2 (((z : ℝ) : ℝ) : EReal) = (((2 : ℝ) ^ z : ℝ) : EReal) := by
  rw [Ideal.exp2_coe]
  congr 1
  exact Real.rpow_intCast 2 z

/-- The two exponents of a row whose maximum is not zero, as one integer. -/
theorem exponent {v : EReal} (hv : 0 < v) : ∃ n : ℕ, field v = BitVec.ofNat 32 n ∧ n ≤ 252
    ∧ min (126 : EReal) (max (-126) (Ideal.liftRound Int.floor (Ideal.div (Ideal.log v) ((Real.log 2 : ℝ) : EReal)) + 1))
      = ((((n : ℤ) - 126 : ℤ) : ℝ) : EReal) := by
  obtain ⟨n, hf, hn, hlo, hhi⟩ := field_spec v
  refine ⟨n, hf, hn, ?_⟩
  have hl2 : (0 : ℝ) < Real.log 2 := Real.log_pos one_lt_two
  have hdiv : ∀ x : EReal, Ideal.div x ((Real.log 2 : ℝ) : EReal) = x * (((Real.log 2)⁻¹ : ℝ) : EReal) := by
    intro x
    unfold Ideal.div
    rw [if_neg (by rw [← EReal.coe_zero, EReal.coe_eq_coe_iff]; exact hl2.ne'), EReal.coe_inv]
  rw [hdiv]
  have h126 : (126 : EReal) = ((126 : ℝ) : EReal) := rfl
  induction v with
  | bot => exact absurd hv (by simp)
  | top =>
    have hn2 : n = 252 := by
      rcases hhi with h | h
      · exact h
      · exact absurd h (by simp)
    subst hn2
    rw [Ideal.log_top, EReal.top_mul_coe_of_pos (inv_pos.mpr hl2), Ideal.liftRound_top]
    rw [show (⊤ : EReal) + 1 = ⊤ from EReal.top_add_of_ne_bot (by decide), max_eq_right le_top, min_eq_left le_top, h126]
    norm_num
  | coe v =>
    have hv' : 0 < v := by exact_mod_cast hv
    rw [Ideal.log_coe, if_neg (not_le.mpr hv'), ← EReal.coe_mul, Ideal.liftRound_coe]
    rw [h126, ← EReal.coe_one, ← EReal.coe_neg, ← EReal.coe_add, ← EReal.coe_strictMono.monotone.map_max, ← EReal.coe_strictMono.monotone.map_min]
    congr 1
    have key : ∀ z : ℤ, (z ≤ ⌊Real.log v * (Real.log 2)⁻¹⌋ ↔ (2 : ℝ) ^ z ≤ v) := by
      intro z
      rw [Int.le_floor, ← div_eq_mul_inv, le_div_iff₀ hl2, ← Real.log_zpow, Real.log_le_log_iff (by positivity) hv']
    have hlo' : n = 0 ∨ (n : ℤ) - 127 ≤ ⌊Real.log v * (Real.log 2)⁻¹⌋ := by
      rcases hlo with h | h
      · exact Or.inl h
      · exact Or.inr ((key _).mpr (by exact_mod_cast h))
    have hhi' : n = 252 ∨ ⌊Real.log v * (Real.log 2)⁻¹⌋ < (n : ℤ) - 126 := by
      rcases hhi with h | h
      · exact Or.inl h
      · refine Or.inr (not_le.mp fun h' => ?_)
        have h1 := (key _).mp h'
        have h2 : v < (2 : ℝ) ^ ((n : ℤ) - 126) := by exact_mod_cast h
        exact absurd h1 (not_le.mpr h2)
    have : min (126 : ℤ) (max (-126) (⌊Real.log v * (Real.log 2)⁻¹⌋ + 1)) = (n : ℤ) - 126 := by omega
    have h := congrArg (fun z : ℤ => (z : ℝ)) this
    push_cast at h ⊢
    exact h

theorem expR_zero (v : EReal) : expR 0 v = 0 := if_pos rfl

theorem thr_127 : thr 127#32 = 1 := by
  have := thr_ofNat 127 (by norm_num) (by norm_num)
  rw [this]; norm_num

/-- THE SCALES AGREE: the kernel's scale is `2 ^ e` of the reference's exponent `e`. `a'` is what the kernel tests for
    zero, `a` what the reference tests, `v` the scaled maximum both take the exponent of. -/
theorem scale_eq {a a' v : EReal} (hz : a' = 0 ↔ a = 0) (h0 : a = 0 → v = 0) (hp : a ≠ 0 → 0 < v) :
    scaleK a' v = Ideal.exp2 (expR a v) := by
  unfold scaleK expWord expR
  by_cases ha : a = 0
  · rw [if_pos (Or.inl (hz.mpr ha)), if_pos ha, BitVec.zero_add, thr_127]
    have := exp2_int 0
    rw [Int.cast_zero, EReal.coe_zero] at this
    rw [this]; norm_num
  · have hv := hp ha
    rw [if_neg (by rintro (h | h); exacts [ha (hz.mp h), hv.ne' h]), if_neg ha]
    obtain ⟨n, hf, hn, he⟩ := exponent hv
    rw [he, exp2_int, hf, (field_sub n hn).1, thr_ofNat _ (by omega) (by omega)]
    congr 2
    push_cast
    ring

/-- THE INVERSE SCALES AGREE: `2 ^ (-e)`. -/
theorem inv_eq {a a' v : EReal} (hz : a' = 0 ↔ a = 0) (h0 : a = 0 → v = 0) (hp : a ≠ 0 → 0 < v) :
    invK a' v = Ideal.exp2 (0 - expR a v) := by
  unfold invK expWord expR
  by_cases ha : a = 0
  · rw [if_pos (Or.inl (hz.mpr ha)), if_pos ha, BitVec.sub_zero, thr_127, sub_zero]
    have := exp2_int 0
    rw [Int.cast_zero, EReal.coe_zero] at this
    rw [this]; norm_num
  · have hv := hp ha
    rw [if_neg (by rintro (h | h); exacts [ha (hz.mp h), hv.ne' h]), if_neg ha]
    obtain ⟨n, hf, hn, he⟩ := exponent hv
    have hneg : (0 : EReal) - ((((n : ℤ) - 126 : ℤ) : ℝ) : EReal) = (((126 - (n : ℤ) : ℤ) : ℝ) : EReal) := by
      rw [← EReal.coe_zero, ← EReal.coe_sub]
      congr 1
      push_cast
      ring
    rw [he, hneg, exp2_int, hf, (field_sub n hn).2, thr_ofNat _ (by omega) (by omega)]
    congr 2
    push_cast [show n ≤ 253 by omega]
    ring

end Cert.Scale
-- ==== Proof.BlockScale.lean ====
/- The two scales the kernel makes of a row's largest absolute value: the exponent word by the binary search, then the
words of the scale and of its inverse (see `Scale` for what they are as numbers).
-/
module

public import proofs.«01_k».proof.Proof.RowMax
public import proofs.«01_k».proof.Proof.Scale

@[expose] public section

set_option maxRecDepth 16384

noncomputable section

namespace Cert.KernelIdeal.Block

open Idealize.ShloMosaic Idealize.ShloMosaic.TcCoe Idealize.SL.Sem
open Cert.KernelIdeal Cert.KernelIdeal.Gen

/-- One step of the search, on a whole vector. -/
theorem vstep (v : FVec Ideal S256x128 .f32) (k : IVec S256x128 32) (s : BitVec 32) :
    select (cmpf .olt v (bitcastToFloat .f32 (shli (addi k (broadcast S256x128 s)) (broadcast S256x128 23#32)))) k
      (addi k (broadcast S256x128 s)) = fun x => Scale.step (v x) s (k x) := by
  funext x
  show (if (BitVec.ofBool (decide (v x < Scale.thr (k x + s)))) = 1#1 then k x else k x + s) = Scale.step (v x) s (k x)
  unfold Scale.step
  by_cases h : v x < Scale.thr (k x + s)
  · simp [h]
  · simp [h]

/-- The zero test. -/
theorem select_word (a v : EReal) (w : BitVec 32) :
    Scalar.select (IntOp.ori (BitVec.ofBool (decide (a = 0))) (BitVec.ofBool (decide (v = 0)))) 0#32 (IntOp.subi w 126#32)
      = if a = 0 ∨ v = 0 then 0#32 else w - 126#32 := by
  by_cases ha : a = 0 <;> by_cases hv : v = 0 <;> simp [ha, hv, Scalar.select, IntOp.ori, IntOp.subi]

variable (x0 : Vec Ideal S256x1536 .fp8e4m3)
variable (x1 : Vec Ideal S1x1x256 .f32)
variable (x3 : Vec Ideal S1536x6144 .fp8e4m3)
variable (x4 : Vec Ideal S1x6144 .f32)
variable (x5 : Vec Ideal S1x6144 .f32)

/-- Row `r`'s maximum, and the number whose exponent is taken: a 448th of it. -/
def amax (r : Fin 256) : EReal := rowMax x0 x1 x3 x4 x5 r * Gelu.c
def small (r : Fin 256) : EReal := amax x0 x1 x3 x4 x5 r * Ideal.ofBits .f32 0x3B124925#32

/-- Row `r`'s scale and inverse scale. -/
def scale (r : Fin 256) : EReal := Scale.scaleK (amax x0 x1 x3 x4 x5 r) (small x0 x1 x3 x4 x5 r)
def inv (r : Fin 256) : EReal := Scale.invK (amax x0 x1 x3 x4 x5 r) (small x0 x1 x3 x4 x5 r)

variable (c : Dev nD)
variable (arg1 : Memref sig .tc .vmem S256x1536 .fp8e4m3) (harg1 : arg1.IsWhole)
variable (arg2 : Memref sig .tc .vmem S1x1x256 .f32) (harg2 : arg2.IsWhole)
variable (arg4 : Memref sig .tc .vmem S1536x6144 .fp8e4m3) (harg4 : arg4.IsWhole)
variable (arg5 : Memref sig .tc .vmem S1x6144 .f32) (harg5 : arg5.IsWhole)
variable (arg6 : Memref sig .tc .vmem S1x6144 .f32) (harg6 : arg6.IsWhole)

theorem r_26_eq : (kernelRun0_A.sl.r_26 c arg1 harg1 arg2 harg2 arg4 harg4 arg5 harg5 arg6 harg6 x0 x1 x3 x4 x5) = fun x => small x0 x1 x3 x4 x5 (x 0) := by
  unfold kernelRun0_A.sl.r_26
  rw [r_25_eq]
  rfl

theorem r_27_eq : (kernelRun0_A.sl.r_27 c arg1 harg1 arg2 harg2 arg4 harg4 arg5 harg5 arg6 harg6 x0 x1 x3 x4 x5) = fun x => Scale.step (small x0 x1 x3 x4 x5 (x 0)) 16#32 (Scale.step (small x0 x1 x3 x4 x5 (x 0)) 32#32
    (Scale.step (small x0 x1 x3 x4 x5 (x 0)) 64#32 (Scale.step (small x0 x1 x3 x4 x5 (x 0)) 125#32 0#32))) := by
  have hv := r_26_eq x0 x1 x3 x4 x5 c arg1 harg1 arg2 harg2 arg4 harg4 arg5 harg5 arg6 harg6
  unfold kernelRun0_A.sl.r_26 at hv
  unfold kernelRun0_A.sl.r_27 k0_pay48
  rw [hv]
  dsimp only
  rw [vstep, vstep, vstep, vstep]
  rfl

/-- The exponent word of each row. -/
theorem r_29_eq : (kernelRun0_A.sl.r_29 c arg1 harg1 arg2 harg2 arg4 harg4 arg5 harg5 arg6 harg6 x0 x1 x3 x4 x5) = fun x => Scale.expWord (amax x0 x1 x3 x4 x5 (x 0)) (small x0 x1 x3 x4 x5 (x 0)) := by
  have h27 := r_27_eq x0 x1 x3 x4 x5 c arg1 harg1 arg2 harg2 arg4 harg4 arg5 harg5 arg6 harg6
  unfold kernelRun0_A.sl.r_27 at h27
  unfold kernelRun0_A.sl.r_29 kernelRun0_A.sl.r_27 kernelRun0_A.sl.r_28 k0_pay49 k0_pay50
  rw [r_25_eq, r_26_eq] at *
  rw [h27]
  dsimp only
  rw [vstep, vstep, vstep, vstep]
  funext y
  idx_vars y
  pointwise
  exact select_word _ _ _

/-- The word of the scale. -/
theorem r_30_eq : (kernelRun0_A.sl.r_30 c arg1 harg1 arg2 harg2 arg4 harg4 arg5 harg5 arg6 harg6 x0 x1 x3 x4 x5) = fun x =>
    (Scale.expWord (amax x0 x1 x3 x4 x5 (x 0)) (small x0 x1 x3 x4 x5 (x 0)) + 127#32) <<< 23 := by
  have h := r_29_eq x0 x1 x3 x4 x5 c arg1 harg1 arg2 harg2 arg4 harg4 arg5 harg5 arg6 harg6
  unfold kernelRun0_A.sl.r_29 at h
  unfold kernelRun0_A.sl.r_30 k0_pay51
  rw [h]
  rfl

/-- The column of scales. -/
theorem r_31_eq : (kernelRun0_A.sl.r_31 c arg1 harg1 arg2 harg2 arg4 harg4 arg5 harg5 arg6 harg6 x0 x1 x3 x4 x5) = fun x => scale x0 x1 x3 x4 x5 (x 0) := by
  unfold kernelRun0_A.sl.r_31 k0_pay54 k0_pay52
  rw [r_30_eq]
  funext y
  idx_vars y
  pointwise
  rfl

/-- The column of inverse scales, times 1/√2. -/
theorem inv_col : k0_pay55 (F := Ideal) (kernelRun0_A.sl.r_29 c arg1 harg1 arg2 harg2 arg4 harg4 arg5 harg5 arg6 harg6 x0 x1 x3 x4 x5) = fun x : S256x1.Idx => inv x0 x1 x3 x4 x5 (x 0) * Gelu.c := by
  unfold k0_pay55
  rw [r_29_eq]
  funext y
  idx_vars y
  pointwise
  rw [sqrt_half]
  rfl

theorem r_32_eq : (kernelRun0_A.sl.r_32 c arg1 harg1 arg2 harg2 arg4 harg4 arg5 harg5 arg6 harg6 x0 x1 x3 x4 x5) = fun x : S256x1.Idx => inv x0 x1 x3 x4 x5 (x 0) * Gelu.c := inv_col ..

/-- The block of scales the kernel stores. -/
theorem s2_block : k0_pay53 (F := Ideal) (kernelRun0_A.sl.r_30 c arg1 harg1 arg2 harg2 arg4 harg4 arg5 harg5 arg6 harg6 x0 x1 x3 x4 x5) = fun x : S1x1x256.Idx => scale x0 x1 x3 x4 x5 (x 2) := by
  unfold k0_pay53 k0_pay52
  rw [r_30_eq]
  funext y
  idx_vars y
  pointwise
  rfl

end Cert.KernelIdeal.Block
-- ==== Proof.Quantised.lean ====
/- What a block of the kernel stores of its quantised activation. The twelve chunks are first kept in the scratch buffer,
then read back, scaled by the row's inverse scale, clipped and stored, chunk by chunk; the second product reads the stored
block back whole.
-/
module

public import proofs.«01_k».proof.Proof.BlockScale

@[expose] public section

set_option maxRecDepth 16384

noncomputable section

namespace Cert.KernelIdeal.Block

open Idealize.ShloMosaic Idealize.ShloMosaic.TcCoe Idealize.SL.Sem
open Cert.KernelIdeal Cert.KernelIdeal.Gen

theorem c448 : Ideal.ofBits .f32 0x43E00000#32 = ((448 : ℝ) : EReal) := by
  have f1 : (0x43E00000#32).extractLsb' 31 1 = 0#1 := by decide
  have f2 : ((0x43E00000#32).extractLsb' 23 8).toNat = 135 := by decide
  have f3 : ((0x43E00000#32).extractLsb' 0 23).toNat = 6291456 := by decide
  simp only [Ideal.ofBits, Ideal.ieee, Nat.reduceAdd, f1, f2, f3]
  rw [if_neg (by omega), if_neg (by omega), EReal.coe_eq_coe_iff]
  norm_num

theorem cm448 : Ideal.ofBits .f32 0xC3E00000#32 = ((-448 : ℝ) : EReal) := by
  have f1 : (0xC3E00000#32).extractLsb' 31 1 = 1#1 := by decide
  have f2 : ((0xC3E00000#32).extractLsb' 23 8).toNat = 135 := by decide
  have f3 : ((0xC3E00000#32).extractLsb' 0 23).toNat = 6291456 := by decide
  simp only [Ideal.ofBits, Ideal.ieee, Nat.reduceAdd, f1, f2, f3]
  rw [if_neg (by omega), if_neg (by omega), EReal.coe_eq_coe_iff]
  norm_num

/-- Clipping as the kernel writes it. -/
theorem clip_eq (x : EReal) :
    min (Ideal.ofBits .f32 0x43E00000#32) (max (Ideal.ofBits .f32 0xC3E00000#32) x) = Gelu.clip x := by
  rw [c448, cm448]
  rfl

variable (x0 : Vec Ideal S256x1536 .fp8e4m3)
variable (x1 : Vec Ideal S1x1x256 .f32)
variable (x3 : Vec Ideal S1536x6144 .fp8e4m3)
variable (x4 : Vec Ideal S1x6144 .f32)
variable (x5 : Vec Ideal S1x6144 .f32)

/-- The quantised activation at row `r`, column `n`. -/
def q (r : Fin 256) (n : ℕ) : EReal := Gelu.clip (h x0 x1 x3 x4 x5 r n * (inv x0 x1 x3 x4 x5 r * Gelu.c))

/-- The scratch buffer and the stored block, whole. -/
def scratch : Vec Ideal S256x6144 .f32 := fun y => h x0 x1 x3 x4 x5 (y 0) (y 1).val
def qblock : Vec Ideal S256x6144 .fp8e4m3 := fun y => q x0 x1 x3 x4 x5 (y 0) (y 1).val
/-- The stored block on the 512 columns from `o` on. -/
def qchunk (o : ℕ) : FVec Ideal S256x512 .fp8e4m3 := fun y => q x0 x1 x3 x4 x5 (y 0) (o + (y 1).val)

/-- A rectangle of 512 columns from `o` on: where its elements lie. -/
theorem emb_val (o : ℕ) (inb) (y : S256x512.Idx) :
    (Rect.unit (s := S256x6144) ![0, o] S256x512.size inb).emb y 0 = y 0
      ∧ ((Rect.unit (s := S256x6144) ![0, o] S256x512.size inb).emb y 1).val = o + (y 1).val := by
  constructor
  · refine Fin.ext ?_
    show 0 + 1 * (y 0).val = (y 0).val
    omega
  · show o + 1 * (y 1).val = o + (y 1).val
    omega

theorem chunk_emb (o : ℕ) (inb) (y : S256x512.Idx) : chunk x0 x1 x3 x4 x5 o y
    = scratch x0 x1 x3 x4 x5 ((Rect.unit (s := S256x6144) ![0, o] S256x512.size inb).emb y) := by
  obtain ⟨e0, e1⟩ := emb_val o inb y
  unfold scratch chunk
  rw [e0, e1]

theorem qchunk_emb (o : ℕ) (inb) (y : S256x512.Idx) : qchunk x0 x1 x3 x4 x5 o y
    = qblock x0 x1 x3 x4 x5 ((Rect.unit (s := S256x6144) ![0, o] S256x512.size inb).emb y) := by
  obtain ⟨e0, e1⟩ := emb_val o inb y
  unfold qblock qchunk
  rw [e0, e1]

variable (c : Dev nD)
variable (arg1 : Memref sig .tc .vmem S256x1536 .fp8e4m3) (harg1 : arg1.IsWhole)
variable (arg2 : Memref sig .tc .vmem S1x1x256 .f32) (harg2 : arg2.IsWhole)
variable (arg4 : Memref sig .tc .vmem S1536x6144 .fp8e4m3) (harg4 : arg4.IsWhole)
variable (arg5 : Memref sig .tc .vmem S1x6144 .f32) (harg5 : arg5.IsWhole)
variable (arg6 : Memref sig .tc .vmem S1x6144 .f32) (harg6 : arg6.IsWhole)
variable (arg11 : Memref sig .tc .vmem S256x6144 .fp8e4m3)
variable (arg13 : Memref sig .tc .vmem S256x6144 .f32)

/-- Every piece of the scratch buffer is the activation on its columns. -/
theorem scratch_pieces : ∀ p ∈ (kernelRun0_A.sl.HS0_12 c arg1 harg1 arg2 harg2 arg4 harg4 arg5 harg5 arg6 harg6 x0 x1 x3 x4 x5), ∀ y : p.1.shape.Idx, p.2 y = scratch x0 x1 x3 x4 x5 (p.1.emb y) := by
  unfold kernelRun0_A.sl.HS0_12
  refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, (fun p hp => nomatch hp)⟩⟩⟩⟩⟩⟩⟩⟩⟩⟩⟩⟩
  · intro y
    dsimp only at y ⊢
    unfold k0_pay45
    rw [shapeCast_self, chunk_11]
    exact chunk_emb ..
  · intro y
    dsimp only at y ⊢
    unfold k0_pay41
    rw [shapeCast_self, chunk_10]
    exact chunk_emb ..
  · intro y
    dsimp only at y ⊢
    unfold k0_pay39
    rw [shapeCast_self, chunk_9]
    exact chunk_emb ..
  · intro y
    dsimp only at y ⊢
    unfold k0_pay36
    rw [shapeCast_self, chunk_8]
    exact chunk_emb ..
  · intro y
    dsimp only at y ⊢
    unfold k0_pay31
    rw [shapeCast_self, chunk_7]
    exact chunk_emb ..
  · intro y
    dsimp only at y ⊢
    unfold k0_pay27
    rw [shapeCast_self, chunk_6]
    exact chunk_emb ..
  · intro y
    dsimp only at y ⊢
    unfold k0_pay23
    rw [shapeCast_self, chunk_5]
    exact chunk_emb ..
  · intro y
    dsimp only at y ⊢
    unfold k0_pay21
    rw [shapeCast_self, chunk_4]
    exact chunk_emb ..
  · intro y
    dsimp only at y ⊢
    unfold k0_pay18
    rw [shapeCast_self, chunk_3]
    exact chunk_emb ..
  · intro y
    dsimp only at y ⊢
    unfold k0_pay13
    rw [shapeCast_self, chunk_2]
    exact chunk_emb ..
  · intro y
    dsimp only at y ⊢
    unfold k0_pay9
    rw [shapeCast_self, chunk_1]
    exact chunk_emb ..
  · intro y
    dsimp only at y ⊢
    unfold k0_pay5
    rw [shapeCast_self, chunk_0]
    exact chunk_emb ..

theorem scratch_cover : ∀ y, ∃ p ∈ (kernelRun0_A.sl.HS0_12 c arg1 harg1 arg2 harg2 arg4 harg4 arg5 harg5 arg6 harg6 x0 x1 x3 x4 x5), y ∈ p.1.set :=
  View.cover_of_tiledL (kernelRun0_A.sl.HS0_12 c arg1 harg1 arg2 harg2 arg4 harg4 arg5 harg5 arg6 harg6 x0 x1 x3 x4 x5) S256x512.size (by sl_kernel_rfl)

theorem scratch_eq : View.canon (kernelRun0_A.sl.HS0_12 c arg1 harg1 arg2 harg2 arg4 harg4 arg5 harg5 arg6 harg6 x0 x1 x3 x4 x5) = scratch x0 x1 x3 x4 x5 :=
  funext fun y => View.canon_apply_of_pieces _ _ (scratch_pieces x0 x1 x3 x4 x5 c arg1 harg1 arg2 harg2 arg4 harg4 arg5 harg5 arg6 harg6) y (scratch_cover x0 x1 x3 x4 x5 c arg1 harg1 arg2 harg2 arg4 harg4 arg5 harg5 arg6 harg6 y)

/-- Reading 512 columns of the scratch buffer back. -/
theorem read_back (o : ℕ) (inb) :
    arg13.view.readCov (kernelRun0_A.sl.HS0_12 c arg1 harg1 arg2 harg2 arg4 harg4 arg5 harg5 arg6 harg6 x0 x1 x3 x4 x5) (Rect.unit (s := S256x6144) ![0, o] S256x512.size inb).toLoadRect = chunk x0 x1 x3 x4 x5 o := by
  rw [View.readCov_eq_canon', scratch_eq]
  exact funext fun y => (chunk_emb x0 x1 x3 x4 x5 o inb y).symm

theorem v538_eq : kernelRun0_A.sl.v538 c arg1 harg1 arg2 harg2 arg4 harg4 arg5 harg5 arg6 harg6 arg13 x0 x1 x3 x4 x5 = chunk x0 x1 x3 x4 x5 0 := read_back ..

theorem v547_eq : kernelRun0_A.sl.v547 c arg1 harg1 arg2 harg2 arg4 harg4 arg5 harg5 arg6 harg6 arg13 x0 x1 x3 x4 x5 = chunk x0 x1 x3 x4 x5 512 := read_back ..

theorem v556_eq : kernelRun0_A.sl.v556 c arg1 harg1 arg2 harg2 arg4 harg4 arg5 harg5 arg6 harg6 arg13 x0 x1 x3 x4 x5 = chunk x0 x1 x3 x4 x5 1024 := read_back ..

theorem v565_eq : kernelRun0_A.sl.v565 c arg1 harg1 arg2 harg2 arg4 harg4 arg5 harg5 arg6 harg6 arg13 x0 x1 x3 x4 x5 = chunk x0 x1 x3 x4 x5 1536 := read_back ..

theorem v574_eq : kernelRun0_A.sl.v574 c arg1 harg1 arg2 harg2 arg4 harg4 arg5 harg5 arg6 harg6 arg13 x0 x1 x3 x4 x5 = chunk x0 x1 x3 x4 x5 2048 := read_back ..

theorem v583_eq : kernelRun0_A.sl.v583 c arg1 harg1 arg2 harg2 arg4 harg4 arg5 harg5 arg6 harg6 arg13 x0 x1 x3 x4 x5 = chunk x0 x1 x3 x4 x5 2560 := read_back ..

theorem v592_eq : kernelRun0_A.sl.v592 c arg1 harg1 arg2 harg2 arg4 harg4 arg5 harg5 arg6 harg6 arg13 x0 x1 x3 x4 x5 = chunk x0 x1 x3 x4 x5 3072 := read_back ..

theorem v601_eq : kernelRun0_A.sl.v601 c arg1 harg1 arg2 harg2 arg4 harg4 arg5 harg5 arg6 harg6 arg13 x0 x1 x3 x4 x5 = chunk x0 x1 x3 x4 x5 3584 := read_back ..

theorem v610_eq : kernelRun0_A.sl.v610 c arg1 harg1 arg2 harg2 arg4 harg4 arg5 harg5 arg6 harg6 arg13 x0 x1 x3 x4 x5 = chunk x0 x1 x3 x4 x5 4096 := read_back ..

theorem v619_eq : kernelRun0_A.sl.v619 c arg1 harg1 arg2 harg2 arg4 harg4 arg5 harg5 arg6 harg6 arg13 x0 x1 x3 x4 x5 = chunk x0 x1 x3 x4 x5 4608 := read_back ..

theorem v628_eq : kernelRun0_A.sl.v628 c arg1 harg1 arg2 harg2 arg4 harg4 arg5 harg5 arg6 harg6 arg13 x0 x1 x3 x4 x5 = chunk x0 x1 x3 x4 x5 5120 := read_back ..

theorem v637_eq : kernelRun0_A.sl.v637 c arg1 harg1 arg2 harg2 arg4 harg4 arg5 harg5 arg6 harg6 arg13 x0 x1 x3 x4 x5 = chunk x0 x1 x3 x4 x5 5632 := read_back ..

/-- Every stored piece is the quantised activation on its columns. -/
theorem q_pieces : ∀ p ∈ (kernelRun0_A.sl.H10_12 c arg1 harg1 arg2 harg2 arg4 harg4 arg5 harg5 arg6 harg6 arg13 x0 x1 x3 x4 x5), ∀ y : p.1.shape.Idx, p.2 y = qblock x0 x1 x3 x4 x5 (p.1.emb y) := by
  unfold kernelRun0_A.sl.H10_12
  refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, (fun p hp => nomatch hp)⟩⟩⟩⟩⟩⟩⟩⟩⟩⟩⟩⟩
  · intro y
    dsimp only at y ⊢
    refine Eq.trans (congrFun (?_ : _ = qchunk x0 x1 x3 x4 x5 5632) y) (qchunk_emb ..)
    unfold k0_pay68
    rw [r_32_eq, v637_eq]
    funext z
    idx_vars z
    pointwise [chunk, qchunk]
    exact clip_eq _
  · intro y
    dsimp only at y ⊢
    refine Eq.trans (congrFun (?_ : _ = qchunk x0 x1 x3 x4 x5 5120) y) (qchunk_emb ..)
    unfold k0_pay67
    rw [r_32_eq, v628_eq]
    funext z
    idx_vars z
    pointwise [chunk, qchunk]
    exact clip_eq _
  · intro y
    dsimp only at y ⊢
    refine Eq.trans (congrFun (?_ : _ = qchunk x0 x1 x3 x4 x5 4608) y) (qchunk_emb ..)
    unfold kernelRun0_A.sl.r_34 k0_pay66
    rw [r_32_eq, v619_eq]
    funext z
    idx_vars z
    pointwise [chunk, qchunk]
    exact clip_eq _
  · intro y
    dsimp only at y ⊢
    refine Eq.trans (congrFun (?_ : _ = qchunk x0 x1 x3 x4 x5 4096) y) (qchunk_emb ..)
    unfold k0_pay65
    rw [r_32_eq, v610_eq]
    funext z
    idx_vars z
    pointwise [chunk, qchunk]
    exact clip_eq _
  · intro y
    dsimp only at y ⊢
    refine Eq.trans (congrFun (?_ : _ = qchunk x0 x1 x3 x4 x5 3584) y) (qchunk_emb ..)
    unfold k0_pay64
    rw [r_32_eq, v601_eq]
    funext z
    idx_vars z
    pointwise [chunk, qchunk]
    exact clip_eq _
  · intro y
    dsimp only at y ⊢
    refine Eq.trans (congrFun (?_ : _ = qchunk x0 x1 x3 x4 x5 3072) y) (qchunk_emb ..)
    unfold k0_pay63
    rw [r_32_eq, v592_eq]
    funext z
    idx_vars z
    pointwise [chunk, qchunk]
    exact clip_eq _
  · intro y
    dsimp only at y ⊢
    refine Eq.trans (congrFun (?_ : _ = qchunk x0 x1 x3 x4 x5 2560) y) (qchunk_emb ..)
    unfold k0_pay62
    rw [r_32_eq, v583_eq]
    funext z
    idx_vars z
    pointwise [chunk, qchunk]
    exact clip_eq _
  · intro y
    dsimp only at y ⊢
    refine Eq.trans (congrFun (?_ : _ = qchunk x0 x1 x3 x4 x5 2048) y) (qchunk_emb ..)
    unfold k0_pay61
    rw [r_32_eq, v574_eq]
    funext z
    idx_vars z
    pointwise [chunk, qchunk]
    exact clip_eq _
  · intro y
    dsimp only at y ⊢
    refine Eq.trans (congrFun (?_ : _ = qchunk x0 x1 x3 x4 x5 1536) y) (qchunk_emb ..)
    unfold k0_pay60
    rw [r_32_eq, v565_eq]
    funext z
    idx_vars z
    pointwise [chunk, qchunk]
    exact clip_eq _
  · intro y
    dsimp only at y ⊢
    refine Eq.trans (congrFun (?_ : _ = qchunk x0 x1 x3 x4 x5 1024) y) (qchunk_emb ..)
    unfold kernelRun0_A.sl.r_33 kernelRun0_A.sl.cst_179 k0_pay59 k0_pay58
    rw [inv_col, v556_eq]
    funext z
    idx_vars z
    pointwise [chunk, qchunk]
    exact clip_eq _
  · intro y
    dsimp only at y ⊢
    refine Eq.trans (congrFun (?_ : _ = qchunk x0 x1 x3 x4 x5 512) y) (qchunk_emb ..)
    unfold k0_pay57
    rw [inv_col, v547_eq]
    funext z
    idx_vars z
    pointwise [chunk, qchunk]
    exact clip_eq _
  · intro y
    dsimp only at y ⊢
    refine Eq.trans (congrFun (?_ : _ = qchunk x0 x1 x3 x4 x5 0) y) (qchunk_emb ..)
    unfold k0_pay56
    rw [inv_col, v538_eq]
    funext z
    idx_vars z
    pointwise [chunk, qchunk]
    exact clip_eq _

theorem q_cover : ∀ y, ∃ p ∈ (kernelRun0_A.sl.H10_12 c arg1 harg1 arg2 harg2 arg4 harg4 arg5 harg5 arg6 harg6 arg13 x0 x1 x3 x4 x5), y ∈ p.1.set :=
  View.cover_of_tiledL (kernelRun0_A.sl.H10_12 c arg1 harg1 arg2 harg2 arg4 harg4 arg5 harg5 arg6 harg6 arg13 x0 x1 x3 x4 x5) S256x512.size (by sl_kernel_rfl)

theorem q_eq : View.canon (kernelRun0_A.sl.H10_12 c arg1 harg1 arg2 harg2 arg4 harg4 arg5 harg5 arg6 harg6 arg13 x0 x1 x3 x4 x5) = qblock x0 x1 x3 x4 x5 :=
  funext fun y => View.canon_apply_of_pieces _ _ (q_pieces x0 x1 x3 x4 x5 c arg1 harg1 arg2 harg2 arg4 harg4 arg5 harg5 arg6 harg6 arg13) y (q_cover x0 x1 x3 x4 x5 c arg1 harg1 arg2 harg2 arg4 harg4 arg5 harg5 arg6 harg6 arg13 y)

/-- The stored block, read back whole by the second product. -/
theorem v646_eq : kernelRun0_A.sl.v646 c arg1 harg1 arg2 harg2 arg4 harg4 arg5 harg5 arg6 harg6 arg11 arg13 x0 x1 x3 x4 x5 = qblock x0 x1 x3 x4 x5 := by
  unfold kernelRun0_A.sl.v646
  rw [View.readCov_eq_canon', q_eq]
  funext y
  refine congrArg (qblock x0 x1 x3 x4 x5) (funext fun a => Fin.ext ?_)
  match a with
  | ⟨0, _⟩ => exact (show 0 + 1 * (y 0).val = (y 0).val by omega)
  | ⟨1, _⟩ => exact (show 0 + 1 * (y 1).val = (y 1).val by omega)

end Cert.KernelIdeal.Block
-- ==== Proof.OutBlock.lean ====
/- What one block of the kernel leaves in its three results, in closed form.
-/
module

public import proofs.«01_k».proof.Proof.Quantised

@[expose] public section

set_option maxRecDepth 16384

noncomputable section

namespace Cert.KernelIdeal.Block

open Idealize.ShloMosaic Idealize.ShloMosaic.TcCoe Idealize.SL.Sem
open Cert.KernelIdeal Cert.KernelIdeal.Gen

variable (x0 : Vec Ideal S256x1536 .fp8e4m3)
variable (x1 : Vec Ideal S1x1x256 .f32)
variable (x2 : Vec Ideal S1x1536x256 .bf16)
variable (x3 : Vec Ideal S1536x6144 .fp8e4m3)
variable (x4 : Vec Ideal S1x6144 .f32)
variable (x5 : Vec Ideal S1x6144 .f32)
variable (x6 : Vec Ideal S6144x1536 .fp8e4m3)
variable (x7 : Vec Ideal S1x1536 .f32)
variable (x8 : Vec Ideal S1x1536 .f32)

/-- The result at channel `d`, position `r` of a block: the input plus the second layer. -/
def o (d : Fin 1536) (r : Fin 256) : EReal :=
  x2 (ix3 0 d r) + ((∑ n : Fin 6144, q x0 x1 x3 x4 x5 r n.val * x6 (ix2 n d)) * scale x0 x1 x3 x4 x5 r * x7 (ix2 0 d)
    + x8 (ix2 0 d))

def oblock : Vec Ideal S1x1536x256 .bf16 := fun y => o x0 x1 x2 x3 x4 x5 x6 x7 x8 (y 1) (y 2)
def sblock : Vec Ideal S1x1x256 .f32 := fun y => scale x0 x1 x3 x4 x5 (y 2)

/-- A rectangle of 256 channels from `off` on: the output block on it. -/
theorem oblock_emb (off : ℕ) (hoff : off + 256 ≤ 1536) (inb) (y : S1x256x256.Idx) :
    oblock x0 x1 x2 x3 x4 x5 x6 x7 x8 ((Rect.unit (s := S1x1536x256) ![0, off, 0] S1x256x256.size inb).emb y)
      = o x0 x1 x2 x3 x4 x5 x6 x7 x8 ⟨off + (y 1).val, by have : (y 1).val < 256 := (y 1).isLt; omega⟩ (y 2) := by
  refine congrArg₂ (o x0 x1 x2 x3 x4 x5 x6 x7 x8) (Fin.ext ?_) (Fin.ext ?_)
  · exact (show off + 1 * (y 1).val = off + (y 1).val by omega)
  · exact (show 0 + 1 * (y 2).val = (y 2).val by omega)

variable (c : Dev nD) (i : grid0.Coords)
variable (arg1 : Memref sig .tc .vmem S256x1536 .fp8e4m3) (harg1 : arg1.IsWhole)
variable (arg2 : Memref sig .tc .vmem S1x1x256 .f32) (harg2 : arg2.IsWhole)
variable (arg3 : Memref sig .tc .vmem S1x1536x256 .bf16) (harg3 : arg3.IsWhole)
variable (arg4 : Memref sig .tc .vmem S1536x6144 .fp8e4m3) (harg4 : arg4.IsWhole)
variable (arg5 : Memref sig .tc .vmem S1x6144 .f32) (harg5 : arg5.IsWhole)
variable (arg6 : Memref sig .tc .vmem S1x6144 .f32) (harg6 : arg6.IsWhole)
variable (arg7 : Memref sig .tc .vmem S6144x1536 .fp8e4m3) (harg7 : arg7.IsWhole)
variable (arg8 : Memref sig .tc .vmem S1x1536 .f32) (harg8 : arg8.IsWhole)
variable (arg9 : Memref sig .tc .vmem S1x1536 .f32) (harg9 : arg9.IsWhole)
variable (arg10 : Memref sig .tc .vmem S1x1536x256 .bf16) (harg10 : arg10.IsWhole)
variable (arg11 : Memref sig .tc .vmem S256x6144 .fp8e4m3) (harg11 : arg11.IsWhole)
variable (arg12 : Memref sig .tc .vmem S1x1x256 .f32) (harg12 : arg12.IsWhole)
variable (arg13 : Memref sig .tc .vmem S256x6144 .f32) (harg13 : arg13.IsWhole)

/-- The quantised activation. -/
theorem out_10 : out0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 = qblock x0 x1 x3 x4 x5 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8)]
  unfold kernelRun0_A
  dsimp only
  exact q_eq x0 x1 x3 x4 x5 c arg1 harg1 arg2 harg2 arg4 harg4 arg5 harg5 arg6 harg6 arg13

/-- The scales. -/
theorem out_11 : out0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 = sblock x0 x1 x3 x4 x5 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8)]
  unfold kernelRun0_A
  dsimp only
  funext y
  refine View.canon_apply_of_pieces (sblock x0 x1 x3 x4 x5) _ ?_ y (cover0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 y)
  refine List.forall_mem_cons.mpr ⟨?_, (fun p hp => nomatch hp)⟩
  intro z
  dsimp only at z ⊢
  rw [s2_block]
  refine congrArg (scale x0 x1 x3 x4 x5) (Fin.ext ?_)
  exact (show (z 2).val = 0 + 1 * (z 2).val by omega)

/-- The output. -/
theorem out_9 : out0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 = oblock x0 x1 x2 x3 x4 x5 x6 x7 x8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8)]
  unfold kernelRun0_A
  dsimp only
  funext y
  refine View.canon_apply_of_pieces (oblock x0 x1 x2 x3 x4 x5 x6 x7 x8) _ ?_ y (cover0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 y)
  refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, (fun p hp => nomatch hp)⟩⟩⟩⟩⟩⟩
  · intro z
    dsimp only at z ⊢
    refine Eq.trans ?_ (oblock_emb x0 x1 x2 x3 x4 x5 x6 x7 x8 1280 (by omega) _ z).symm
    change S1x256x256.Idx at z
    unfold k0_pay1 kernelRun0_A.sl.r_40 k0_pay78
    rw [r_31_eq, v646_eq]
    simp only [View.readAt_eq_ld, harg3.read_unread, harg7.read_unread, harg8.read_unread, harg9.read_unread]
    idx_vars z
    pointwise [qblock, o]
  · intro z
    dsimp only at z ⊢
    refine Eq.trans ?_ (oblock_emb x0 x1 x2 x3 x4 x5 x6 x7 x8 1024 (by omega) _ z).symm
    change S1x256x256.Idx at z
    unfold k0_pay77
    rw [r_31_eq, v646_eq]
    simp only [View.readAt_eq_ld, harg3.read_unread, harg7.read_unread, harg8.read_unread, harg9.read_unread]
    idx_vars z
    pointwise [qblock, o]
  · intro z
    dsimp only at z ⊢
    refine Eq.trans ?_ (oblock_emb x0 x1 x2 x3 x4 x5 x6 x7 x8 768 (by omega) _ z).symm
    change S1x256x256.Idx at z
    unfold k0_pay76 kernelRun0_A.sl.r_38 kernelRun0_A.sl.r_39 k0_pay74 k0_pay75
    rw [r_31_eq, v646_eq]
    simp only [View.readAt_eq_ld, harg3.read_unread, harg7.read_unread, harg8.read_unread, harg9.read_unread]
    idx_vars z
    pointwise [qblock, o]
  · intro z
    dsimp only at z ⊢
    refine Eq.trans ?_ (oblock_emb x0 x1 x2 x3 x4 x5 x6 x7 x8 512 (by omega) _ z).symm
    change S1x256x256.Idx at z
    unfold k0_pay73 kernelRun0_A.sl.r_36 kernelRun0_A.sl.r_37 kernelRun0_A.sl.cst_270 k0_pay72
    rw [r_31_eq, v646_eq]
    simp only [View.readAt_eq_ld, harg3.read_unread, harg7.read_unread, harg8.read_unread, harg9.read_unread]
    idx_vars z
    pointwise [qblock, o]
  · intro z
    dsimp only at z ⊢
    refine Eq.trans ?_ (oblock_emb x0 x1 x2 x3 x4 x5 x6 x7 x8 256 (by omega) _ z).symm
    change S1x256x256.Idx at z
    unfold k0_pay71
    rw [r_31_eq, v646_eq]
    simp only [View.readAt_eq_ld, harg3.read_unread, harg7.read_unread, harg8.read_unread, harg9.read_unread]
    idx_vars z
    pointwise [qblock, o]
  · intro z
    dsimp only at z ⊢
    refine Eq.trans ?_ (oblock_emb x0 x1 x2 x3 x4 x5 x6 x7 x8 0 (by omega) _ z).symm
    change S1x256x256.Idx at z
    unfold k0_pay70 kernelRun0_A.sl.r_35 k0_pay69
    rw [r_31_eq, v646_eq]
    simp only [View.readAt_eq_ld, harg3.read_unread, harg7.read_unread, harg8.read_unread, harg9.read_unread]
    idx_vars z
    pointwise [qblock, o]

end Cert.KernelIdeal.Block
-- ==== Proof.Spec.lean ====
/- The function both programs compute, over the extended reals: the two layers of the perceptron with the quantisation
between them, row by row. Rows are numbered through, 12 batches of 1280 positions giving 15360 rows.
-/
module

public import Idealize.ShloMosaic.Lib.Pointwise
public import proofs.«01_k».proof.Proof.Gelu
public import proofs.«01_k».proof.Proof.Scale

@[expose] public section

noncomputable section

namespace Cert.Spec

open Idealize.ShloMosaic

variable (X : Vec Ideal ⟨2, ![15360, 1536]⟩ .fp8e4m3) (s : Vec Ideal ⟨2, ![15360, 1]⟩ .f32)
variable (w1 : Vec Ideal ⟨2, ![1536, 6144]⟩ .fp8e4m3) (w1s b1 : Vec Ideal ⟨2, ![1, 6144]⟩ .f32)

/-- The activation at row `n`, column `j`. -/
def h (n : Fin 15360) (j : Fin 6144) : EReal :=
  Gelu.hR (∑ k : Fin 1536, X (ix2 n k) * w1 (ix2 k j)) (s (ix2 n 0)) (w1s (ix2 0 j)) (b1 (ix2 0 j))

/-- The largest absolute value of row `n`. -/
def amax (n : Fin 15360) : EReal :=
  Finset.univ.sup fun j : Fin 6144 => max (h X s w1 w1s b1 n j) (-(h X s w1 w1s b1 n j))

/-- The exponent of row `n`'s scale, taken of a 448th of the largest absolute value. -/
def e (n : Fin 15360) : EReal := Scale.expR (amax X s w1 w1s b1 n) (amax X s w1 w1s b1 n * Ideal.ofBits .f32 0x3B124925#32)

/-- Row `n`'s scale, and the quantised activations. -/
def scale (n : Fin 15360) : EReal := Ideal.exp2 (e X s w1 w1s b1 n)
def q (n : Fin 15360) (j : Fin 6144) : EReal := Gelu.clip (h X s w1 w1s b1 n j * Ideal.exp2 (0 - e X s w1 w1s b1 n))

variable (w2 : Vec Ideal ⟨2, ![6144, 1536]⟩ .fp8e4m3) (w2s b2 g : Vec Ideal ⟨2, ![1, 1536]⟩ .f32)

/-- The second layer at row `n`, channel `d`, times the layer scale. -/
def y (n : Fin 15360) (d : Fin 1536) : EReal :=
  g (ix2 0 d) * ((∑ j : Fin 6144, q X s w1 w1s b1 n j * w2 (ix2 j d)) * scale X s w1 w1s b1 n * w2s (ix2 0 d) + b2 (ix2 0 d))

/-- Position `t` of batch `b`, and place `t` of the block `b` of 256, as a row. -/
def row (b : Fin 12) (t : Fin 1280) : Fin 15360 := ⟨1280 * b.val + t.val, by omega⟩
def brow (b : Fin 60) (t : Fin 256) : Fin 15360 := ⟨256 * b.val + t.val, by omega⟩

/-- The scales of the positions, and the vectors that are one per column, in the shapes used here. -/
def column (a : Vec Ideal ⟨2, ![12, 1280]⟩ .f32) : Vec Ideal ⟨2, ![15360, 1]⟩ .f32 :=
  fun i => a (ix2 ⟨(i 0).val / 1280, by have : (i 0).val < 15360 := (i 0).isLt; omega⟩ ⟨(i 0).val % 1280, by omega⟩)
def rows (a : Vec Ideal ⟨3, ![12, 1280, 1536]⟩ .fp8e4m3) : Vec Ideal ⟨2, ![15360, 1536]⟩ .fp8e4m3 :=
  fun i => a (ix3 ⟨(i 0).val / 1280, by have : (i 0).val < 15360 := (i 0).isLt; omega⟩ ⟨(i 0).val % 1280, by omega⟩ (i 1))
def line {n : ℕ} (a : Vec Ideal ⟨1, ![n]⟩ .f32) : Vec Ideal ⟨2, ![1, n]⟩ .f32 := fun i => a (ix1 (i 1))

/-- The three results. -/
def out (x : Vec Ideal ⟨3, ![12, 1536, 1280]⟩ .bf16) : Vec Ideal ⟨3, ![12, 1536, 1280]⟩ .bf16 :=
  fun i => x i + y X s w1 w1s b1 w2 w2s b2 g (row (i 0) (i 2)) (i 1)
def quantised : Vec Ideal ⟨2, ![15360, 6144]⟩ .fp8e4m3 := fun i => q X s w1 w1s b1 (i 0) (i 1)
def scales : Vec Ideal ⟨3, ![60, 1, 256]⟩ .f32 := fun i => scale X s w1 w1s b1 (brow (i 0) (i 2))

theorem abs_nonneg (a : EReal) : 0 ≤ max a (-a) := by
  rcases le_total 0 a with h | h
  · exact le_trans h (le_max_left _ _)
  · exact le_trans (EReal.neg_nonneg.mpr h) (le_max_right _ _)

theorem amax_nonneg (n : Fin 15360) : 0 ≤ amax X s w1 w1s b1 n :=
  le_trans (abs_nonneg _) (Finset.le_sup (f := fun j : Fin 6144 => max (h X s w1 w1s b1 n j) (-(h X s w1 w1s b1 n j)))
    (Finset.mem_univ (0 : Fin 6144)))

/-- The 448th is positive. -/
theorem small_pos : 0 < Ideal.ofBits .f32 0x3B124925#32 := by
  have f1 : (0x3B124925#32).extractLsb' 31 1 = 0#1 := by decide
  have f2 : ((0x3B124925#32).extractLsb' 23 8).toNat = 118 := by decide
  have f3 : ((0x3B124925#32).extractLsb' 0 23).toNat = 1198373 := by decide
  simp only [Ideal.ofBits, Ideal.ieee, Nat.reduceAdd, f1, f2, f3]
  rw [if_neg (by omega), if_neg (by omega), EReal.coe_pos]
  norm_num

/-- What the kernel makes of the scale and its inverse is the function's. -/
theorem scaleK_eq (n : Fin 15360) :
    Scale.scaleK (amax X s w1 w1s b1 n) (amax X s w1 w1s b1 n * Ideal.ofBits .f32 0x3B124925#32) = scale X s w1 w1s b1 n :=
  Scale.scale_eq Iff.rfl (fun h => by rw [h, zero_mul])
    (fun h => EReal.mul_pos (lt_of_le_of_ne (amax_nonneg X s w1 w1s b1 n) (Ne.symm h)) small_pos)

theorem invK_eq (n : Fin 15360) :
    Scale.invK (amax X s w1 w1s b1 n) (amax X s w1 w1s b1 n * Ideal.ofBits .f32 0x3B124925#32)
      = Ideal.exp2 (0 - e X s w1 w1s b1 n) :=
  Scale.inv_eq Iff.rfl (fun h => by rw [h, zero_mul])
    (fun h => EReal.mul_pos (lt_of_le_of_ne (amax_nonneg X s w1 w1s b1 n) (Ne.symm h)) small_pos)

end Cert.Spec

end
-- ==== Proof.BlockSpec.lean ====
/- One block of the kernel, its inputs being rows of the whole arrays, leaves rows of the function's results.
-/
module

public import proofs.«01_k».proof.Proof.OutBlock
public import proofs.«01_k».proof.Proof.Spec

@[expose] public section

noncomputable section

namespace Cert.KernelIdeal.Block

open Idealize.ShloMosaic Idealize.ShloMosaic.TcCoe Idealize.SL.Sem
open Cert.KernelIdeal Cert.KernelIdeal.Gen

variable (x0 : Vec Ideal S256x1536 .fp8e4m3) (x1 : Vec Ideal S1x1x256 .f32) (x2 : Vec Ideal S1x1536x256 .bf16)
variable (x3 : Vec Ideal S1536x6144 .fp8e4m3) (x4 x5 : Vec Ideal S1x6144 .f32)
variable (x6 : Vec Ideal S6144x1536 .fp8e4m3) (x7 x8 : Vec Ideal S1x1536 .f32)
variable (X : Vec Ideal S15360x1536 .fp8e4m3) (s : Vec Ideal ⟨2, ![15360, 1]⟩ .f32)
variable (w2s b2 g : Vec Ideal S1x1536 .f32)
variable (r : Fin 256) (n : Fin 15360)
variable (H0 : ∀ k : Fin 1536, x0 (ix2 r k) = X (ix2 n k)) (H1 : x1 (ix3 0 0 r) = s (ix2 n 0))

include H0 H1

/-- The block's activation is the function's without its factor √½. -/
theorem h_spec (j : Fin 6144) : h x0 x1 x3 x4 x5 r j.val
    = Gelu.hK (∑ k : Fin 1536, X (ix2 n k) * x3 (ix2 k j)) (s (ix2 n 0)) (x4 (ix2 0 j)) (x5 (ix2 0 j)) := by
  unfold h
  rw [dif_pos j.isLt, H1]
  congr 1
  exact Finset.sum_congr rfl fun k _ => by rw [H0]

theorem h_mul (j : Fin 6144) : h x0 x1 x3 x4 x5 r j.val * Gelu.c = Spec.h X s x3 x4 x5 n j := by
  rw [h_spec x0 x1 x3 x4 x5 X s r n H0 H1, Gelu.hK_mul]
  rfl

theorem amax_spec : amax x0 x1 x3 x4 x5 r = Spec.amax X s x3 x4 x5 n := by
  unfold amax rowMax Spec.amax
  have hm : Monotone fun z : EReal => z * Gelu.c := fun a b h => mul_le_mul_of_nonneg_right h Gelu.c_pos.le
  rw [← Finset.sup'_eq_sup ⟨(0 : Fin 6144), Finset.mem_univ _⟩, ← Finset.sup'_eq_sup ⟨(0 : Fin 6144), Finset.mem_univ _⟩]
  refine (Finset.comp_sup'_eq_sup'_comp _ (fun z : EReal => z * Gelu.c) fun a b => hm.map_max).trans ?_
  congr 1
  funext j
  show max _ _ * Gelu.c = _
  rw [Gelu.abs_mul_c, h_mul x0 x1 x3 x4 x5 X s r n H0 H1]

theorem scale_spec : scale x0 x1 x3 x4 x5 r = Spec.scale X s x3 x4 x5 n := by
  unfold scale small
  rw [amax_spec x0 x1 x3 x4 x5 X s r n H0 H1, Spec.scaleK_eq]

theorem q_spec (j : Fin 6144) : q x0 x1 x3 x4 x5 r j.val = Spec.q X s x3 x4 x5 n j := by
  unfold q inv small Spec.q
  rw [amax_spec x0 x1 x3 x4 x5 X s r n H0 H1, Spec.invK_eq, ← h_mul x0 x1 x3 x4 x5 X s r n H0 H1]
  have hc : ∀ a b c : EReal, a * (b * c) = a * c * b := fun a b c => by ac_rfl
  rw [hc]

theorem o_spec (d : Fin 1536) (H7 : x7 (ix2 0 d) = w2s (ix2 0 d) * g (ix2 0 d)) (H8 : x8 (ix2 0 d) = b2 (ix2 0 d) * g (ix2 0 d))
    (hb : b2 (ix2 0 d) ≠ ⊤) (hb' : b2 (ix2 0 d) ≠ ⊥) (hg : g (ix2 0 d) ≠ ⊤) (hg' : g (ix2 0 d) ≠ ⊥) :
    o x0 x1 x2 x3 x4 x5 x6 x7 x8 d r = x2 (ix3 0 d r) + Spec.y X s x3 x4 x5 x6 w2s b2 g n d := by
  unfold o Spec.y
  have hs : (∑ j : Fin 6144, q x0 x1 x3 x4 x5 r j.val * x6 (ix2 j d))
      = ∑ j : Fin 6144, Spec.q X s x3 x4 x5 n j * x6 (ix2 j d) :=
    Finset.sum_congr rfl fun j _ => by rw [q_spec x0 x1 x3 x4 x5 X s r n H0 H1]
  rw [hs, H7, H8, scale_spec x0 x1 x3 x4 x5 X s r n H0 H1, Gelu.layer _ _ _ _ _ hb hb' hg hg']

end Cert.KernelIdeal.Block

end
-- ==== Proof.Reshape.lean ====
/- The host's reshapes of the arguments, read index by index.
-/
module

public import proofs.«01_k».proof.Proof.Spec

@[expose] public section

set_option maxRecDepth 16384

noncomputable section

namespace Cert.Spec

open Idealize.ShloMosaic

theorem line_eq (a : Vec Ideal ⟨1, ![6144]⟩ .f32) (h) : shapeCast ⟨2, ![1, 6144]⟩ a h = line a := by
  funext j
  idx_vars j
  pointwise [line]

theorem line_eq' (a : Vec Ideal ⟨1, ![1536]⟩ .f32) (h) : shapeCast ⟨2, ![1, 1536]⟩ a h = line a := by
  funext j
  idx_vars j
  pointwise [line]

theorem rows_eq (a : Vec Ideal ⟨3, ![12, 1280, 1536]⟩ .fp8e4m3) (h) : shapeCast ⟨2, ![15360, 1536]⟩ a h = rows a := by
  funext j
  idx_vars j
  pointwise [rows]

theorem column_eq (a : Vec Ideal ⟨2, ![12, 1280]⟩ .f32) (h) : shapeCast ⟨2, ![15360, 1]⟩ a h = column a := by
  funext j
  idx_vars j
  pointwise [column]

/-- The kernel's blocks of 256 positions: place `r` of block `t` is row `256 t + r`. -/
theorem block_eq (a : Vec Ideal ⟨2, ![12, 1280]⟩ .f32) (h) (t : Fin 60) (r : Fin 256) :
    shapeCast ⟨3, ![60, 1, 256]⟩ a h (ix3 t 0 r) = column a (ix2 (brow t r) 0) := by
  pointwise [column, brow]
  refine congrArg a (congrArg₂ ix2 (Fin.ext ?_) (Fin.ext ?_))
  · show t.val / 5 = (256 * t.val + r.val) / 1280
    omega
  · show t.val % 5 * 256 + r.val = (256 * t.val + r.val) % 1280
    omega

end Cert.Spec

end
-- ==== Proof.KernelArray.lean ====
/- The three arrays the kernel's run leaves, as functions of the argument arrays. Point `t` of the grid works on the 256
rows from `256 * t` on; these are the positions from `256 * (t % 5)` on of batch `t / 5`.
-/
module

public import proofs.«01_k».proof.Proof.BlockSpec
public import proofs.«01_k».proof.Proof.Reshape
public import proofs.«01_k».proof.Proof.Gen.KernelIdeal.Value

@[expose] public section

set_option maxRecDepth 16384

noncomputable section

namespace Cert.KernelIdeal.Arrays

open Idealize.ShloMosaic Idealize.ShloMosaic.TcCoe Idealize.SL.Sem
open Cert.KernelIdeal Cert.KernelIdeal.Gen Cert.KernelIdeal.Value

/-! ## Where each window's block lies -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 3) = t.val ∧ win0_1.index t (1 : Fin 3) = 0
    ∧ win0_1.index t (2 : Fin 3) = 0 := (by decide +kernel : ∀ t : Fin grid0.N, _)
theorem idx2 : ∀ t : Fin cfg0.N, win0_2.index t (0 : Fin 3) = t.val / 5 ∧ win0_2.index t (1 : Fin 3) = 0
    ∧ win0_2.index t (2 : Fin 3) = t.val % 5 := (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 3) = t.val / 5 ∧ win0_9.index t (1 : Fin 3) = 0
    ∧ win0_9.index t (2 : Fin 3) = t.val % 5 := (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)
theorem idx11 : ∀ t : Fin cfg0.N, win0_11.index t (0 : Fin 3) = t.val ∧ win0_11.index t (1 : Fin 3) = 0
    ∧ win0_11.index t (2 : Fin 3) = 0 := (by decide +kernel : ∀ t : Fin grid0.N, _)

variable (m : (ℓ : Loc nD τ sig) → Buf (Elt Ideal) ℓ) (c : Dev nD)

/-! ## The arrays the host hands to the kernel -/

theorem V_v0 : V m c main_v0 = shapeCast S15360x1536 (m ((c : Thread nD τ).loc main_arg0)) shapeCasts_S12x1280x1536_S15360x1536 := by
  show StableHlo.after hostOps0 _ (Proc.devRef .tc main_v0) = _
  after_results
  rfl
theorem V_v1 : V m c main_v1 = shapeCast S60x1x256 (m ((c : Thread nD τ).loc main_arg1)) shapeCasts_S12x1280_S60x1x256 := by
  show StableHlo.after hostOps0 _ (Proc.devRef .tc main_v1) = _
  after_results
  rfl
theorem V_v2 : V m c main_v2 = shapeCast S1x6144 (m ((c : Thread nD τ).loc main_arg4)) shapeCasts_S6144_S1x6144 := by
  show StableHlo.after hostOps0 _ (Proc.devRef .tc main_v2) = _
  after_results
  rfl
theorem V_v3 : V m c main_v3 = shapeCast S1x6144 (m ((c : Thread nD τ).loc main_arg5)) shapeCasts_S6144_S1x6144 := by
  show StableHlo.after hostOps0 _ (Proc.devRef .tc main_v3) = _
  after_results
  rfl
theorem V_v5 : V m c main_v5 = shapeCast S1x1536 (mulf (F := Ideal) (φ := .f32) (m ((c : Thread nD τ).loc main_arg7)) (m ((c : Thread nD τ).loc main_arg9)))
    shapeCasts_S1536_S1x1536 := by
  show StableHlo.after hostOps0 _ (Proc.devRef .tc main_v5) = _
  after_results
  rfl
theorem V_v7 : V m c main_v7 = shapeCast S1x1536 (mulf (F := Ideal) (φ := .f32) (m ((c : Thread nD τ).loc main_arg8)) (m ((c : Thread nD τ).loc main_arg9)))
    shapeCasts_S1536_S1x1536 := by
  show StableHlo.after hostOps0 _ (Proc.devRef .tc main_v7) = _
  after_results
  rfl

/-! ## Each block as a part of its array -/

variable (t : Fin cfg0.N)

theorem t_lt : t.val < 60 := t.isLt

theorem blk0 (r : Fin 256) (k : Fin 1536) : (iblk m c 0 t : Vec Ideal S256x1536 .fp8e4m3) (ix2 r k)
    = V m c main_v0 (ix2 (Spec.brow ⟨t.val, t_lt t⟩ r) k) := by
  obtain ⟨e0, e1⟩ := idx0 t
  show V m c main_v0 (((cfg0.win 0).blk t).view.emb (ix2 r k)) = _
  congr 1
  funext a; apply Fin.ext
  match a with
  | ⟨0, _⟩ => show win0_0.index t (0 : Fin 2) * 256 + 1 * r.val = 256 * t.val + r.val; omega
  | ⟨1, _⟩ => show win0_0.index t (1 : Fin 2) * 1536 + 1 * k.val = k.val; omega

theorem blk1 (r : Fin 256) : (iblk m c 1 t : Vec Ideal S1x1x256 .f32) (ix3 0 0 r)
    = V m c main_v1 (ix3 ⟨t.val, t_lt t⟩ 0 r) := by
  obtain ⟨e0, e1, e2⟩ := idx1 t
  show V m c main_v1 (((cfg0.win 1).blk t).view.emb (ix3 0 0 r)) = _
  congr 1
  funext a; apply Fin.ext
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 256 + 1 * r.val = r.val; omega

theorem blk2 (d : Fin 1536) (r : Fin 256) : (iblk m c 2 t : Vec Ideal S1x1536x256 .bf16) (ix3 0 d r)
    = V m c main_arg2 (ix3 ⟨t.val / 5, by have := t_lt t; omega⟩ d ⟨256 * (t.val % 5) + r.val, by omega⟩) := by
  obtain ⟨e0, e1, e2⟩ := idx2 t
  show V m c main_arg2 (((cfg0.win 2).blk t).view.emb (ix3 0 d r)) = _
  congr 1
  funext a; apply Fin.ext
  match a with
  | ⟨0, _⟩ => show win0_2.index t (0 : Fin 3) * 1 + 1 * 0 = t.val / 5; omega
  | ⟨1, _⟩ => show win0_2.index t (1 : Fin 3) * 1536 + 1 * d.val = d.val; omega
  | ⟨2, _⟩ => show win0_2.index t (2 : Fin 3) * 256 + 1 * r.val = 256 * (t.val % 5) + r.val; omega

theorem blk3 : (iblk m c 3 t : Vec Ideal S1536x6144 .fp8e4m3) = V m c main_arg3 := by
  obtain ⟨e0, e1⟩ := idx3 t
  funext j
  show V m c main_arg3 (((cfg0.win 3).blk t).view.emb j) = _
  congr 1
  funext a; apply Fin.ext
  match a with
  | ⟨0, _⟩ => show win0_3.index t (0 : Fin 2) * 1536 + 1 * (j 0).val = (j 0).val; omega
  | ⟨1, _⟩ => show win0_3.index t (1 : Fin 2) * 6144 + 1 * (j 1).val = (j 1).val; omega

theorem blk4 : (iblk m c 4 t : Vec Ideal S1x6144 .f32) = V m c main_v2 := by
  obtain ⟨e0, e1⟩ := idx4 t
  funext j
  show V m c main_v2 (((cfg0.win 4).blk t).view.emb j) = _
  congr 1
  funext a; apply Fin.ext
  match a with
  | ⟨0, _⟩ => show win0_4.index t (0 : Fin 2) * 1 + 1 * (j 0).val = (j 0).val; omega
  | ⟨1, _⟩ => show win0_4.index t (1 : Fin 2) * 6144 + 1 * (j 1).val = (j 1).val; omega

theorem blk5 : (iblk m c 5 t : Vec Ideal S1x6144 .f32) = V m c main_v3 := by
  obtain ⟨e0, e1⟩ := idx5 t
  funext j
  show V m c main_v3 (((cfg0.win 5).blk t).view.emb j) = _
  congr 1
  funext a; apply Fin.ext
  match a with
  | ⟨0, _⟩ => show win0_5.index t (0 : Fin 2) * 1 + 1 * (j 0).val = (j 0).val; omega
  | ⟨1, _⟩ => show win0_5.index t (1 : Fin 2) * 6144 + 1 * (j 1).val = (j 1).val; omega

theorem blk6 : (iblk m c 6 t : Vec Ideal S6144x1536 .fp8e4m3) = V m c main_arg6 := by
  obtain ⟨e0, e1⟩ := idx6 t
  funext j
  show V m c main_arg6 (((cfg0.win 6).blk t).view.emb j) = _
  congr 1
  funext a; apply Fin.ext
  match a with
  | ⟨0, _⟩ => show win0_6.index t (0 : Fin 2) * 6144 + 1 * (j 0).val = (j 0).val; omega
  | ⟨1, _⟩ => show win0_6.index t (1 : Fin 2) * 1536 + 1 * (j 1).val = (j 1).val; omega

theorem blk7 : (iblk m c 7 t : Vec Ideal S1x1536 .f32) = V m c main_v5 := by
  obtain ⟨e0, e1⟩ := idx7 t
  funext j
  show V m c main_v5 (((cfg0.win 7).blk t).view.emb j) = _
  congr 1
  funext a; apply Fin.ext
  match a with
  | ⟨0, _⟩ => show win0_7.index t (0 : Fin 2) * 1 + 1 * (j 0).val = (j 0).val; omega
  | ⟨1, _⟩ => show win0_7.index t (1 : Fin 2) * 1536 + 1 * (j 1).val = (j 1).val; omega

theorem blk8 : (iblk m c 8 t : Vec Ideal S1x1536 .f32) = V m c main_v7 := by
  obtain ⟨e0, e1⟩ := idx8 t
  funext j
  show V m c main_v7 (((cfg0.win 8).blk t).view.emb j) = _
  congr 1
  funext a; apply Fin.ext
  match a with
  | ⟨0, _⟩ => show win0_8.index t (0 : Fin 2) * 1 + 1 * (j 0).val = (j 0).val; omega
  | ⟨1, _⟩ => show win0_8.index t (1 : Fin 2) * 1536 + 1 * (j 1).val = (j 1).val; omega

/-! ## The results -/

/-- The arguments in the function's shapes. -/
abbrev X : Vec Ideal S15360x1536 .fp8e4m3 := Spec.rows (m ((c : Thread nD τ).loc main_arg0))
abbrev s : Vec Ideal ⟨2, ![15360, 1]⟩ .f32 := Spec.column (m ((c : Thread nD τ).loc main_arg1))
abbrev x : Vec Ideal S12x1536x1280 .bf16 := m ((c : Thread nD τ).loc main_arg2)
abbrev w1 : Vec Ideal S1536x6144 .fp8e4m3 := m ((c : Thread nD τ).loc main_arg3)
abbrev w1s : Vec Ideal S1x6144 .f32 := Spec.line (m ((c : Thread nD τ).loc main_arg4))
abbrev b1 : Vec Ideal S1x6144 .f32 := Spec.line (m ((c : Thread nD τ).loc main_arg5))
abbrev w2 : Vec Ideal S6144x1536 .fp8e4m3 := m ((c : Thread nD τ).loc main_arg6)
abbrev w2s : Vec Ideal S1x1536 .f32 := Spec.line (m ((c : Thread nD τ).loc main_arg7))
abbrev b2 : Vec Ideal S1x1536 .f32 := Spec.line (m ((c : Thread nD τ).loc main_arg8))
abbrev g : Vec Ideal S1x1536 .f32 := Spec.line (m ((c : Thread nD τ).loc main_arg9))

theorem H0 (r : Fin 256) (k : Fin 1536) : (iblk m c 0 t : Vec Ideal S256x1536 .fp8e4m3) (ix2 r k)
    = X m c (ix2 (Spec.brow ⟨t.val, t_lt t⟩ r) k) := by
  rw [blk0, V_v0, Spec.rows_eq]

theorem H1 (r : Fin 256) : (iblk m c 1 t : Vec Ideal S1x1x256 .f32) (ix3 0 0 r)
    = s m c (ix2 (Spec.brow ⟨t.val, t_lt t⟩ r) 0) := by
  rw [blk1, V_v1, Spec.block_eq]

theorem E4 : (iblk m c 4 t : Vec Ideal S1x6144 .f32) = w1s m c := by rw [blk4, V_v2, Spec.line_eq]
theorem E5 : (iblk m c 5 t : Vec Ideal S1x6144 .f32) = b1 m c := by rw [blk5, V_v3, Spec.line_eq]
theorem E3 : (iblk m c 3 t : Vec Ideal S1536x6144 .fp8e4m3) = w1 m c := by rw [blk3, V_main_arg3]
theorem E6 : (iblk m c 6 t : Vec Ideal S6144x1536 .fp8e4m3) = w2 m c := by rw [blk6, V_main_arg6]
theorem E7 (d : Fin 1536) : (iblk m c 7 t : Vec Ideal S1x1536 .f32) (ix2 0 d) = w2s m c (ix2 0 d) * g m c (ix2 0 d) := by
  rw [blk7, V_v5, Spec.line_eq']
  rfl
theorem E8 (d : Fin 1536) : (iblk m c 8 t : Vec Ideal S1x1536 .f32) (ix2 0 d) = b2 m c (ix2 0 d) * g m c (ix2 0 d) := by
  rw [blk8, V_v7, Spec.line_eq']
  rfl

/-- The quantised activations. -/
abbrev G10 : Vec Ideal S15360x6144 .fp8e4m3 := Spec.quantised (X m c) (s m c) (w1 m c) (w1s m c) (b1 m c)

theorem val10 (r : Fin 256) (n : Fin 6144) :
    Block.q (iblk m c 0 t) (iblk m c 1 t) (iblk m c 3 t) (iblk m c 4 t) (iblk m c 5 t) r n.val
      = Spec.q (X m c) (s m c) (w1 m c) (w1s m c) (b1 m c) (Spec.brow ⟨t.val, t_lt t⟩ r) n := by
  rw [Block.q_spec _ _ _ _ _ _ _ _ _ (H0 m c t r) (H1 m c t r), E3, E4, E5]

theorem flushed10_eq : (dats m 0 c).flushed 10 t = ((cfg0.win 10).blk t).view.read (Elt Ideal) (G10 m c) := by
  rw [flushed10_A, Block.out_10]
  obtain ⟨e0, e1⟩ := idx10 t
  funext j
  show Block.q _ _ _ _ _ (j 0) (j 1).val = G10 m c (((cfg0.win 10).blk t).view.emb j)
  have he : ((cfg0.win 10).blk t).view.emb j = ix2 (Spec.brow ⟨t.val, t_lt t⟩ (j 0)) (j 1) := by
    funext a; apply Fin.ext
    match a with
    | ⟨0, _⟩ => show win0_10.index t (0 : Fin 2) * 256 + 1 * (j 0).val = 256 * t.val + (j 0).val; omega
    | ⟨1, _⟩ => show win0_10.index t (1 : Fin 2) * 6144 + 1 * (j 1).val = (j 1).val; omega
  rw [he]
  exact val10 m c t (j 0) (j 1)

/-- The scales. -/
abbrev G11 : Vec Ideal S60x1x256 .f32 := Spec.scales (X m c) (s m c) (w1 m c) (w1s m c) (b1 m c)

theorem flushed11_eq : (dats m 0 c).flushed 11 t = ((cfg0.win 11).blk t).view.read (Elt Ideal) (G11 m c) := by
  rw [flushed11_A, Block.out_11]
  obtain ⟨e0, e1, e2⟩ := idx11 t
  funext j
  show Block.scale _ _ _ _ _ (j 2) = G11 m c (((cfg0.win 11).blk t).view.emb j)
  have he : ((cfg0.win 11).blk t).view.emb j = ix3 ⟨t.val, t_lt t⟩ 0 (j 2) := by
    funext a; apply Fin.ext
    match a with
    | ⟨0, _⟩ => show win0_11.index t (0 : Fin 3) * 1 + 1 * (j 0).val = t.val; have : (j 0).val < 1 := (j 0).isLt; omega
    | ⟨1, _⟩ => show win0_11.index t (1 : Fin 3) * 1 + 1 * (j 1).val = 0; have : (j 1).val < 1 := (j 1).isLt; omega
    | ⟨2, _⟩ => show win0_11.index t (2 : Fin 3) * 256 + 1 * (j 2).val = (j 2).val; omega
  rw [he, Block.scale_spec _ _ _ _ _ _ _ _ _ (H0 m c t (j 2)) (H1 m c t (j 2)), E3, E4, E5]
  rfl

/-- The output: the input plus the second layer. -/
abbrev G9 : Vec Ideal S12x1536x1280 .bf16 :=
  Spec.out (X m c) (s m c) (w1 m c) (w1s m c) (b1 m c) (w2 m c) (w2s m c) (b2 m c) (g m c) (x m c)

/-- The bias of the second layer and the layer scale are finite. -/
abbrev Finite : Prop := ∀ d : Fin 1536, (b2 m c (ix2 0 d) ≠ ⊤ ∧ b2 m c (ix2 0 d) ≠ ⊥) ∧ g m c (ix2 0 d) ≠ ⊤ ∧ g m c (ix2 0 d) ≠ ⊥

theorem val9 (hf : Finite m c) (d : Fin 1536) (r : Fin 256) :
    Block.o (iblk m c 0 t) (iblk m c 1 t) (iblk m c 2 t) (iblk m c 3 t) (iblk m c 4 t) (iblk m c 5 t) (iblk m c 6 t) (iblk m c 7 t)
        (iblk m c 8 t) d r
      = x m c (ix3 ⟨t.val / 5, by have := t_lt t; omega⟩ d ⟨256 * (t.val % 5) + r.val, by omega⟩)
        + Spec.y (X m c) (s m c) (w1 m c) (w1s m c) (b1 m c) (w2 m c) (w2s m c) (b2 m c) (g m c)
            (Spec.brow ⟨t.val, t_lt t⟩ r) d := by
  obtain ⟨⟨hb, hb'⟩, hg, hg'⟩ := hf d
  rw [Block.o_spec _ _ _ _ _ _ _ _ _ _ _ _ _ _ _ _ (H0 m c t r) (H1 m c t r) d (E7 m c t d) (E8 m c t d)
    hb hb' hg hg', E3, E4, E5, E6, blk2, V_main_arg2]

theorem flushed9_eq (hf : Finite m c) :
    (dats m 0 c).flushed 9 t = ((cfg0.win 9).blk t).view.read (Elt Ideal) (G9 m c) := by
  rw [flushed9_A, Block.out_9]
  obtain ⟨e0, e1, e2⟩ := idx9 t
  have ht := t_lt t
  funext j
  have h2 : (j 2).val < 256 := (j 2).isLt
  show Block.o _ _ _ _ _ _ _ _ _ (j 1) (j 2) = G9 m c (((cfg0.win 9).blk t).view.emb j)
  have he : ((cfg0.win 9).blk t).view.emb j
      = ix3 ⟨t.val / 5, by omega⟩ (j 1) ⟨256 * (t.val % 5) + (j 2).val, by omega⟩ := by
    funext a; apply Fin.ext
    match a with
    | ⟨0, _⟩ => show win0_9.index t (0 : Fin 3) * 1 + 1 * (j 0).val = t.val / 5; have : (j 0).val < 1 := (j 0).isLt; omega
    | ⟨1, _⟩ => show win0_9.index t (1 : Fin 3) * 1536 + 1 * (j 1).val = (j 1).val; omega
    | ⟨2, _⟩ => show win0_9.index t (2 : Fin 3) * 256 + 1 * (j 2).val = 256 * (t.val % 5) + (j 2).val; omega
  rw [he]
  refine (val9 m c t hf (j 1) (j 2)).trans ?_
  have hr : Spec.brow ⟨t.val, ht⟩ (j 2) = Spec.row ⟨t.val / 5, by omega⟩ ⟨256 * (t.val % 5) + (j 2).val, by omega⟩ :=
    Fin.ext (by show 256 * t.val + (j 2).val = 1280 * (t.val / 5) + (256 * (t.val % 5) + (j 2).val); omega)
  rw [hr]
  rfl

/-! ## Every index is in some point's block -/

theorem covered10 (i : S15360x6144.Idx) :
    ∃ t : Fin cfg0.N, (cfg0.win 10).flush t = true ∧ i ∈ ((cfg0.win 10).blk t).view.set := by
  have h0 : (i 0).val < 15360 := (i 0).isLt
  obtain ⟨t, ht⟩ : ∃ t : Fin cfg0.N, t.val = (i 0).val / 256 :=
    ⟨(⟨(i 0).val / 256, by show _ < 60; omega⟩ : Fin cfg0.N), rfl⟩
  refine ⟨t, flush0_10 _, ?_⟩
  obtain ⟨e0, e1⟩ := idx10 t
  have h := ((cfg0.win 10).blk t).view.emb_mem_set (ix2 ⟨(i 0).val % 256, by omega⟩ (i 1))
  have he : ((cfg0.win 10).blk t).view.emb (ix2 ⟨(i 0).val % 256, by omega⟩ (i 1)) = i := by
    funext a; apply Fin.ext
    match a with
    | ⟨0, _⟩ => show win0_10.index t (0 : Fin 2) * 256 + 1 * ((i 0).val % 256) = (i 0).val; omega
    | ⟨1, _⟩ => show win0_10.index t (1 : Fin 2) * 6144 + 1 * (i 1).val = (i 1).val; omega
  rwa [he] at h

theorem covered11 (i : S60x1x256.Idx) :
    ∃ t : Fin cfg0.N, (cfg0.win 11).flush t = true ∧ i ∈ ((cfg0.win 11).blk t).view.set := by
  refine ⟨(i 0 : Fin cfg0.N), flush0_11 _, ?_⟩
  obtain ⟨e0, e1, e2⟩ := idx11 (i 0 : Fin cfg0.N)
  have h := ((cfg0.win 11).blk (i 0 : Fin cfg0.N)).view.emb_mem_set (ix3 0 0 (i 2))
  have he : ((cfg0.win 11).blk (i 0 : Fin cfg0.N)).view.emb (ix3 0 0 (i 2)) = i := by
    funext a; apply Fin.ext
    match a with
    | ⟨0, _⟩ => show win0_11.index _ (0 : Fin 3) * 1 + 1 * 0 = (i 0).val; rw [e0]; omega
    | ⟨1, _⟩ => show win0_11.index _ (1 : Fin 3) * 1 + 1 * 0 = (i 1).val; have : (i 1).val < 1 := (i 1).isLt; omega
    | ⟨2, _⟩ => show win0_11.index _ (2 : Fin 3) * 256 + 1 * (i 2).val = (i 2).val; omega
  rwa [he] at h

theorem covered9 (i : S12x1536x1280.Idx) :
    ∃ t : Fin cfg0.N, (cfg0.win 9).flush t = true ∧ i ∈ ((cfg0.win 9).blk t).view.set := by
  have h0 : (i 0).val < 12 := (i 0).isLt
  have h2 : (i 2).val < 1280 := (i 2).isLt
  obtain ⟨t, ht⟩ : ∃ t : Fin cfg0.N, t.val = 5 * (i 0).val + (i 2).val / 256 :=
    ⟨(⟨5 * (i 0).val + (i 2).val / 256, by show _ < 60; omega⟩ : Fin cfg0.N), rfl⟩
  refine ⟨t, flush0_9 _, ?_⟩
  obtain ⟨e0, e1, e2⟩ := idx9 t
  have h := ((cfg0.win 9).blk t).view.emb_mem_set (ix3 0 (i 1) ⟨(i 2).val % 256, by omega⟩)
  have he : ((cfg0.win 9).blk t).view.emb (ix3 0 (i 1) ⟨(i 2).val % 256, by omega⟩) = i := by
    funext a; apply Fin.ext
    match a with
    | ⟨0, _⟩ => show win0_9.index t (0 : Fin 3) * 1 + 1 * 0 = (i 0).val; omega
    | ⟨1, _⟩ => show win0_9.index t (1 : Fin 3) * 1536 + 1 * (i 1).val = (i 1).val; omega
    | ⟨2, _⟩ => show win0_9.index t (2 : Fin 3) * 256 + 1 * ((i 2).val % 256) = (i 2).val; omega
  rwa [he] at h

/-! ## The arrays after the run -/

theorem final10 : (dats m 0 c).arrAt 10 cfg0.N = G10 m c :=
  (dats m 0 c).arrAt_eq_of_cover 10 (G10 m c) (fun t _ => flushed10_eq m c t) covered10

theorem final11 : (dats m 0 c).arrAt 11 cfg0.N = G11 m c :=
  (dats m 0 c).arrAt_eq_of_cover 11 (G11 m c) (fun t _ => flushed11_eq m c t) covered11

theorem final9 (hf : Finite m c) : (dats m 0 c).arrAt 9 cfg0.N = G9 m c :=
  (dats m 0 c).arrAt_eq_of_cover 9 (G9 m c) (fun t _ => flushed9_eq m c t hf) covered9

end Cert.KernelIdeal.Arrays

end
-- ==== Proof.RefBody.lean ====
/- What the reference's body computes of whole arrays.
-/
module

public import proofs.«01_k».proof.Proof.Spec
public import proofs.«01_k».proof.Proof.Gen.ReferenceIdeal.Value
public import Idealize.ShloMosaic.Lib.Tactic

@[expose] public section

set_option maxRecDepth 16384

noncomputable section

namespace Cert.ReferenceIdeal.Body

open Idealize.ShloMosaic Idealize.ShloMosaic.TcCoe Idealize.SL.Sem
open Cert.ReferenceIdeal Cert.ReferenceIdeal.Gen

variable (X : Vec Ideal S15360x1536 .fp8e4m3) (s : Vec Ideal S15360x1 .f32)
variable (w1 : Vec Ideal S1536x6144 .fp8e4m3) (w1s b1 : Vec Ideal S1x6144 .f32)

/-! ## The constants -/

theorem half : Ideal.ofBits .f32 0x3F000000#32 = ((1 / 2 : ℝ) : EReal) := by
  have f1 : (0x3F000000#32).extractLsb' 31 1 = 0#1 := by decide
  have f2 : ((0x3F000000#32).extractLsb' 23 8).toNat = 126 := by decide
  have f3 : ((0x3F000000#32).extractLsb' 0 23).toNat = 0 := by decide
  simp only [Ideal.ofBits, Ideal.ieee, Nat.reduceAdd, f1, f2, f3]
  rw [if_neg (by omega), if_neg (by omega), EReal.coe_eq_coe_iff]
  norm_num

theorem c126 : Ideal.ofBits .f32 0x42FC0000#32 = 126 := by
  have f1 : (0x42FC0000#32).extractLsb' 31 1 = 0#1 := by decide
  have f2 : ((0x42FC0000#32).extractLsb' 23 8).toNat = 133 := by decide
  have f3 : ((0x42FC0000#32).extractLsb' 0 23).toNat = 8126464 := by decide
  have h : Ideal.ofBits .f32 0x42FC0000#32 = ((126 : ℝ) : EReal) := by
    simp only [Ideal.ofBits, Ideal.ieee, Nat.reduceAdd, f1, f2, f3]
    rw [if_neg (by omega), if_neg (by omega), EReal.coe_eq_coe_iff]
    norm_num
  rw [h]
  rfl

theorem cm126 : Ideal.ofBits .f32 0xC2FC0000#32 = -126 := by
  have f1 : (0xC2FC0000#32).extractLsb' 31 1 = 1#1 := by decide
  have f2 : ((0xC2FC0000#32).extractLsb' 23 8).toNat = 133 := by decide
  have f3 : ((0xC2FC0000#32).extractLsb' 0 23).toNat = 8126464 := by decide
  have h : Ideal.ofBits .f32 0xC2FC0000#32 = ((-126 : ℝ) : EReal) := by
    simp only [Ideal.ofBits, Ideal.ieee, Nat.reduceAdd, f1, f2, f3]
    rw [if_neg (by omega), if_neg (by omega), EReal.coe_eq_coe_iff]
    norm_num
  rw [h, EReal.coe_neg]
  rfl

theorem c448 : Ideal.ofBits .f32 0x43E00000#32 = ((448 : ℝ) : EReal) := by
  have f1 : (0x43E00000#32).extractLsb' 31 1 = 0#1 := by decide
  have f2 : ((0x43E00000#32).extractLsb' 23 8).toNat = 135 := by decide
  have f3 : ((0x43E00000#32).extractLsb' 0 23).toNat = 6291456 := by decide
  simp only [Ideal.ofBits, Ideal.ieee, Nat.reduceAdd, f1, f2, f3]
  rw [if_neg (by omega), if_neg (by omega), EReal.coe_eq_coe_iff]
  norm_num

theorem cm448 : Ideal.ofBits .f32 0xC3E00000#32 = ((-448 : ℝ) : EReal) := by
  have f1 : (0xC3E00000#32).extractLsb' 31 1 = 1#1 := by decide
  have f2 : ((0xC3E00000#32).extractLsb' 23 8).toNat = 135 := by decide
  have f3 : ((0xC3E00000#32).extractLsb' 0 23).toNat = 6291456 := by decide
  simp only [Ideal.ofBits, Ideal.ieee, Nat.reduceAdd, f1, f2, f3]
  rw [if_neg (by omega), if_neg (by omega), EReal.coe_eq_coe_iff]
  norm_num

theorem sqrt_half : Named.named (F := Ideal) κ "sqrt_half" (φ := .f32) 0x3F3504F3#32 = Gelu.c :=
  IdealRules.named_const.ideal_named_scalar _ _ _ _ rfl
theorem ln_two : Named.named (F := Ideal) κ "ln_two" (φ := .f32) 0x3F317218#32 = ((Real.log 2 : ℝ) : EReal) :=
  IdealRules.named_const.ideal_named_scalar _ _ _ _ rfl

/-! ## The body's values -/

theorem pay2_eq : k0_pay2 X w1 s w1s b1 = fun y => Spec.h X s w1 w1s b1 (y 0) (y 1) := by
  unfold k0_pay2
  funext j
  idx_vars j
  pointwise [Spec.h, Gelu.hR, Gelu.y]
  rw [half, sqrt_half]
  rfl

theorem pay3_eq : k0_pay3 X w1 s w1s b1 = fun y => Spec.amax X s w1 w1s b1 (y 0) := by
  unfold k0_pay3
  rw [pay2_eq]
  funext j
  idx_vars j
  pointwise [Spec.amax]
  rfl

theorem pay4_eq : k0_pay4 X w1 s w1s b1 = fun y =>
    min 126 (max (-126) (Ideal.liftRound Int.floor (Ideal.div (Ideal.log (Spec.amax X s w1 w1s b1 (y 0) * Ideal.ofBits .f32 0x3B124925#32)) ((Real.log 2 : ℝ) : EReal)) + 1)) := by
  unfold k0_pay4
  rw [pay3_eq]
  funext j
  idx_vars j
  pointwise
  rw [c126, cm126, ln_two]

theorem pay5_eq : k0_pay5 (k0_pay3 X w1 s w1s b1) (k0_pay4 X w1 s w1s b1) (Scalar.ofBits .f32 0x00000000#32)
    = fun y => Spec.e X s w1 w1s b1 (y 0) := by
  unfold k0_pay5
  rw [pay3_eq, pay4_eq]
  funext j
  idx_vars j
  pointwise [Spec.e, Scale.expR]

theorem pay6_eq : k0_pay6 (k0_pay3 X w1 s w1s b1) (k0_pay4 X w1 s w1s b1) (Scalar.ofBits .f32 0x00000000#32)
    = fun y => Spec.scale X s w1 w1s b1 (y 0) := by
  unfold k0_pay6
  rw [pay5_eq]
  rfl

theorem pay7_eq : k0_pay7 (k0_pay2 X w1 s w1s b1) (k0_pay3 X w1 s w1s b1) (k0_pay4 X w1 s w1s b1) (Scalar.ofBits .f32 0x00000000#32)
    = Spec.quantised X s w1 w1s b1 := by
  unfold k0_pay7
  rw [pay5_eq, pay2_eq]
  funext j
  idx_vars j
  pointwise [Spec.quantised, Spec.q, Gelu.clip]
  rw [c448, cm448]
  rfl

theorem pay1_eq : k0_pay1 (k0_pay6 (k0_pay3 X w1 s w1s b1) (k0_pay4 X w1 s w1s b1) (Scalar.ofBits .f32 0x00000000#32))
    = Spec.scales X s w1 w1s b1 := by
  unfold k0_pay1
  rw [pay6_eq]
  funext j
  idx_vars j
  pointwise [Spec.scales, Spec.brow]
  simp only [Nat.mul_comm 256]

variable (w2 : Vec Ideal S6144x1536 .fp8e4m3) (w2s b2 g : Vec Ideal S1x1536 .f32) (x : Vec Ideal S12x1536x1280 .bf16)

theorem pay8_eq : k0_pay8 (k0_pay2 X w1 s w1s b1) (k0_pay3 X w1 s w1s b1) (k0_pay4 X w1 s w1s b1) (Scalar.ofBits .f32 0x00000000#32)
      w2 w2s b2 g x
    = Spec.out X s w1 w1s b1 w2 w2s b2 g x := by
  unfold k0_pay8
  rw [pay7_eq, pay6_eq]
  funext j
  idx_vars j
  pointwise [Spec.out, Spec.y, Spec.row, Spec.quantised]
  simp only [Nat.mul_comm 1280]

end Cert.ReferenceIdeal.Body

end
-- ==== Proof.RefArray.lean ====
/- The three arrays the reference's run leaves, as functions of the argument arrays. Its grid has one point, and each
window's block is the whole array.
-/
module

public import proofs.«01_k».proof.Proof.RefBody
public import proofs.«01_k».proof.Proof.Reshape

@[expose] public section

set_option maxRecDepth 16384

noncomputable section

namespace Cert.ReferenceIdeal.Arrays

open Idealize.ShloMosaic Idealize.ShloMosaic.TcCoe Idealize.SL.Sem
open Cert.ReferenceIdeal Cert.ReferenceIdeal.Gen Cert.ReferenceIdeal.Value Cert.ReferenceIdeal.Body

theorem hz2 : (![0, 0] : Fin 2 → Nat) = fun _ => 0 := funext fun a => by fin_cases a <;> rfl
theorem hz3 : (![0, 0, 0] : Fin 3 → Nat) = fun _ => 0 := funext fun a => by fin_cases a <;> rfl

section Body

variable (x0 : Vec Ideal S15360x1536 .fp8e4m3) (x1 : Vec Ideal S15360x1 .f32) (x2 : Vec Ideal S12x1536x1280 .bf16)
variable (x3 : Vec Ideal S1536x6144 .fp8e4m3) (x4 x5 : Vec Ideal S1x6144 .f32) (x6 : Vec Ideal S6144x1536 .fp8e4m3)
variable (x7 x8 x9 : Vec Ideal S1x1536 .f32)

theorem ld0 : View.ld x0 r0_0 = x0 := View.ld_unit_zero hz2 ..
theorem ld1 : View.ld x1 r0_2 = x1 := View.ld_unit_zero hz2 ..
theorem ld2 : View.ld x2 r0_6 = x2 := View.ld_unit_zero hz3 ..
theorem ld3 : View.ld x3 r0_1 = x3 := View.ld_unit_zero hz2 ..
theorem ld4 : View.ld x4 r0_3 = x4 := View.ld_unit_zero hz2 ..
theorem ld6 : View.ld x6 r0_4 = x6 := View.ld_unit_zero hz2 ..
theorem ld7 : View.ld x7 r0_5 = x7 := View.ld_unit_zero hz2 ..

theorem out_10 : out0_10 x0 x1 x2 x3 x4 x5 x6 x7 x8 x9 = Spec.out x0 x1 x3 x4 x5 x6 x7 x8 x9 x2 := by
  unfold out0_10 k0_pay9 k0_pay10 k0_pay11
  rw [View.canon_unit_zero hz3, ld0, ld1, ld2, ld3, ld4, ld4, ld6, ld7, ld7, ld7, pay8_eq]

theorem out_11 : out0_11 x0 x1 x2 x3 x4 x5 x6 x7 x8 x9 = Spec.quantised x0 x1 x3 x4 x5 := by
  unfold out0_11 k0_pay9 k0_pay10 k0_pay11
  rw [View.canon_unit_zero hz2, ld0, ld1, ld3, ld4, ld4, pay7_eq]

theorem out_12 : out0_12 x0 x1 x2 x3 x4 x5 x6 x7 x8 x9 = Spec.scales x0 x1 x3 x4 x5 := by
  unfold out0_12 k0_pay10 k0_pay11
  rw [View.canon_unit_zero hz3, ld0, ld1, ld3, ld4, ld4, pay1_eq]

end Body

variable (m : (ℓ : Loc nD τ sig) → Buf (Elt Ideal) ℓ) (c : Dev nD)

/-! ## The arrays the host hands over -/

theorem V_v0 : V m c main_v0 = shapeCast S15360x1536 (m ((c : Thread nD τ).loc main_arg0)) shapeCasts_S12x1280x1536_S15360x1536 := by
  show StableHlo.after hostOps0 _ (Proc.devRef .tc main_v0) = _
  after_results
  rfl
theorem V_v1 : V m c main_v1 = shapeCast S15360x1 (m ((c : Thread nD τ).loc main_arg1)) shapeCasts_S12x1280_S15360x1 := by
  show StableHlo.after hostOps0 _ (Proc.devRef .tc main_v1) = _
  after_results
  rfl
theorem V_v2 : V m c main_v2 = shapeCast S1x6144 (m ((c : Thread nD τ).loc main_arg4)) shapeCasts_S6144_S1x6144 := by
  show StableHlo.after hostOps0 _ (Proc.devRef .tc main_v2) = _
  after_results
  rfl
theorem V_v3 : V m c main_v3 = shapeCast S1x6144 (m ((c : Thread nD τ).loc main_arg5)) shapeCasts_S6144_S1x6144 := by
  show StableHlo.after hostOps0 _ (Proc.devRef .tc main_v3) = _
  after_results
  rfl
theorem V_v4 : V m c main_v4 = shapeCast S1x1536 (m ((c : Thread nD τ).loc main_arg7)) shapeCasts_S1536_S1x1536 := by
  show StableHlo.after hostOps0 _ (Proc.devRef .tc main_v4) = _
  after_results
  rfl
theorem V_v5 : V m c main_v5 = shapeCast S1x1536 (m ((c : Thread nD τ).loc main_arg8)) shapeCasts_S1536_S1x1536 := by
  show StableHlo.after hostOps0 _ (Proc.devRef .tc main_v5) = _
  after_results
  rfl
theorem V_v6 : V m c main_v6 = shapeCast S1x1536 (m ((c : Thread nD τ).loc main_arg9)) shapeCasts_S1536_S1x1536 := by
  show StableHlo.after hostOps0 _ (Proc.devRef .tc main_v6) = _
  after_results
  rfl

/-! ## Each window's block is its whole array -/

variable (t : Fin cfg0.N)

theorem idx0 : ∀ t : Fin cfg0.N, win0_0.index t (0 : Fin 2) = 0 ∧ win0_0.index t (1 : Fin 2) = 0 :=
  (by decide +kernel : ∀ t : Fin grid0.N, _)
theorem emb0 (j : S15360x1536.Idx) : ((cfg0.win 0).blk t).view.emb j = j := by
  obtain ⟨e0, e1⟩ := idx0 t
  funext a; apply Fin.ext
  match a with
  | ⟨0, _⟩ => show win0_0.index t (0 : Fin 2) * 15360 + 1 * (j 0).val = (j 0).val; omega
  | ⟨1, _⟩ => show win0_0.index t (1 : Fin 2) * 1536 + 1 * (j 1).val = (j 1).val; omega
theorem blk0 : (iblk m c 0 t : Vec Ideal S15360x1536 .fp8e4m3) = V m c main_v0 := by
  funext j
  show V m c main_v0 (((cfg0.win 0).blk t).view.emb j) = _
  rw [emb0]

theorem idx1 : ∀ t : Fin cfg0.N, win0_1.index t (0 : Fin 2) = 0 ∧ win0_1.index t (1 : Fin 2) = 0 :=
  (by decide +kernel : ∀ t : Fin grid0.N, _)
theorem emb1 (j : S15360x1.Idx) : ((cfg0.win 1).blk t).view.emb j = j := by
  obtain ⟨e0, e1⟩ := idx1 t
  funext a; apply Fin.ext
  match a with
  | ⟨0, _⟩ => show win0_1.index t (0 : Fin 2) * 15360 + 1 * (j 0).val = (j 0).val; omega
  | ⟨1, _⟩ => show win0_1.index t (1 : Fin 2) * 1 + 1 * (j 1).val = (j 1).val; omega
theorem blk1 : (iblk m c 1 t : Vec Ideal S15360x1 .f32) = V m c main_v1 := by
  funext j
  show V m c main_v1 (((cfg0.win 1).blk t).view.emb j) = _
  rw [emb1]

theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)
theorem emb2 (j : S12x1536x1280.Idx) : ((cfg0.win 2).blk t).view.emb j = j := by
  obtain ⟨e0, e1, e2⟩ := idx2 t
  funext a; apply Fin.ext
  match a with
  | ⟨0, _⟩ => show win0_2.index t (0 : Fin 3) * 12 + 1 * (j 0).val = (j 0).val; omega
  | ⟨1, _⟩ => show win0_2.index t (1 : Fin 3) * 1536 + 1 * (j 1).val = (j 1).val; omega
  | ⟨2, _⟩ => show win0_2.index t (2 : Fin 3) * 1280 + 1 * (j 2).val = (j 2).val; omega
theorem blk2 : (iblk m c 2 t : Vec Ideal S12x1536x1280 .bf16) = V m c main_arg2 := by
  funext j
  show V m c main_arg2 (((cfg0.win 2).blk t).view.emb j) = _
  rw [emb2]

theorem idx3 : ∀ t : Fin cfg0.N, win0_3.index t (0 : Fin 2) = 0 ∧ win0_3.index t (1 : Fin 2) = 0 :=
  (by decide +kernel : ∀ t : Fin grid0.N, _)
theorem emb3 (j : S1536x6144.Idx) : ((cfg0.win 3).blk t).view.emb j = j := by
  obtain ⟨e0, e1⟩ := idx3 t
  funext a; apply Fin.ext
  match a with
  | ⟨0, _⟩ => show win0_3.index t (0 : Fin 2) * 1536 + 1 * (j 0).val = (j 0).val; omega
  | ⟨1, _⟩ => show win0_3.index t (1 : Fin 2) * 6144 + 1 * (j 1).val = (j 1).val; omega
theorem blk3 : (iblk m c 3 t : Vec Ideal S1536x6144 .fp8e4m3) = V m c main_arg3 := by
  funext j
  show V m c main_arg3 (((cfg0.win 3).blk t).view.emb j) = _
  rw [emb3]

theorem idx4 : ∀ t : Fin cfg0.N, win0_4.index t (0 : Fin 2) = 0 ∧ win0_4.index t (1 : Fin 2) = 0 :=
  (by decide +kernel : ∀ t : Fin grid0.N, _)
theorem emb4 (j : S1x6144.Idx) : ((cfg0.win 4).blk t).view.emb j = j := by
  obtain ⟨e0, e1⟩ := idx4 t
  funext a; apply Fin.ext
  match a with
  | ⟨0, _⟩ => show win0_4.index t (0 : Fin 2) * 1 + 1 * (j 0).val = (j 0).val; omega
  | ⟨1, _⟩ => show win0_4.index t (1 : Fin 2) * 6144 + 1 * (j 1).val = (j 1).val; omega
theorem blk4 : (iblk m c 4 t : Vec Ideal S1x6144 .f32) = V m c main_v2 := by
  funext j
  show V m c main_v2 (((cfg0.win 4).blk t).view.emb j) = _
  rw [emb4]

theorem idx5 : ∀ t : Fin cfg0.N, win0_5.index t (0 : Fin 2) = 0 ∧ win0_5.index t (1 : Fin 2) = 0 :=
  (by decide +kernel : ∀ t : Fin grid0.N, _)
theorem emb5 (j : S1x6144.Idx) : ((cfg0.win 5).blk t).view.emb j = j := by
  obtain ⟨e0, e1⟩ := idx5 t
  funext a; apply Fin.ext
  match a with
  | ⟨0, _⟩ => show win0_5.index t (0 : Fin 2) * 1 + 1 * (j 0).val = (j 0).val; omega
  | ⟨1, _⟩ => show win0_5.index t (1 : Fin 2) * 6144 + 1 * (j 1).val = (j 1).val; omega
theorem blk5 : (iblk m c 5 t : Vec Ideal S1x6144 .f32) = V m c main_v3 := by
  funext j
  show V m c main_v3 (((cfg0.win 5).blk t).view.emb j) = _
  rw [emb5]

theorem idx6 : ∀ t : Fin cfg0.N, win0_6.index t (0 : Fin 2) = 0 ∧ win0_6.index t (1 : Fin 2) = 0 :=
  (by decide +kernel : ∀ t : Fin grid0.N, _)
theorem emb6 (j : S6144x1536.Idx) : ((cfg0.win 6).blk t).view.emb j = j := by
  obtain ⟨e0, e1⟩ := idx6 t
  funext a; apply Fin.ext
  match a with
  | ⟨0, _⟩ => show win0_6.index t (0 : Fin 2) * 6144 + 1 * (j 0).val = (j 0).val; omega
  | ⟨1, _⟩ => show win0_6.index t (1 : Fin 2) * 1536 + 1 * (j 1).val = (j 1).val; omega
theorem blk6 : (iblk m c 6 t : Vec Ideal S6144x1536 .fp8e4m3) = V m c main_arg6 := by
  funext j
  show V m c main_arg6 (((cfg0.win 6).blk t).view.emb j) = _
  rw [emb6]

theorem idx7 : ∀ t : Fin cfg0.N, win0_7.index t (0 : Fin 2) = 0 ∧ win0_7.index t (1 : Fin 2) = 0 :=
  (by decide +kernel : ∀ t : Fin grid0.N, _)
theorem emb7 (j : S1x1536.Idx) : ((cfg0.win 7).blk t).view.emb j = j := by
  obtain ⟨e0, e1⟩ := idx7 t
  funext a; apply Fin.ext
  match a with
  | ⟨0, _⟩ => show win0_7.index t (0 : Fin 2) * 1 + 1 * (j 0).val = (j 0).val; omega
  | ⟨1, _⟩ => show win0_7.index t (1 : Fin 2) * 1536 + 1 * (j 1).val = (j 1).val; omega
theorem blk7 : (iblk m c 7 t : Vec Ideal S1x1536 .f32) = V m c main_v4 := by
  funext j
  show V m c main_v4 (((cfg0.win 7).blk t).view.emb j) = _
  rw [emb7]

theorem idx8 : ∀ t : Fin cfg0.N, win0_8.index t (0 : Fin 2) = 0 ∧ win0_8.index t (1 : Fin 2) = 0 :=
  (by decide +kernel : ∀ t : Fin grid0.N, _)
theorem emb8 (j : S1x1536.Idx) : ((cfg0.win 8).blk t).view.emb j = j := by
  obtain ⟨e0, e1⟩ := idx8 t
  funext a; apply Fin.ext
  match a with
  | ⟨0, _⟩ => show win0_8.index t (0 : Fin 2) * 1 + 1 * (j 0).val = (j 0).val; omega
  | ⟨1, _⟩ => show win0_8.index t (1 : Fin 2) * 1536 + 1 * (j 1).val = (j 1).val; omega
theorem blk8 : (iblk m c 8 t : Vec Ideal S1x1536 .f32) = V m c main_v5 := by
  funext j
  show V m c main_v5 (((cfg0.win 8).blk t).view.emb j) = _
  rw [emb8]

theorem idx9 : ∀ t : Fin cfg0.N, win0_9.index t (0 : Fin 2) = 0 ∧ win0_9.index t (1 : Fin 2) = 0 :=
  (by decide +kernel : ∀ t : Fin grid0.N, _)
theorem emb9 (j : S1x1536.Idx) : ((cfg0.win 9).blk t).view.emb j = j := by
  obtain ⟨e0, e1⟩ := idx9 t
  funext a; apply Fin.ext
  match a with
  | ⟨0, _⟩ => show win0_9.index t (0 : Fin 2) * 1 + 1 * (j 0).val = (j 0).val; omega
  | ⟨1, _⟩ => show win0_9.index t (1 : Fin 2) * 1536 + 1 * (j 1).val = (j 1).val; omega
theorem blk9 : (iblk m c 9 t : Vec Ideal S1x1536 .f32) = V m c main_v6 := by
  funext j
  show V m c main_v6 (((cfg0.win 9).blk t).view.emb j) = _
  rw [emb9]

theorem idx10 : ∀ t : Fin cfg0.N, win0_10.index t (0 : Fin 3) = 0 ∧ win0_10.index t (1 : Fin 3) = 0 ∧ win0_10.index t (2 : Fin 3) = 0 :=
  (by decide +kernel : ∀ t : Fin grid0.N, _)
theorem emb10 (j : S12x1536x1280.Idx) : ((cfg0.win 10).blk t).view.emb j = j := by
  obtain ⟨e0, e1, e2⟩ := idx10 t
  funext a; apply Fin.ext
  match a with
  | ⟨0, _⟩ => show win0_10.index t (0 : Fin 3) * 12 + 1 * (j 0).val = (j 0).val; omega
  | ⟨1, _⟩ => show win0_10.index t (1 : Fin 3) * 1536 + 1 * (j 1).val = (j 1).val; omega
  | ⟨2, _⟩ => show win0_10.index t (2 : Fin 3) * 1280 + 1 * (j 2).val = (j 2).val; omega
theorem cut10 (Y : Vec Ideal S12x1536x1280 .bf16) : (cfg0.win 10).cut (grid0.coords t) Y = ((cfg0.win 10).blk t).view.read (Elt Ideal) Y := by
  funext j
  show Y j = Y (((cfg0.win 10).blk t).view.emb j)
  rw [emb10]
theorem covered10 (i : S12x1536x1280.Idx) : ∃ t : Fin cfg0.N, (cfg0.win 10).flush t = true ∧ i ∈ ((cfg0.win 10).blk t).view.set :=
  ⟨(⟨0, by decide⟩ : Fin cfg0.N), flush0_10 _, by
    have h := ((cfg0.win 10).blk (⟨0, by decide⟩ : Fin cfg0.N)).view.emb_mem_set i; rwa [emb10] at h⟩

theorem idx11 : ∀ t : Fin cfg0.N, win0_11.index t (0 : Fin 2) = 0 ∧ win0_11.index t (1 : Fin 2) = 0 :=
  (by decide +kernel : ∀ t : Fin grid0.N, _)
theorem emb11 (j : S15360x6144.Idx) : ((cfg0.win 11).blk t).view.emb j = j := by
  obtain ⟨e0, e1⟩ := idx11 t
  funext a; apply Fin.ext
  match a with
  | ⟨0, _⟩ => show win0_11.index t (0 : Fin 2) * 15360 + 1 * (j 0).val = (j 0).val; omega
  | ⟨1, _⟩ => show win0_11.index t (1 : Fin 2) * 6144 + 1 * (j 1).val = (j 1).val; omega
theorem cut11 (Y : Vec Ideal S15360x6144 .fp8e4m3) : (cfg0.win 11).cut (grid0.coords t) Y = ((cfg0.win 11).blk t).view.read (Elt Ideal) Y := by
  funext j
  show Y j = Y (((cfg0.win 11).blk t).view.emb j)
  rw [emb11]
theorem covered11 (i : S15360x6144.Idx) : ∃ t : Fin cfg0.N, (cfg0.win 11).flush t = true ∧ i ∈ ((cfg0.win 11).blk t).view.set :=
  ⟨(⟨0, by decide⟩ : Fin cfg0.N), flush0_11 _, by
    have h := ((cfg0.win 11).blk (⟨0, by decide⟩ : Fin cfg0.N)).view.emb_mem_set i; rwa [emb11] at h⟩

theorem idx12 : ∀ t : Fin cfg0.N, win0_12.index t (0 : Fin 3) = 0 ∧ win0_12.index t (1 : Fin 3) = 0 ∧ win0_12.index t (2 : Fin 3) = 0 :=
  (by decide +kernel : ∀ t : Fin grid0.N, _)
theorem emb12 (j : S60x1x256.Idx) : ((cfg0.win 12).blk t).view.emb j = j := by
  obtain ⟨e0, e1, e2⟩ := idx12 t
  funext a; apply Fin.ext
  match a with
  | ⟨0, _⟩ => show win0_12.index t (0 : Fin 3) * 60 + 1 * (j 0).val = (j 0).val; omega
  | ⟨1, _⟩ => show win0_12.index t (1 : Fin 3) * 1 + 1 * (j 1).val = (j 1).val; omega
  | ⟨2, _⟩ => show win0_12.index t (2 : Fin 3) * 256 + 1 * (j 2).val = (j 2).val; omega
theorem cut12 (Y : Vec Ideal S60x1x256 .f32) : (cfg0.win 12).cut (grid0.coords t) Y = ((cfg0.win 12).blk t).view.read (Elt Ideal) Y := by
  funext j
  show Y j = Y (((cfg0.win 12).blk t).view.emb j)
  rw [emb12]
theorem covered12 (i : S60x1x256.Idx) : ∃ t : Fin cfg0.N, (cfg0.win 12).flush t = true ∧ i ∈ ((cfg0.win 12).blk t).view.set :=
  ⟨(⟨0, by decide⟩ : Fin cfg0.N), flush0_12 _, by
    have h := ((cfg0.win 12).blk (⟨0, by decide⟩ : Fin cfg0.N)).view.emb_mem_set i; rwa [emb12] at h⟩

/-! ## The results -/

/-- The arguments in the function's shapes. -/
abbrev X : Vec Ideal S15360x1536 .fp8e4m3 := Spec.rows (m ((c : Thread nD τ).loc main_arg0))
abbrev s : Vec Ideal S15360x1 .f32 := Spec.column (m ((c : Thread nD τ).loc main_arg1))
abbrev x : Vec Ideal S12x1536x1280 .bf16 := m ((c : Thread nD τ).loc main_arg2)
abbrev w1 : Vec Ideal S1536x6144 .fp8e4m3 := m ((c : Thread nD τ).loc main_arg3)
abbrev w1s : Vec Ideal S1x6144 .f32 := Spec.line (m ((c : Thread nD τ).loc main_arg4))
abbrev b1 : Vec Ideal S1x6144 .f32 := Spec.line (m ((c : Thread nD τ).loc main_arg5))
abbrev w2 : Vec Ideal S6144x1536 .fp8e4m3 := m ((c : Thread nD τ).loc main_arg6)
abbrev w2s : Vec Ideal S1x1536 .f32 := Spec.line (m ((c : Thread nD τ).loc main_arg7))
abbrev b2 : Vec Ideal S1x1536 .f32 := Spec.line (m ((c : Thread nD τ).loc main_arg8))
abbrev g : Vec Ideal S1x1536 .f32 := Spec.line (m ((c : Thread nD τ).loc main_arg9))

abbrev G10 : Vec Ideal S12x1536x1280 .bf16 :=
  Spec.out (X m c) (s m c) (w1 m c) (w1s m c) (b1 m c) (w2 m c) (w2s m c) (b2 m c) (g m c) (x m c)
abbrev G11 : Vec Ideal S15360x6144 .fp8e4m3 := Spec.quantised (X m c) (s m c) (w1 m c) (w1s m c) (b1 m c)
abbrev G12 : Vec Ideal S60x1x256 .f32 := Spec.scales (X m c) (s m c) (w1 m c) (w1s m c) (b1 m c)

theorem E0 : (iblk m c 0 t : Vec Ideal S15360x1536 .fp8e4m3) = X m c := by rw [blk0, V_v0, Spec.rows_eq]
theorem E1 : (iblk m c 1 t : Vec Ideal S15360x1 .f32) = s m c := by rw [blk1, V_v1, Spec.column_eq]
theorem E2 : (iblk m c 2 t : Vec Ideal S12x1536x1280 .bf16) = x m c := by rw [blk2, V_main_arg2]
theorem E3 : (iblk m c 3 t : Vec Ideal S1536x6144 .fp8e4m3) = w1 m c := by rw [blk3, V_main_arg3]
theorem E4 : (iblk m c 4 t : Vec Ideal S1x6144 .f32) = w1s m c := by rw [blk4, V_v2, Spec.line_eq]
theorem E5 : (iblk m c 5 t : Vec Ideal S1x6144 .f32) = b1 m c := by rw [blk5, V_v3, Spec.line_eq]
theorem E6 : (iblk m c 6 t : Vec Ideal S6144x1536 .fp8e4m3) = w2 m c := by rw [blk6, V_main_arg6]
theorem E7 : (iblk m c 7 t : Vec Ideal S1x1536 .f32) = w2s m c := by rw [blk7, V_v4, Spec.line_eq']
theorem E8 : (iblk m c 8 t : Vec Ideal S1x1536 .f32) = b2 m c := by rw [blk8, V_v5, Spec.line_eq']
theorem E9 : (iblk m c 9 t : Vec Ideal S1x1536 .f32) = g m c := by rw [blk9, V_v6, Spec.line_eq']

theorem final10 : (dats m 0 c).arrAt 10 cfg0.N = G10 m c :=
  (dats m 0 c).arrAt_eq_of_cover 10 (G10 m c) (fun t _ => by
    rw [flushed10, out_10, E0, E1, E2, E3, E4, E5, E6, E7, E8, E9]
    exact cut10 t _) covered10

theorem final11 : (dats m 0 c).arrAt 11 cfg0.N = G11 m c :=
  (dats m 0 c).arrAt_eq_of_cover 11 (G11 m c) (fun t _ => by
    rw [flushed11, out_11, E0, E1, E3, E4, E5]
    exact cut11 t _) covered11

theorem final12 : (dats m 0 c).arrAt 12 cfg0.N = G12 m c :=
  (dats m 0 c).arrAt_eq_of_cover 12 (G12 m c) (fun t _ => by
    rw [flushed12, out_12, E0, E1, E3, E4, E5]
    exact cut12 t _) covered12

end Cert.ReferenceIdeal.Arrays

end
-- ==== Proof.Equal.lean ====
/- The value claim: run from memories that agree on the arguments, the kernel and the reference end with equal results,
whenever the second layer's bias and the layer scale are finite.
-/
module

public import proofs.«01_k».proof.Defs
public import proofs.«01_k».proof.Proof.KernelArray
public import proofs.«01_k».proof.Proof.RefArray

@[expose] public section

set_option maxRecDepth 16384

noncomputable section

namespace Cert.Proof

open Idealize.ShloMosaic Idealize.ShloMosaic.TcCoe Idealize.SL.Sem

theorem preFacts : Cert.Pre_finite_affine.Facts := ⟨by decide⟩

theorem inf : Ideal.ofBits .f32 0x7F800000#32 = ⊤ := by
  have f1 : (0x7F800000#32).extractLsb' 31 1 = 0#1 := by decide
  have f2 : ((0x7F800000#32).extractLsb' 23 8).toNat = 255 := by decide
  have f3 : ((0x7F800000#32).extractLsb' 0 23).toNat = 0 := by decide
  simp [Ideal.ofBits, Ideal.ieee, f1, f2, f3]

/-- An absolute value below infinity is that of a finite number. -/
theorem finite_of_abs {a : EReal} (h : max a (-a) < ⊤) : a ≠ ⊤ ∧ a ≠ ⊥ := by
  constructor
  · rintro rfl
    exact absurd (lt_of_le_of_lt (le_max_left _ _) h) (lt_irrefl _)
  · rintro rfl
    rw [EReal.neg_bot] at h
    exact absurd (lt_of_le_of_lt (le_max_right _ _) h) (lt_irrefl _)

theorem finite_of_pre {a : EReal} (h : BitVec.ofBool (decide (max a (-a) < Ideal.ofBits .f32 0x7F800000#32)) = 1#1) :
    a ≠ ⊤ ∧ a ≠ ⊥ := by
  rw [inf] at h
  by_cases hd : max a (-a) < ⊤
  · exact finite_of_abs hd
  · rw [decide_eq_false hd] at h
    exact absurd h (by decide)

theorem finite (m : (ℓ : Loc Cert.KernelIdeal.nD Cert.KernelIdeal.τ Cert.KernelIdeal.sig) → Buf (Elt Ideal) ℓ)
    (h : Pre_KernelIdeal_finite_affine (hPre_finite_affine := preFacts) m) (c : Dev Cert.KernelIdeal.nD) :
    Cert.KernelIdeal.Arrays.Finite m c := fun d =>
  ⟨finite_of_pre (congrFun (h c).1 (ix1 d)), finite_of_pre (congrFun (h c).2 (ix1 d))⟩

theorem algebraic : algebraic_KernelIdeal_ReferenceIdeal_pre_finite_affine (hKernelIdeal := Cert.KernelIdeal.Gen.facts)
    (hReferenceIdeal := Cert.ReferenceIdeal.Gen.facts) (hPre_finite_affine := preFacts) := by
  intro m g m' g' hp hargs
  refine ⟨fun c => Cert.KernelIdeal.Arrays.G9 m c, fun c => Cert.KernelIdeal.Arrays.G10 m c,
    fun c => Cert.KernelIdeal.Arrays.G11 m c, ?_, ?_⟩
  · refine (θ_run Cert.KernelIdeal.defs _ _).mono (fun r h c => ?_) (Cert.KernelIdeal.Value.run_blocks m g)
    obtain ⟨h0, h1, h2, hrest⟩ := h c
    exact ⟨h0.trans (Cert.KernelIdeal.Arrays.final9 m c (finite m hp c)), h1.trans (Cert.KernelIdeal.Arrays.final10 m c),
      h2.trans (Cert.KernelIdeal.Arrays.final11 m c), hrest⟩
  · refine (θ_run Cert.ReferenceIdeal.defs _ _).mono (fun r h c => ?_) (Cert.ReferenceIdeal.Value.run_blocks m' g')
    obtain ⟨h0, h1, h2, hrest⟩ := h c
    obtain ⟨a0, a1, a2, a3, a4, a5, a6, a7, a8, a9⟩ := hargs c
    refine ⟨h0.trans ((Cert.ReferenceIdeal.Arrays.final10 m' c).trans ?_), h1.trans ((Cert.ReferenceIdeal.Arrays.final11 m' c).trans ?_),
      h2.trans ((Cert.ReferenceIdeal.Arrays.final12 m' c).trans ?_), hrest⟩
    · unfold Cert.ReferenceIdeal.Arrays.G10 Cert.ReferenceIdeal.Arrays.X Cert.ReferenceIdeal.Arrays.s Cert.ReferenceIdeal.Arrays.x
        Cert.ReferenceIdeal.Arrays.w1 Cert.ReferenceIdeal.Arrays.w1s Cert.ReferenceIdeal.Arrays.b1 Cert.ReferenceIdeal.Arrays.w2
        Cert.ReferenceIdeal.Arrays.w2s Cert.ReferenceIdeal.Arrays.b2 Cert.ReferenceIdeal.Arrays.g
      rw [a0, a1, a2, a3, a4, a5, a6, a7, a8, a9]
    · unfold Cert.ReferenceIdeal.Arrays.G11 Cert.ReferenceIdeal.Arrays.X Cert.ReferenceIdeal.Arrays.s
        Cert.ReferenceIdeal.Arrays.w1 Cert.ReferenceIdeal.Arrays.w1s Cert.ReferenceIdeal.Arrays.b1
      rw [a0, a1, a3, a4, a5]
    · unfold Cert.ReferenceIdeal.Arrays.G12 Cert.ReferenceIdeal.Arrays.X Cert.ReferenceIdeal.Arrays.s
        Cert.ReferenceIdeal.Arrays.w1 Cert.ReferenceIdeal.Arrays.w1s Cert.ReferenceIdeal.Arrays.b1
      rw [a0, a1, a3, a4, a5]

/-- The two named constants are the numbers they name, rounded. -/
theorem preserves_kernel : preserves_Kernel_KernelIdeal :=
  IdealRules.named_const.statement Cert.KernelIdeal.κ "sqrt_half" .f32 0x3F3504F3#32 (((Real.sqrt 2)⁻¹ : ℝ) : EReal) rfl

theorem preserves_reference : preserves_Reference_ReferenceIdeal :=
  ⟨IdealRules.named_const.statement Cert.ReferenceIdeal.κ "sqrt_half" .f32 0x3F3504F3#32 (((Real.sqrt 2)⁻¹ : ℝ) : EReal) rfl,
    IdealRules.named_const.statement Cert.ReferenceIdeal.κ "ln_two" .f32 0x3F317218#32 ((Real.log 2 : ℝ) : EReal) rfl⟩

end Cert.Proof

end
-- ==== Proof.DwlnFrame.lean ====
module

public import proofs.«01_k».proof.Proof.Gen.Dwln.Frame
public import proofs.«01_k».proof.Proof.Gen.Dwln.Loops
public import Idealize.ShloMosaic.Lib.Pipeline.Frame
public import Idealize.ShloMosaic.Lib.Tactic

/-! The frame of the depthwise convolution and layer norm program at machine words: the kernel run once, what it leaves
    in its outputs and in its scratch buffers forgotten. -/

@[expose] public section

noncomputable section

namespace Cert.Dwln.Hand

open Cert.Dwln Cert.Dwln.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F] [∀ e, Nonempty (Elt F e)]

abbrev 𝕄 (F : FTy → Type) : Type := MT nD τ sig Unit (Elt F) ℕ (UR sig nD τ) ℕ

section Run

variable (c : Dev nD) (i : grid0.Coords)
  (arg1 : Memref sig .tc .vmem S1x1536x1280 .bf16) (harg1 : arg1.IsWhole)
  (arg2 : Memref sig .tc .vmem S12x49x16x128 .bf16) (harg2 : arg2.IsWhole)
  (arg3 : Memref sig .tc .vmem S1x1536 .f32) (harg3 : arg3.IsWhole)
  (arg4 : Memref sig .tc .vmem S1x1536 .f32) (harg4 : arg4.IsWhole)
  (arg5 : Memref sig .tc .vmem S1x1536 .f32) (harg5 : arg5.IsWhole)
  (arg6 : Memref sig .tc .vmem S1x1280x1536 .fp8e4m3) (harg6 : arg6.IsWhole)
  (arg7 : Memref sig .tc .vmem S1x1x1280 .f32) (harg7 : arg7.IsWhole)
  (arg8 : Memref sig .tc .vmem S12x864x128 .i32) (harg8 : arg8.IsWhole)
  (arg9 : Memref sig .tc .vmem S12x864x128 .i32) (harg9 : arg9.IsWhole)
  (arg10 : Memref sig .tc .vmem S1280x1536 .f32) (harg10 : arg10.IsWhole)
  (arg11 : Memref sig .tc .vmem S1280x128 .f32) (harg11 : arg11.IsWhole)

/-- The contents of a memref's buffer. -/
abbrev Con (F : FTy → Type) {sp : Space} {S : Shape} {e : EltTy} (M : Memref sig .tc sp S e) : Type := BufTy.Contents (Elt F) M.view.ty

/-- Between two channel tiles: the inputs at their contents, the three buffers the tile rewrites at some. -/
def inv1 (X1 : Con F arg1) (X2 : Con F arg2) (X3 : Con F arg3) (k : ℕ) (_u : PUnit) : sProp (𝕄 F) :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3)
    ∗ (∃ f, arg8.view.loc (c : Thread nD τ) ↦[arg8.view.set]{fullShare} f) ∗ (∃ f, arg9.view.loc (c : Thread nD τ) ↦[arg9.view.set]{fullShare} f)
    ∗ (∃ f, arg10.view.loc (c : Thread nD τ) ↦[arg10.view.set]{fullShare} f))

/-- One tile keeps it. -/
theorem step1 (X1 : Con F arg1) (X2 : Con F arg2) (X3 : Con F arg3) (k : Fin k0_t1_loop.trips) (u : PUnit) :
    inv1 c arg1 arg2 arg3 arg8 arg9 arg10 X1 X2 X3 k.val u
      ⊢ wp Idealize.ShloMosaic.frame (wpE (defs₀ (F := F)) Variants.none (c : Thread nD τ) none) Set.univ
          (k0_t1_body (F := F) i arg1 harg1 arg2 harg2 arg3 harg3 arg4 harg4 arg5 harg5 arg6 harg6 arg7 harg7 arg8 harg8 arg9 harg9 arg10 harg10 arg11 harg11 k u)
          (fun u => inv1 c arg1 arg2 arg3 arg8 arg9 arg10 X1 X2 X3 (k.val + 1) u) := by
  unfold inv1 k0_t1_body
  iintro ⟨H1, H2, H3, ⟨%f8, H8⟩, ⟨%f9, H9⟩, ⟨%f10, H10⟩⟩
  sl_exec
  sl_step
  isplitl [H1]; · iexact H1
  isplitl [H2]; · iexact H2
  isplitl [H3]; · iexact H3
  isplitl [H8]; · iexists _; iexact H8
  isplitl [H9]; · iexists _; iexact H9
  iexists _; iexact H10

/-- The kernel's eleven buffers, the inputs at their contents. -/
abbrev held (X1 : Con F arg1) (X2 : Con F arg2) (X3 : Con F arg3) (X4 : Con F arg4) (X5 : Con F arg5) : sProp (𝕄 F) :=
  iprop((arg1.view.loc (c : Thread nD τ) ↦[arg1.view.set]{fullShare} X1)
      ∗ (arg2.view.loc (c : Thread nD τ) ↦[arg2.view.set]{fullShare} X2)
      ∗ (arg3.view.loc (c : Thread nD τ) ↦[arg3.view.set]{fullShare} X3)
      ∗ (arg4.view.loc (c : Thread nD τ) ↦[arg4.view.set]{fullShare} X4)
      ∗ (arg5.view.loc (c : Thread nD τ) ↦[arg5.view.set]{fullShare} X5)
      ∗ (∃ f, arg6.view.loc (c : Thread nD τ) ↦[arg6.view.set]{fullShare} f)
      ∗ (∃ f, arg7.view.loc (c : Thread nD τ) ↦[arg7.view.set]{fullShare} f)
      ∗ (∃ f, arg8.view.loc (c : Thread nD τ) ↦[arg8.view.set]{fullShare} f)
      ∗ (∃ f, arg9.view.loc (c : Thread nD τ) ↦[arg9.view.set]{fullShare} f)
      ∗ (∃ f, arg10.view.loc (c : Thread nD τ) ↦[arg10.view.set]{fullShare} f)
      ∗ (∃ f, arg11.view.loc (c : Thread nD τ) ↦[arg11.view.set]{fullShare} f))

set_option maxHeartbeats 1000000 in
/-- The kernel from the channel tiles on, its two word buffers at any contents. -/
theorem kernelRun (X1 : Con F arg1) (X2 : Con F arg2) (X3 : Con F arg3) (X4 : Con F arg4) (X5 : Con F arg5) (K : PUnit → sProp (𝕄 F)) :
    iprop(held c arg1 arg2 arg3 arg4 arg5 arg6 arg7 arg8 arg9 arg10 arg11 X1 X2 X3 X4 X5
      ∗ (held c arg1 arg2 arg3 arg4 arg5 arg6 arg7 arg8 arg9 arg10 arg11 X1 X2 X3 X4 X5 -∗ K ⟨⟩))
      ⊢ wp Idealize.ShloMosaic.frame (wpE (defs₀ (F := F)) Variants.none (c : Thread nD τ) none) Set.univ
          (cc0_dwln (F := F) i arg1 harg1 arg2 harg2 arg3 harg3 arg4 harg4 arg5 harg5 arg6 harg6 arg7 harg7 arg8 harg8 arg9 harg9 arg10 harg10 arg11 harg11) K := by
  simp only [cc0_dwln_eq_skeleton]; unfold cc0_dwln_skel
  simp only [k0_part101_eq_skeleton, k0_part102_eq_skeleton]; unfold k0_part101_skel k0_part102_skel
  iintro ⟨⟨H1, H2, H3, H4, H5, ⟨%f6, H6⟩, ⟨%f7, H7⟩, ⟨%f8, H8⟩, ⟨%f9, H9⟩, ⟨%f10, H10⟩, ⟨%f11, H11⟩⟩, HK⟩
  by_cases hc : (Scalar.cmpi .ne (Scalar.extui (Scalar.cmpi .eq (BitVec.ofNat 32 (i 0).val) 0#32) : BitVec 32) 0#32) = 1#1
  all_goals
    sl_exec
    simp only [bind_assoc, Prog.bind_assoc]
    sl_for (inv1 c arg1 arg2 arg3 arg8 arg9 arg10 X1 X2 X3) $$ [H1 H2 H3 H8 H9 H10]
    case region => exact step1 c i arg1 harg1 arg2 harg2 arg3 harg3 arg4 harg4 arg5 harg5 arg6 harg6 arg7 harg7 arg8 harg8 arg9 harg9 arg10 harg10 arg11 harg11 X1 X2 X3
    · unfold inv1
      isplitl [H1]; · iexact H1
      isplitl [H2]; · iexact H2
      isplitl [H3]; · iexact H3
      isplitl [H8]; · iexists _; iexact H8
      isplitl [H9]; · iexists _; iexact H9
      iexists _; iexact H10
    iintro %_ HI
    unfold inv1
    icases HI with ⟨H1, H2, H3, ⟨%g8, H8⟩, ⟨%g9, H9⟩, ⟨%g10, H10⟩⟩
    sl_exec
    sl_step
    iapply HK
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11

end Run

variable (m : (ℓ : Loc nD τ sig) → Buf (Elt F) ℓ) (ρ : Dev nD → PrngReg)

abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)
abbrev ms4 (t : Fin cfg0.N) := win0_4.stage (cfg0.slots t 4)
abbrev ms5 (t : Fin cfg0.N) := win0_5.stage (cfg0.slots t 5)
abbrev ms6 (t : Fin cfg0.N) := win0_6.stage (cfg0.slots t 6)

/-- The invariant between the points, conjunct by conjunct: the four scratch buffers at some contents, the generator register. -/
theorem PhiA0_eq (c : Dev nD) :
    (Pipeline.ΦA spec0 c : sProp (𝕄 F))
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d))
          ∗ (∃ r, prngReg c r)) := by
  unfold Pipeline.ΦA; rw [scopedRest0_eq]; simp only [owns_whole]; try rfl

/-- The two outputs are forgotten. -/
def forgets : Fin 7 → Bool := fun w => w == 5 || w == 6

/-- The proof data: the arrays as the region finds them, each input's buffer left at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Pipeline.Dat.unnamed (cfg := cfg0) 5 t
    | ⟨6, _⟩ => Pipeline.Dat.unnamed (cfg := cfg0) 6 t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp (𝕄 F) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare d)
    ∗ (∃ d, owns (c : Thread nD τ) (ms6 t) fullShare d))
/-- and what it returns. -/
def bodyPost (c : Dev nD) (t : Fin cfg0.N) : sProp (𝕄 F) :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ (∃ d, owns (c : Thread nD τ) (ms5 t) fullShare d)
    ∗ (∃ d, owns (c : Thread nD τ) (ms6 t) fullShare d))

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold owns
  iintro ⟨⟨⟨⟨%e8, %f8, %h8, H8⟩, ⟨%e9, %f9, %h9, H9⟩, ⟨%e10, %f10, %h10, H10⟩, ⟨%e11, %f11, %h11, H11⟩⟩, Hg⟩, Ho, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩⟩
  iapply (kernelRun c (grid0.coords t) _ _ _ _ _ _ _ _ _ _ _ _ _ _ _ _ _ _ _ _ _ _ f1 f2 f3 f4 f5 _)
  isplitl [H1 H2 H3 H4 H5 H6 H7 H8 H9 H10 H11]
  · isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11
  iintro ⟨H1, H2, H3, H4, H5, ⟨%g6, H6⟩, ⟨%g7, H7⟩, ⟨%g8, H8⟩, ⟨%g9, H9⟩, ⟨%g10, H10⟩, ⟨%g11, H11⟩⟩
  isplitl [H8 H9 H10 H11 Hg]
  · isplitl [H8 H9 H10 H11]
    · isplitl [H8]; · iexists _, _; isplitr; swap; · iexact H8
                      ipureintro; rfl
      isplitl [H9]; · iexists _, _; isplitr; swap; · iexact H9
                      ipureintro; rfl
      isplitl [H10]; · iexists _, _; isplitr; swap; · iexact H10
                       ipureintro; rfl
      iexists _, _; isplitr; swap; · iexact H11
      ipureintro; rfl
    iexact Hg
  isplitl [Ho]; · iexact Ho
  isplitl [H1]; · iexists _; isplitr; swap; · iexact H1
                  ipureintro; exact h1
  isplitl [H2]; · iexists _; isplitr; swap; · iexact H2
                  ipureintro; exact h2
  isplitl [H3]; · iexists _; isplitr; swap; · iexact H3
                  ipureintro; exact h3
  isplitl [H4]; · iexists _; isplitr; swap; · iexact H4
                  ipureintro; exact h4
  isplitl [H5]; · iexists _; isplitr; swap; · iexact H5
                  ipureintro; exact h5
  isplitl [H6]; · iexists _, _; isplitr; swap; · iexact H6
                  ipureintro; rfl
  iexists _, _; isplitr; swap; · iexact H7
  ipureintro; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The launch, with every semaphore counter zero at the end. -/
theorem run_main_quiescent : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨(((dats m 0 c).toRForget_arrAt_iff (fgt := forgets) (w := 0) rfl _ _).mp ((h.1 c).1 0)).trans
        (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main_quiescent m ρ)

end Cert.Dwln.Hand

end
-- ==== Proof.DwlnOffsets.lean ====
module

public import proofs.«01_k».proof.Proof.Gen.DwlnIdeal.Loops

/-! The offsets of the depthwise convolution kernel's loads and stores, as the numbers they are. -/

@[expose] public section

namespace Cert.DwlnIdeal.Hand

open Cert.DwlnIdeal Cert.DwlnIdeal.Gen
open Idealize.ShloMosaic

theorem off1_eq : ∀ (k : Fin k0_t1_loop.trips) (t : Fin k0_t2_loop.trips), k0_off1 k t = ![0, 128 * k.val, 128 * t.val] := by decide +kernel
theorem off2_eq : ∀ (k : Fin k0_t1_loop.trips) (t : Fin k0_t2_loop.trips) (r : Fin 4) (h : Fin 2),
    k0_off2 k t (BitVec.ofNat 32 r.val) (BitVec.ofNat 32 (8 * h.val)) = ![k.val, 2 + (3 + 4 * t.val + r.val) * 18 + 8 * h.val, 0, 0] := by decide +kernel
theorem off3_eq : ∀ (k : Fin k0_t1_loop.trips) (t : Fin k0_t3_loop.trips) (r : Fin 4),
    k0_off3 k t (BitVec.ofNat 32 (8 * r.val)) = ![k.val, 54 + 32 * t.val + 8 * r.val, 0, 0] := by decide +kernel
theorem off4_eq : ∀ (k : Fin k0_t1_loop.trips) (t : Fin k0_t3_loop.trips) (r : Fin 4),
    k0_off4 k t (BitVec.ofNat 32 (8 * r.val)) = ![k.val, 54 + 32 * t.val + 8 * r.val + 1, 0, 0] := by decide +kernel
theorem off6_eq : ∀ (k : Fin k0_t1_loop.trips) (t : Fin k0_t4_loop.trips) (r : Fin 10) (h : Fin 12),
    k0_off6 k t (BitVec.ofNat 32 (18 * r.val)) (BitVec.ofNat 32 h.val) = ![k.val, 72 * t.val + 18 * r.val + h.val, 0, 0] := by decide +kernel
theorem off56_eq : ∀ (k : Fin k0_t1_loop.trips) (t : Fin k0_t4_loop.trips) (r : Fin 4) (h : Fin 2),
    k0_off56 k t (BitVec.ofNat 32 r.val) (BitVec.ofNat 32 (16 * h.val)) = ![(4 * t.val + r.val) * 32 + 16 * h.val, 128 * k.val] := by decide +kernel
theorem off57_eq : ∀ (t : Fin k0_t5_loop.trips), k0_off57 t = ![32 * t.val, 0] := by decide +kernel
theorem off58_eq : ∀ (t : Fin k0_t5_loop.trips), k0_off58 t = ![0, 32 * t.val, 0] := by decide +kernel
theorem off59_eq : ∀ (t : Fin k0_t5_loop.trips), k0_off59 t = ![32 * t.val, 0] := by decide +kernel
theorem off5_eq : ∀ (t : Fin k0_t1_loop.trips), k0_off5 t = ![0, 128 * t.val] := by decide +kernel

end Cert.DwlnIdeal.Hand

end
-- ==== Proof.DwlnPlane.lean ====
module

public import proofs.«01_k».proof.Proof.DwlnOffsets
public import Idealize.ShloMosaic.Lib.Pointwise.Tactic
public import Idealize.ShloMosaic.Lib.Pointwise.IndexVar
public import Idealize.ShloMosaic.Lib.Bf16PairInverse

/-! What the word buffers read as: the 128 channels of a tile transposed into padded rows of pitch 36, and the same moved by
    one pixel. -/

@[expose] public section

noncomputable section

namespace Cert.DwlnIdeal.Hand

open Cert.DwlnIdeal Cert.DwlnIdeal.Gen
open Idealize.ShloMosaic Idealize.ShloMosaic.TcCoe Idealize.ShloMosaic.Tactic

/-! ## Reading a buffer after a list of writes -/

section Writes

variable {sig : RefSig} {κ : Kind} {sp : Space} {s : Shape} {e : EltTy} {Val : EltTy → Type}

/-- Pieces that all agree with `G`, over contents that agree with it wherever no piece lands, leave `G`. -/
theorem read_writes_eq (v : View sig κ sp s e) (f : v.ty.Contents Val) (G : s.Idx → Val e) (L : List (View.Piece Val s e))
    (hG : ∀ p ∈ L, ∀ x : p.1.shape.Idx, p.2 x = G (p.1.emb x)) (y : s.Idx) (hf : (∃ p ∈ L, y ∈ p.1.set) ∨ v.read Val f y = G y) :
    v.read Val (v.writes Val f L) y = G y := by
  by_cases h : ∃ p ∈ L, y ∈ p.1.set
  · exact v.read_writes_apply_of_pieces f G L hG y h
  · rw [v.read_writes_apply_of_forall_not_mem f y L fun p hp hy => h ⟨p, hp, hy⟩]
    exact hf.resolve_left h

/-- A place is in a box of unit strides when each coordinate is. -/
theorem mem_unit {off size : Fin s.rank → ℕ} (inb : ∀ a, off a + size a ≤ s.size a) (y : s.Idx)
    (h : ∀ a, off a ≤ (y a).val ∧ (y a).val < off a + size a) : y ∈ (Rect.unit (s := s) off size inb).set :=
  (Rect.unit (s := s) off size inb).mem_set.mpr fun a => ⟨(y a).val - off a, by have := h a; show _ < size a; omega, by
    have := h a; show (y a).val = off a + 1 * _; omega⟩

end Writes

section Apply

variable {α : Type}

/-- The two halves of 8 words of a tile from word `o` on, interleaved again: rows `2 o` to `2 o + 15`. -/
theorem words_apply (o : ℕ) (t : S128x128.Idx → α) (h : S64x128.Slices ![o, 0] S8x128) (x : S1x8x2x128.Idx) (z : S128x128.Idx)
    (h0 : (z 0).val = 2 * (o + (x 1).val) + (x 2).val) (h1 : (z 1).val = (x 3).val) :
    interleaveRows S1x8x2x128
      (shapeCast S1x8x1x128 (shapeCast S1x8x128 (extractStridedSlice S8x128 ![o, 0] (rowsOfParity 0 S64x128 t bitcasts_S128x128_w16_S64x128_w32) h) shapeCasts_S8x128_S1x8x128) shapeCasts_S1x8x128_S1x8x1x128)
      (shapeCast S1x8x1x128 (shapeCast S1x8x128 (extractStridedSlice S8x128 ![o, 0] (rowsOfParity 1 S64x128 t bitcasts_S128x128_w16_S64x128_w32) h) shapeCasts_S8x128_S1x8x128) shapeCasts_S1x8x128_S1x8x1x128)
      bitcasts_S1x8x2x128_w16_S1x8x1x128_w32 x = t z := by
  idx_vars x
  idx_vars z
  pointwise at *
  split
  · exact congrArg t (congrArg₂ ix2 (Fin.ext (by show 2 * (o + x1.val) = z0.val; omega)) (Fin.ext h1.symm))
  · exact congrArg t (congrArg₂ ix2 (Fin.ext (by show 2 * (o + x1.val) + 1 = z0.val; omega)) (Fin.ext h1.symm))

/-- 8 words from two loads, the high halves of the one under the low halves of the other: the pixels moved by one. -/
theorem odd_apply (a b : S1x8x2x128.Idx → α) (x : S1x8x2x128.Idx) :
    interleaveRows S1x8x2x128
      (shapeCast S1x8x1x128 (shapeCast S1x8x128 (rowsOfParity 0 S8x128 (interleaveRows S16x128
        (shapeCast S8x128 (shapeCast S1x8x128 (rowsOfParity 1 S1x8x1x128 a bitcasts_S1x8x2x128_w16_S1x8x1x128_w32) shapeCasts_S1x8x1x128_S1x8x128) shapeCasts_S1x8x128_S8x128)
        (shapeCast S8x128 (shapeCast S1x8x128 (rowsOfParity 0 S1x8x1x128 b bitcasts_S1x8x2x128_w16_S1x8x1x128_w32) shapeCasts_S1x8x1x128_S1x8x128) shapeCasts_S1x8x128_S8x128)
        bitcasts_S16x128_w16_S8x128_w32) bitcasts_S16x128_w16_S8x128_w32) shapeCasts_S8x128_S1x8x128) shapeCasts_S1x8x128_S1x8x1x128)
      (shapeCast S1x8x1x128 (shapeCast S1x8x128 (rowsOfParity 1 S8x128 (interleaveRows S16x128
        (shapeCast S8x128 (shapeCast S1x8x128 (rowsOfParity 1 S1x8x1x128 a bitcasts_S1x8x2x128_w16_S1x8x1x128_w32) shapeCasts_S1x8x1x128_S1x8x128) shapeCasts_S1x8x128_S8x128)
        (shapeCast S8x128 (shapeCast S1x8x128 (rowsOfParity 0 S1x8x1x128 b bitcasts_S1x8x2x128_w16_S1x8x1x128_w32) shapeCasts_S1x8x1x128_S1x8x128) shapeCasts_S1x8x128_S8x128)
        bitcasts_S16x128_w16_S8x128_w32) bitcasts_S16x128_w16_S8x128_w32) shapeCasts_S8x128_S1x8x128) shapeCasts_S1x8x128_S1x8x1x128)
      bitcasts_S1x8x2x128_w16_S1x8x1x128_w32 x
      = if (x 2).val = 0 then a (ix4 0 (x 1) 1 (x 3)) else b (ix4 0 (x 1) 0 (x 3)) := by
  rw [rowsOfParity_zero_interleaveRows, rowsOfParity_one_interleaveRows]
  idx_vars x
  pointwise
  have hx0 : x0 = 0 := Subsingleton.elim _ _
  have hx2 : x2.val < 2 := x2.isLt
  subst hx0
  split
  · have h : x2.val = 0 := by omega
    exact (congrArg a (congrArg (ix4 0 x1 · x3) (Fin.ext (by show 2 * (x2.val / 2) + 1 = 1; omega)))).trans (if_pos h).symm
  · have h : ¬ x2.val = 0 := by omega
    exact (congrArg b (congrArg (ix4 0 x1 · x3) (Fin.ext (by show 2 * (x2.val / 2) = 0; omega)))).trans (if_neg h).symm

/-- A tile of 128 channels by 128 pixels, transposed. -/
theorem transposed_apply (a : S1x128x128.Idx → α) (z : S128x128.Idx) :
    transpose S128x128 [1, 0] (shapeCast S128x128 a shapeCasts_S1x128x128_S128x128) transposes_S128x128_p1_0_S128x128 z = a (ix3 0 (z 1) (z 0)) := by
  idx_vars z
  pointwise

/-- 8 words as 16 rows of pixels. -/
theorem tap_apply (a : S1x8x2x128.Idx → α) (x : S16x128.Idx) :
    interleaveRows S16x128
      (shapeCast S8x128 (shapeCast S1x8x128 (rowsOfParity 0 S1x8x1x128 a bitcasts_S1x8x2x128_w16_S1x8x1x128_w32) shapeCasts_S1x8x1x128_S1x8x128) shapeCasts_S1x8x128_S8x128)
      (shapeCast S8x128 (shapeCast S1x8x128 (rowsOfParity 1 S1x8x1x128 a bitcasts_S1x8x2x128_w16_S1x8x1x128_w32) shapeCasts_S1x8x1x128_S1x8x128) shapeCasts_S1x8x128_S8x128)
      bitcasts_S16x128_w16_S8x128_w32 x
      = a (ix4 0 ⟨(x 0).val / 2, by have : (x 0).val < 16 := (x 0).isLt; omega⟩ ⟨(x 0).val % 2, by omega⟩ (x 1)) := by
  idx_vars x
  pointwise
  split
  · exact congrArg a (congrArg (ix4 0 _ · x1) (Fin.ext (by show 0 = x0.val % 2; omega)))
  · exact congrArg a (congrArg (ix4 0 _ · x1) (Fin.ext (by show 1 = x0.val % 2; omega)))

end Apply

/-! ## The loops -/

/-- The pieces of a loop's trips are the trips' pieces. -/
theorem mem_trips {α : Type} {N : ℕ} (f : ℕ → List α) (trip : Fin N → List α) (h0 : f 0 = []) (hs : ∀ k : Fin N, f (k.val + 1) = trip k ++ f k.val)
    (p : α) : ∀ n ≤ N, (p ∈ f n ↔ ∃ k : Fin N, k.val < n ∧ p ∈ trip k)
  | 0, _ => by rw [h0]; simp
  | n + 1, hn => by
    rw [hs ⟨n, hn⟩, List.mem_append, mem_trips f trip h0 hs p n (by omega)]
    constructor
    · rintro (h | ⟨k, hk, h⟩)
      · exact ⟨⟨n, hn⟩, Nat.lt_succ_self n, h⟩
      · exact ⟨k, by omega, h⟩
    · rintro ⟨k, hk, h⟩
      rcases Nat.lt_succ_iff_lt_or_eq.mp hk with hk | hk
      · exact .inr ⟨k, hk, h⟩
      · exact .inl (by rwa [show (⟨n, hn⟩ : Fin N) = k from Fin.ext hk.symm])

/-- Channel `ch` of a block at pixel `s`. -/
def xat (X : S1x1536x1280.Idx → EReal) (ch s : ℕ) : EReal :=
  if h : ch < 1536 ∧ s < 1280 then X (ix3 0 ⟨ch, h.1⟩ ⟨s, h.2⟩) else 0

theorem xat_eq (X : S1x1536x1280.Idx → EReal) {ch s : ℕ} (y : S1x1536x1280.Idx) (h1 : (y 1).val = ch) (h2 : (y 2).val = s) : X y = xat X ch s := by
  subst h1 h2
  idx_vars y
  have e : y0 = 0 := Subsingleton.elim _ _
  subst e
  have h : y1.val < 1536 ∧ y2.val < 1280 := ⟨y1.isLt, y2.isLt⟩
  unfold xat
  rw [dif_pos h]

/-- A place of the padded plane that is a pixel. -/
def Inside (L : ℕ) : Prop := (3 ≤ L / 36 ∧ L / 36 < 43) ∧ 4 ≤ L % 36 ∧ L % 36 < 36

instance (L : ℕ) : Decidable (Inside L) := by unfold Inside; infer_instance

/-- Channel `ch` in padded rows of pitch 36, three rows above and below, four columns to the left. -/
def plane (X : S1x1536x1280.Idx → EReal) (ch L : ℕ) : EReal :=
  if Inside L then xat X ch (32 * (L / 36 - 3) + (L % 36 - 4)) else 0

theorem plane_eq (X : S1x1536x1280.Idx → EReal) (ch L Q R : ℕ) (hL : L = 36 * Q + R) (hR : R < 36) :
    plane X ch L = if (3 ≤ Q ∧ Q < 43) ∧ 4 ≤ R then xat X ch (32 * (Q - 3) + (R - 4)) else 0 := by
  have h1 : L / 36 = Q := by omega
  have h2 : L % 36 = R := by omega
  subst h1 h2
  unfold plane
  by_cases h : Inside L
  · rw [if_pos h, if_pos ⟨h.1, h.2.1⟩]
  · rw [if_neg h, if_neg fun h' => h ⟨h'.1, h'.2, hR⟩]

variable (c : Dev nD) (i : grid0.Coords)
  (arg1 : Memref sig .tc .vmem S1x1536x1280 .bf16) (harg1 : arg1.IsWhole)
  (arg2 : Memref sig .tc .vmem S12x49x16x128 .bf16) (harg2 : arg2.IsWhole)
  (arg3 : Memref sig .tc .vmem S1x1536 .f32) (harg3 : arg3.IsWhole)
  (arg4 : Memref sig .tc .vmem S1x1536 .f32) (harg4 : arg4.IsWhole)
  (arg5 : Memref sig .tc .vmem S1x1536 .f32) (harg5 : arg5.IsWhole)
  (arg6 : Memref sig .tc .vmem S1x1280x1536 .fp8e4m3) (harg6 : arg6.IsWhole)
  (arg7 : Memref sig .tc .vmem S1x1x1280 .f32) (harg7 : arg7.IsWhole)
  (arg8 : Memref sig .tc .vmem S12x864x2x128 .bf16) (harg8 : arg8.IsWhole)
  (arg9 : Memref sig .tc .vmem S12x864x2x128 .bf16) (harg9 : arg9.IsWhole)
  (arg10 : Memref sig .tc .vmem S1280x1536 .f32) (harg10 : arg10.IsWhole)
  (arg11 : Memref sig .tc .vmem S1280x128 .f32) (harg11 : arg11.IsWhole)

/-- The block's channels tile `k`, transposed. -/
abbrev tile (X1 : BufTy.Contents (Elt Ideal) arg1.view.ty) (k : Fin k0_t1_loop.trips) (t : Fin k0_t2_loop.trips) : FVec Ideal S128x128 .bf16 :=
  transpose S128x128 [1, 0] (shapeCast S128x128 (View.readAt (Elt Ideal) arg1.view (Rect.unit (s := S1x1536x1280) (k0_off1 k t) S1x128x128.size (k0_off1_inb k t)).toLoadRect X1) shapeCasts_S1x128x128_S128x128) transposes_S128x128_p1_0_S128x128

theorem tile_apply (X1 : BufTy.Contents (Elt Ideal) arg1.view.ty) (k : Fin k0_t1_loop.trips) (t : Fin k0_t2_loop.trips) (z : S128x128.Idx) :
    tile arg1 X1 k t z = xat (arg1.view.read (Elt Ideal) X1) (128 * k.val + (z 1).val) (128 * t.val + (z 0).val) := by
  refine (transposed_apply _ z).trans (xat_eq (arg1.view.read (Elt Ideal) X1) _ ?_ ?_)
  · show k0_off1 k t 1 + 1 * (z 1).val = _
    rw [off1_eq]
    show 128 * k.val + 1 * (z 1).val = _
    omega
  · show k0_off1 k t 2 + 1 * (z 0).val = _
    rw [off1_eq]
    show 128 * t.val + 1 * (z 0).val = _
    omega

/-- The word buffer's contents over `g` once tile `k` is in. -/
def G8 (X : S1x1536x1280.Idx → EReal) (k : ℕ) (g : S12x864x2x128.Idx → EReal) (y : S12x864x2x128.Idx) : EReal :=
  if (y 0).val = k then plane X (128 * k + (y 3).val) (2 * (y 1).val + (y 2).val) else g y

theorem t2_piece (X1 : BufTy.Contents (Elt Ideal) arg1.view.ty) (k : Fin k0_t1_loop.trips) (t : Fin k0_t2_loop.trips) (g : S12x864x2x128.Idx → EReal)
    (r : Fin 4) (h : Fin 2) (o : ℕ) (ho : o = 16 * r.val + 8 * h.val) (hs : S64x128.Slices ![o, 0] S8x128)
    (inb : ∀ a, k0_off2 k t (BitVec.ofNat 32 r.val) (BitVec.ofNat 32 (8 * h.val)) a + S1x8x2x128.size a ≤ S12x864x2x128.size a) (x : S1x8x2x128.Idx) :
    interleaveRows S1x8x2x128
      (shapeCast S1x8x1x128 (shapeCast S1x8x128 (extractStridedSlice S8x128 ![o, 0] (rowsOfParity 0 S64x128 (tile arg1 X1 k t) bitcasts_S128x128_w16_S64x128_w32) hs) shapeCasts_S8x128_S1x8x128) shapeCasts_S1x8x128_S1x8x1x128)
      (shapeCast S1x8x1x128 (shapeCast S1x8x128 (extractStridedSlice S8x128 ![o, 0] (rowsOfParity 1 S64x128 (tile arg1 X1 k t) bitcasts_S128x128_w16_S64x128_w32) hs) shapeCasts_S8x128_S1x8x128) shapeCasts_S1x8x128_S1x8x1x128)
      bitcasts_S1x8x2x128_w16_S1x8x1x128_w32 x
      = G8 (arg1.view.read (Elt Ideal) X1) k.val g ((Rect.unit (s := S12x864x2x128) (k0_off2 k t (BitVec.ofNat 32 r.val) (BitVec.ofNat 32 (8 * h.val))) S1x8x2x128.size inb).emb x) := by
  have hr := r.isLt
  have hh := h.isLt
  have ht : t.val < 10 := t.isLt
  have hx0 : (x 0).val < 1 := (x 0).isLt
  have hx1 : (x 1).val < 8 := (x 1).isLt
  have hx2 : (x 2).val < 2 := (x 2).isLt
  have hx3 : (x 3).val < 128 := (x 3).isLt
  have e : ∀ a, ((Rect.unit (s := S12x864x2x128) (k0_off2 k t (BitVec.ofNat 32 r.val) (BitVec.ofNat 32 (8 * h.val))) S1x8x2x128.size inb).emb x a).val
      = (![k.val, 2 + (3 + 4 * t.val + r.val) * 18 + 8 * h.val, 0, 0] : Fin 4 → ℕ) a + 1 * (x a).val := fun a => by
    rw [← off2_eq k t r h]; rfl
  have e0 : _ = k.val + 1 * (x 0).val := e 0
  have e1 : _ = 2 + (3 + 4 * t.val + r.val) * 18 + 8 * h.val + 1 * (x 1).val := e 1
  have e2 : _ = 0 + 1 * (x 2).val := e 2
  have e3 : _ = 0 + 1 * (x 3).val := e 3
  unfold G8
  rw [e0, e1, e2, e3, if_pos (by omega)]
  rw [words_apply o (tile arg1 X1 k t) hs x (ix2 ⟨2 * (o + (x 1).val) + (x 2).val, by omega⟩ (x 3)) rfl rfl, tile_apply]
  rw [plane_eq _ _ _ (3 + 4 * t.val + r.val) (4 + 16 * h.val + 2 * (x 1).val + (x 2).val) (by omega) (by omega), if_pos (by omega)]
  show xat _ (128 * k.val + (x 3).val) (128 * t.val + (2 * (o + (x 1).val) + (x 2).val)) = _
  congr 1 <;> omega

theorem t2_pieces (X1 : BufTy.Contents (Elt Ideal) arg1.view.ty) (k : Fin k0_t1_loop.trips) (v : BitVec 32) (g : S12x864x2x128.Idx → EReal) (t : Fin k0_t2_loop.trips) :
    ∀ p ∈ tripL_k0_t2 (F := Ideal) Variants.none c none i arg1 harg1 arg2 harg2 arg3 harg3 arg4 harg4 arg5 harg5 arg6 harg6 arg7 harg7 arg8 harg8 arg9 harg9 arg10 harg10 arg11 harg11 k v X1 t, ∀ x : p.1.shape.Idx,
      p.2 x = G8 (arg1.view.read (Elt Ideal) X1) k.val g (p.1.emb x) := by
  unfold tripL_k0_t2 trip_k0_t2
  dsimp only
  refine List.forall_mem_cons.mpr ⟨fun x => t2_piece arg1 X1 k t g 3 1 56 rfl slices_S64x128_o56_0_S8x128 (k0_off2_inb k t 3 1) x, ?_⟩
  refine List.forall_mem_cons.mpr ⟨fun x => t2_piece arg1 X1 k t g 3 0 48 rfl slices_S64x128_o48_0_S8x128 (k0_off2_inb k t 3 0) x, ?_⟩
  refine List.forall_mem_cons.mpr ⟨fun x => t2_piece arg1 X1 k t g 2 1 40 rfl slices_S64x128_o40_0_S8x128 (k0_off2_inb k t 2 1) x, ?_⟩
  refine List.forall_mem_cons.mpr ⟨fun x => t2_piece arg1 X1 k t g 2 0 32 rfl slices_S64x128_o32_0_S8x128 (k0_off2_inb k t 2 0) x, ?_⟩
  refine List.forall_mem_cons.mpr ⟨fun x => t2_piece arg1 X1 k t g 1 1 24 rfl slices_S64x128_o24_0_S8x128 (k0_off2_inb k t 1 1) x, ?_⟩
  refine List.forall_mem_cons.mpr ⟨fun x => t2_piece arg1 X1 k t g 1 0 16 rfl slices_S64x128_o16_0_S8x128 (k0_off2_inb k t 1 0) x, ?_⟩
  refine List.forall_mem_cons.mpr ⟨fun x => t2_piece arg1 X1 k t g 0 1 8 rfl slices_S64x128_o8_0_S8x128 (k0_off2_inb k t 0 1) x, ?_⟩
  refine List.forall_mem_cons.mpr ⟨fun x => t2_piece arg1 X1 k t g 0 0 0 rfl slices_S64x128_o0_0_S8x128 (k0_off2_inb k t 0 0) x, ?_⟩
  exact fun _ h => absurd h List.not_mem_nil

end Cert.DwlnIdeal.Hand

end
-- ==== Proof.DwlnRun.lean ====
module

public import proofs.«01_k».proof.Proof.Gen.DwlnIdeal.Frame
public import proofs.«01_k».proof.Proof.Gen.DwlnIdeal.Loops
public import Idealize.ShloMosaic.Lib.Pipeline.Frame
public import Idealize.ShloMosaic.Lib.Tactic

/-! The depthwise convolution and layer norm kernel, run once: the loop over the channel tiles by an invariant given
    as a predicate of the three scratch buffers it rewrites, then the loop over the rows and the ten stores of the scales. -/

@[expose] public section

noncomputable section

namespace Cert.DwlnIdeal.Hand

open Cert.DwlnIdeal Cert.DwlnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

abbrev 𝕄 (F : FTy → Type) : Type := MT nD τ sig Unit (Elt F) ℕ (UR sig nD τ) ℕ

variable (c : Dev nD) (i : grid0.Coords)
  (arg1 : Memref sig .tc .vmem S1x1536x1280 .bf16) (harg1 : arg1.IsWhole)
  (arg2 : Memref sig .tc .vmem S12x49x16x128 .bf16) (harg2 : arg2.IsWhole)
  (arg3 : Memref sig .tc .vmem S1x1536 .f32) (harg3 : arg3.IsWhole)
  (arg4 : Memref sig .tc .vmem S1x1536 .f32) (harg4 : arg4.IsWhole)
  (arg5 : Memref sig .tc .vmem S1x1536 .f32) (harg5 : arg5.IsWhole)
  (arg6 : Memref sig .tc .vmem S1x1280x1536 .fp8e4m3) (harg6 : arg6.IsWhole)
  (arg7 : Memref sig .tc .vmem S1x1x1280 .f32) (harg7 : arg7.IsWhole)
  (arg8 : Memref sig .tc .vmem S12x864x2x128 .bf16) (harg8 : arg8.IsWhole)
  (arg9 : Memref sig .tc .vmem S12x864x2x128 .bf16) (harg9 : arg9.IsWhole)
  (arg10 : Memref sig .tc .vmem S1280x1536 .f32) (harg10 : arg10.IsWhole)
  (arg11 : Memref sig .tc .vmem S1280x128 .f32) (harg11 : arg11.IsWhole)

/-- The contents of a memref's buffer. -/
abbrev Con (F : FTy → Type) {sp : Space} {S : Shape} {e : EltTy} (M : Memref sig .tc sp S e) : Type := BufTy.Contents (Elt F) M.view.ty

/-- What tile `k` leaves in the word buffer: its 128 channels transposed. -/
abbrev after8 (X1 : Con F arg1) (k : Fin k0_t1_loop.trips) (f8 : Con F arg8) : Con F arg8 :=
  arg8.view.writes (Elt F) f8 (pb_k0_t2 (F := F) Variants.none c none i arg1 harg1 arg2 harg2 arg3 harg3 arg4 harg4 arg5 harg5 arg6 harg6 arg7 harg7 arg8 harg8 arg9 harg9 arg10 harg10 arg11 harg11 k (Scf.iv 0#32 1#32 k) X1 k0_t2_loop.trips)
/-- What tile `k` leaves in the buffer moved by one pixel. -/
abbrev after9 (k : Fin k0_t1_loop.trips) (g8 : Con F arg8) (f9 : Con F arg9) : Con F arg9 :=
  arg9.view.writes (Elt F) f9 (pb_k0_t3 (F := F) Variants.none c none i arg1 harg1 arg2 harg2 arg3 harg3 arg4 harg4 arg5 harg5 arg6 harg6 arg7 harg7 arg8 harg8 arg9 harg9 arg10 harg10 arg11 harg11 k (Scf.iv 0#32 1#32 k) g8 k0_t3_loop.trips)
/-- What tile `k` leaves in the convolution's buffer. -/
abbrev after10 (X2 : Con F arg2) (X3 : Con F arg3) (k : Fin k0_t1_loop.trips) (g8 : Con F arg8) (g9 : Con F arg9) (f10 : Con F arg10) : Con F arg10 :=
  arg10.view.writes (Elt F) f10 (pb_k0_t4 (F := F) Variants.none c none i arg1 harg1 arg2 harg2 arg3 harg3 arg4 harg4 arg5 harg5 arg6 harg6 arg7 harg7 arg8 harg8 arg9 harg9 arg10 harg10 arg11 harg11 k (Scf.iv 0#32 1#32 k)
    (View.readAt (Elt F) arg3.view (Rect.unit (s := S1x1536) (k0_off5 k) S1x128.size (k0_off5_inb k)).toLoadRect X3) X2 g8 g9 k0_t4_loop.trips)

/-- Before tile `k`: the inputs at their contents, the three buffers at contents of which `P k` holds. -/
def inv1 (X1 : Con F arg1) (X2 : Con F arg2) (X3 : Con F arg3) (P : ℕ → Con F arg8 → Con F arg9 → Con F arg10 → Prop) (k : ℕ) (_u : PUnit) : sProp (𝕄 F) :=
  iprop((arg1.view.loc (c : Thread nD τ) ↦[arg1.view.set]{fullShare} X1) ∗ (arg2.view.loc (c : Thread nD τ) ↦[arg2.view.set]{fullShare} X2)
    ∗ (arg3.view.loc (c : Thread nD τ) ↦[arg3.view.set]{fullShare} X3)
    ∗ (∃ f8 f9 f10, (arg8.view.loc (c : Thread nD τ) ↦[arg8.view.set]{fullShare} f8) ∗ (arg9.view.loc (c : Thread nD τ) ↦[arg9.view.set]{fullShare} f9)
      ∗ (arg10.view.loc (c : Thread nD τ) ↦[arg10.view.set]{fullShare} f10) ∗ ⌜P k f8 f9 f10⌝))

/-- One tile keeps the invariant. -/
theorem step1 (X1 : Con F arg1) (X2 : Con F arg2) (X3 : Con F arg3) (P : ℕ → Con F arg8 → Con F arg9 → Con F arg10 → Prop)
    (hP : ∀ (k : Fin k0_t1_loop.trips) f8 f9 f10, P k.val f8 f9 f10 →
      let g8 := after8 c i arg1 harg1 arg2 harg2 arg3 harg3 arg4 harg4 arg5 harg5 arg6 harg6 arg7 harg7 arg8 harg8 arg9 harg9 arg10 harg10 arg11 harg11 X1 k f8
      let g9 := after9 c i arg1 harg1 arg2 harg2 arg3 harg3 arg4 harg4 arg5 harg5 arg6 harg6 arg7 harg7 arg8 harg8 arg9 harg9 arg10 harg10 arg11 harg11 k g8 f9
      P (k.val + 1) g8 g9 (after10 c i arg1 harg1 arg2 harg2 arg3 harg3 arg4 harg4 arg5 harg5 arg6 harg6 arg7 harg7 arg8 harg8 arg9 harg9 arg10 harg10 arg11 harg11 X2 X3 k g8 g9 f10)) (k : Fin k0_t1_loop.trips) (u : PUnit) :
    inv1 c arg1 arg2 arg3 arg8 arg9 arg10 X1 X2 X3 P k.val u
      ⊢ wp Idealize.ShloMosaic.frame (wpE (defs₀ (F := F)) Variants.none (c : Thread nD τ) none) Set.univ
          (k0_t1_body (F := F) i arg1 harg1 arg2 harg2 arg3 harg3 arg4 harg4 arg5 harg5 arg6 harg6 arg7 harg7 arg8 harg8 arg9 harg9 arg10 harg10 arg11 harg11 k u)
          (fun u => inv1 c arg1 arg2 arg3 arg8 arg9 arg10 X1 X2 X3 P (k.val + 1) u) := by
  unfold inv1 k0_t1_body
  iintro ⟨H1, H2, H3, ⟨%f8, %f9, %f10, H8, H9, H10, %h⟩⟩
  sl_exec
  sl_step
  isplitl [H1]; · iexact H1
  isplitl [H2]; · iexact H2
  isplitl [H3]; · iexact H3
  iexists _, _, _
  isplitl [H8]; · iexact H8
  isplitl [H9]; · iexact H9
  isplitl [H10]; · iexact H10
  ipureintro
  exact hP k f8 f9 f10 h

/-- The rows' pieces over the convolution's contents: the quantised rows, then the scales. -/
abbrev pieces5 (X4 : Con F arg4) (X5 : Con F arg5) (g10 : Con F arg10) :=
  pb_k0_t5 (F := F) Variants.none c none i arg1 harg1 arg2 harg2 arg3 harg3 arg4 harg4 arg5 harg5 arg6 harg6 arg7 harg7 arg8 harg8 arg9 harg9 arg10 harg10 arg11 harg11 X4 X5 g10 k0_t5_loop.trips

/-- What the kernel leaves, for any continuation `K`. -/
abbrev ran (X1 : Con F arg1) (X2 : Con F arg2) (X3 : Con F arg3) (X4 : Con F arg4) (X5 : Con F arg5)
    (P : ℕ → Con F arg8 → Con F arg9 → Con F arg10 → Prop) (L7 : Con F arg11 → Con F arg10 → List (View.Piece (Elt F) S1x1x1280 .f32))
    (f6 : Con F arg6) (f7 : Con F arg7) (f11 : Con F arg11) : sProp (𝕄 F) :=
  iprop(∃ g8 g9 g10, (arg1.view.loc (c : Thread nD τ) ↦[arg1.view.set]{fullShare} X1) ∗ (arg2.view.loc (c : Thread nD τ) ↦[arg2.view.set]{fullShare} X2)
      ∗ (arg3.view.loc (c : Thread nD τ) ↦[arg3.view.set]{fullShare} X3) ∗ (arg4.view.loc (c : Thread nD τ) ↦[arg4.view.set]{fullShare} X4)
      ∗ (arg5.view.loc (c : Thread nD τ) ↦[arg5.view.set]{fullShare} X5)
      ∗ (arg6.view.loc (c : Thread nD τ) ↦[arg6.view.set]{fullShare} arg6.view.writes (Elt F) f6 (pieces5 c i arg1 harg1 arg2 harg2 arg3 harg3 arg4 harg4 arg5 harg5 arg6 harg6 arg7 harg7 arg8 harg8 arg9 harg9 arg10 harg10 arg11 harg11 X4 X5 g10).1)
      ∗ (arg7.view.loc (c : Thread nD τ) ↦[arg7.view.set]{fullShare} arg7.view.writes (Elt F) f7 (L7 f11 g10))
      ∗ (arg8.view.loc (c : Thread nD τ) ↦[arg8.view.set]{fullShare} g8)
      ∗ (arg9.view.loc (c : Thread nD τ) ↦[arg9.view.set]{fullShare} g9) ∗ (arg10.view.loc (c : Thread nD τ) ↦[arg10.view.set]{fullShare} g10)
      ∗ (arg11.view.loc (c : Thread nD τ) ↦[arg11.view.set]{fullShare} arg11.view.writes (Elt F) f11 (pieces5 c i arg1 harg1 arg2 harg2 arg3 harg3 arg4 harg4 arg5 harg5 arg6 harg6 arg7 harg7 arg8 harg8 arg9 harg9 arg10 harg10 arg11 harg11 X4 X5 g10).2)
      ∗ ⌜P k0_t1_loop.trips g8 g9 g10⌝)

/-- The whole buffer zeroed: what the first grid point does to the two word buffers. -/
abbrev zeroed (M : Memref sig .tc .vmem S12x864x2x128 .bf16) (f : Con F M) : Con F M :=
  M.view.writes (Elt F) f [⟨Rect.unit (s := S12x864x2x128) ![0, 0, 0, 0] S12x864x2x128.size inb_S12x864x2x128_S12x864x2x128_0_0_0_0, constant S12x864x2x128 .bf16 0x0000#16⟩]

/-- The bit of `pl.when(program_id == 0)`. -/
abbrev first : Prop := (Scalar.cmpi .ne (Scalar.extui (Scalar.cmpi .eq (BitVec.ofNat 32 (i 0).val) 0#32) : BitVec 32) 0#32) = 1#1

set_option maxHeartbeats 1000000 in
/-- The whole kernel, for any continuation: the pieces of the ten scale stores are the run's own finds. -/
@[irreducible] def kernelRun (X4 : Con F arg4) (X5 : Con F arg5) :
    { L7 : Con F arg11 → Con F arg10 → List (View.Piece (Elt F) S1x1x1280 .f32) //
      ∀ (X1 : Con F arg1) (X2 : Con F arg2) (X3 : Con F arg3)
    (P : ℕ → Con F arg8 → Con F arg9 → Con F arg10 → Prop)
    (hP : ∀ (k : Fin k0_t1_loop.trips) f8 f9 f10, P k.val f8 f9 f10 →
      let g8 := after8 c i arg1 harg1 arg2 harg2 arg3 harg3 arg4 harg4 arg5 harg5 arg6 harg6 arg7 harg7 arg8 harg8 arg9 harg9 arg10 harg10 arg11 harg11 X1 k f8
      let g9 := after9 c i arg1 harg1 arg2 harg2 arg3 harg3 arg4 harg4 arg5 harg5 arg6 harg6 arg7 harg7 arg8 harg8 arg9 harg9 arg10 harg10 arg11 harg11 k g8 f9
      P (k.val + 1) g8 g9 (after10 c i arg1 harg1 arg2 harg2 arg3 harg3 arg4 harg4 arg5 harg5 arg6 harg6 arg7 harg7 arg8 harg8 arg9 harg9 arg10 harg10 arg11 harg11 X2 X3 k g8 g9 f10))
    (f6 : Con F arg6) (f7 : Con F arg7) (f8 : Con F arg8) (f9 : Con F arg9) (f10 : Con F arg10) (f11 : Con F arg11)
    (h0 : first i → P 0 (zeroed arg8 f8) (zeroed arg9 f9) f10) (h1 : ¬ first i → P 0 f8 f9 f10) (K : PUnit → sProp (𝕄 F)),
    iprop((arg1.view.loc (c : Thread nD τ) ↦[arg1.view.set]{fullShare} X1) ∗ (arg2.view.loc (c : Thread nD τ) ↦[arg2.view.set]{fullShare} X2)
      ∗ (arg3.view.loc (c : Thread nD τ) ↦[arg3.view.set]{fullShare} X3) ∗ (arg4.view.loc (c : Thread nD τ) ↦[arg4.view.set]{fullShare} X4)
      ∗ (arg5.view.loc (c : Thread nD τ) ↦[arg5.view.set]{fullShare} X5) ∗ (arg6.view.loc (c : Thread nD τ) ↦[arg6.view.set]{fullShare} f6)
      ∗ (arg7.view.loc (c : Thread nD τ) ↦[arg7.view.set]{fullShare} f7) ∗ (arg8.view.loc (c : Thread nD τ) ↦[arg8.view.set]{fullShare} f8)
      ∗ (arg9.view.loc (c : Thread nD τ) ↦[arg9.view.set]{fullShare} f9) ∗ (arg10.view.loc (c : Thread nD τ) ↦[arg10.view.set]{fullShare} f10)
      ∗ (arg11.view.loc (c : Thread nD τ) ↦[arg11.view.set]{fullShare} f11)
      ∗ (ran c i arg1 harg1 arg2 harg2 arg3 harg3 arg4 harg4 arg5 harg5 arg6 harg6 arg7 harg7 arg8 harg8 arg9 harg9 arg10 harg10 arg11 harg11 X1 X2 X3 X4 X5 P L7 f6 f7 f11 -∗ K ⟨⟩))
      ⊢ wp Idealize.ShloMosaic.frame (wpE (defs₀ (F := F)) Variants.none (c : Thread nD τ) none) Set.univ
          (cc0_dwln (F := F) i arg1 harg1 arg2 harg2 arg3 harg3 arg4 harg4 arg5 harg5 arg6 harg6 arg7 harg7 arg8 harg8 arg9 harg9 arg10 harg10 arg11 harg11) K } := by
  refine ⟨?L7, fun X1 X2 X3 P hP f6 f7 f8 f9 f10 f11 h0 h1 K => ?run⟩
  case run =>
    simp only [cc0_dwln_eq_skeleton]; unfold cc0_dwln_skel
    simp only [k0_part109_eq_skeleton]; unfold k0_part109_skel
    iintro ⟨H1, H2, H3, H4, H5, H6, H7, H8, H9, H10, H11, HK⟩
    by_cases hc : first i
    · sl_exec
      simp only [bind_assoc, Prog.bind_assoc]
      sl_for (inv1 c arg1 arg2 arg3 arg8 arg9 arg10 X1 X2 X3 P) $$ [H1 H2 H3 H8 H9 H10]
      case region => exact step1 c i arg1 harg1 arg2 harg2 arg3 harg3 arg4 harg4 arg5 harg5 arg6 harg6 arg7 harg7 arg8 harg8 arg9 harg9 arg10 harg10 arg11 harg11 X1 X2 X3 P hP
      · unfold inv1
        isplitl [H1]; · iexact H1
        isplitl [H2]; · iexact H2
        isplitl [H3]; · iexact H3
        iexists _, _, _
        isplitl [H8]; · iexact H8
        isplitl [H9]; · iexact H9
        isplitl [H10]; · iexact H10
        ipureintro; exact h0 hc
      iintro %_ HI
      unfold inv1
      icases HI with ⟨H1, H2, H3, %g8, %g9, %g10, H8, H9, H10, %h⟩
      sl_exec
      sl_step
      iapply HK
      unfold ran
      iexists g8, g9, g10
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      ipureintro; exact h
    · sl_exec
      simp only [bind_assoc, Prog.bind_assoc]
      sl_for (inv1 c arg1 arg2 arg3 arg8 arg9 arg10 X1 X2 X3 P) $$ [H1 H2 H3 H8 H9 H10]
      case region => exact step1 c i arg1 harg1 arg2 harg2 arg3 harg3 arg4 harg4 arg5 harg5 arg6 harg6 arg7 harg7 arg8 harg8 arg9 harg9 arg10 harg10 arg11 harg11 X1 X2 X3 P hP
      · unfold inv1
        isplitl [H1]; · iexact H1
        isplitl [H2]; · iexact H2
        isplitl [H3]; · iexact H3
        iexists _, _, _
        isplitl [H8]; · iexact H8
        isplitl [H9]; · iexact H9
        isplitl [H10]; · iexact H10
        ipureintro; exact h1 hc
      iintro %_ HI
      unfold inv1
      icases HI with ⟨H1, H2, H3, %g8, %g9, %g10, H8, H9, H10, %h⟩
      sl_exec
      sl_step
      iapply HK
      unfold ran
      iexists g8, g9, g10
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      ipureintro; exact h

end Cert.DwlnIdeal.Hand

end
-- ==== Proof.DwlnBuffers.lean ====
module

public import proofs.«01_k».proof.Proof.DwlnPlane
public import proofs.«01_k».proof.Proof.DwlnRun

/-! What one tile leaves in the two word buffers. -/

@[expose] public section

noncomputable section

namespace Cert.DwlnIdeal.Hand

open Cert.DwlnIdeal Cert.DwlnIdeal.Gen
open Idealize.ShloMosaic Idealize.ShloMosaic.TcCoe Idealize.ShloMosaic.Tactic

variable (c : Dev nD) (i : grid0.Coords)
  (arg1 : Memref sig .tc .vmem S1x1536x1280 .bf16) (harg1 : arg1.IsWhole)
  (arg2 : Memref sig .tc .vmem S12x49x16x128 .bf16) (harg2 : arg2.IsWhole)
  (arg3 : Memref sig .tc .vmem S1x1536 .f32) (harg3 : arg3.IsWhole)
  (arg4 : Memref sig .tc .vmem S1x1536 .f32) (harg4 : arg4.IsWhole)
  (arg5 : Memref sig .tc .vmem S1x1536 .f32) (harg5 : arg5.IsWhole)
  (arg6 : Memref sig .tc .vmem S1x1280x1536 .fp8e4m3) (harg6 : arg6.IsWhole)
  (arg7 : Memref sig .tc .vmem S1x1x1280 .f32) (harg7 : arg7.IsWhole)
  (arg8 : Memref sig .tc .vmem S12x864x2x128 .bf16) (harg8 : arg8.IsWhole)
  (arg9 : Memref sig .tc .vmem S12x864x2x128 .bf16) (harg9 : arg9.IsWhole)
  (arg10 : Memref sig .tc .vmem S1280x1536 .f32) (harg10 : arg10.IsWhole)
  (arg11 : Memref sig .tc .vmem S1280x128 .f32) (harg11 : arg11.IsWhole)

theorem trips2 : k0_t2_loop.trips = 10 := by decide +kernel
theorem trips3 : k0_t3_loop.trips = 23 := by decide +kernel

/-- A buffer that is zero outside the pixels. -/
def Padded (M : Memref sig .tc .vmem S12x864x2x128 .bf16) (f : Con Ideal M) : Prop :=
  ∀ y : S12x864x2x128.Idx, ¬ Inside (2 * (y 1).val + (y 2).val) → M.view.read (Elt Ideal) f y = 0

/-- A buffer that is zero before word 54 and from word 790 on. -/
def Edged (M : Memref sig .tc .vmem S12x864x2x128 .bf16) (f : Con Ideal M) : Prop :=
  ∀ y : S12x864x2x128.Idx, (y 1).val < 54 ∨ 790 ≤ (y 1).val → M.view.read (Elt Ideal) f y = 0

/-- Tile `k`'s piece that holds a pixel. -/
theorem t2_cover (X1 : Con Ideal arg1) (k : Fin k0_t1_loop.trips) (v : BitVec 32) (y : S12x864x2x128.Idx) (h0 : (y 0).val = k.val)
    (hi : Inside (2 * (y 1).val + (y 2).val)) :
    ∃ p ∈ pb_k0_t2 (F := Ideal) Variants.none c none i arg1 harg1 arg2 harg2 arg3 harg3 arg4 harg4 arg5 harg5 arg6 harg6 arg7 harg7 arg8 harg8 arg9 harg9 arg10 harg10 arg11 harg11 k v X1 k0_t2_loop.trips, y ∈ p.1.set := by
  have hy1 : (y 1).val < 864 := (y 1).isLt
  have hy2 : (y 2).val < 2 := (y 2).isLt
  have hy3 : (y 3).val < 128 := (y 3).isLt
  obtain ⟨⟨q1, q2⟩, m1, m2⟩ := hi
  obtain ⟨Q, hQ⟩ : ∃ Q, Q = (2 * (y 1).val + (y 2).val) / 36 := ⟨_, rfl⟩
  obtain ⟨R, hR⟩ : ∃ R, R = (2 * (y 1).val + (y 2).val) % 36 := ⟨_, rfl⟩
  rw [← hQ] at q1 q2
  rw [← hR] at m1 m2
  have hL : 2 * (y 1).val + (y 2).val = 36 * Q + R := by omega
  have ht : (Q - 3) / 4 < k0_t2_loop.trips := by rw [trips2]; omega
  have key : ∀ (r : Fin 4) (h : Fin 2), r.val = (Q - 3) % 4 → h.val = (R - 4) / 16 → y ∈ (Rect.unit (s := S12x864x2x128) (k0_off2 k ⟨(Q - 3) / 4, ht⟩ (BitVec.ofNat 32 r.val) (BitVec.ofNat 32 (8 * h.val))) S1x8x2x128.size (k0_off2_inb k ⟨(Q - 3) / 4, ht⟩ r h)).set := by
    intro r h hr hh
    refine mem_unit _ _ ?_
    rw [off2_eq k ⟨(Q - 3) / 4, ht⟩ r h]
    refine fun a => ?_
    fin_cases a
    · show k.val ≤ (y 0).val ∧ (y 0).val < k.val + 1
      omega
    · show 2 + (3 + 4 * ((Q - 3) / 4) + r.val) * 18 + 8 * h.val ≤ (y 1).val ∧ (y 1).val < 2 + (3 + 4 * ((Q - 3) / 4) + r.val) * 18 + 8 * h.val + 8
      omega
    · show 0 ≤ (y 2).val ∧ (y 2).val < 0 + 2
      omega
    · show 0 ≤ (y 3).val ∧ (y 3).val < 0 + 128
      omega
  have mem : ∀ p, p ∈ tripL_k0_t2 (F := Ideal) Variants.none c none i arg1 harg1 arg2 harg2 arg3 harg3 arg4 harg4 arg5 harg5 arg6 harg6 arg7 harg7 arg8 harg8 arg9 harg9 arg10 harg10 arg11 harg11 k v X1 ⟨(Q - 3) / 4, ht⟩ → p ∈ pb_k0_t2 (F := Ideal) Variants.none c none i arg1 harg1 arg2 harg2 arg3 harg3 arg4 harg4 arg5 harg5 arg6 harg6 arg7 harg7 arg8 harg8 arg9 harg9 arg10 harg10 arg11 harg11 k v X1 k0_t2_loop.trips := fun p hp =>
    (mem_trips (fun n => pb_k0_t2 (F := Ideal) Variants.none c none i arg1 harg1 arg2 harg2 arg3 harg3 arg4 harg4 arg5 harg5 arg6 harg6 arg7 harg7 arg8 harg8 arg9 harg9 arg10 harg10 arg11 harg11 k v X1 n) (fun t => tripL_k0_t2 (F := Ideal) Variants.none c none i arg1 harg1 arg2 harg2 arg3 harg3 arg4 harg4 arg5 harg5 arg6 harg6 arg7 harg7 arg8 harg8 arg9 harg9 arg10 harg10 arg11 harg11 k v X1 t) rfl
      (fun t => pb_k0_t2_succ (F := Ideal) Variants.none c none i arg1 harg1 arg2 harg2 arg3 harg3 arg4 harg4 arg5 harg5 arg6 harg6 arg7 harg7 arg8 harg8 arg9 harg9 arg10 harg10 arg11 harg11 k v X1 t) p _ le_rfl).mpr ⟨⟨(Q - 3) / 4, ht⟩, ht, hp⟩
  have hr : ∃ r : Fin 4, r.val = (Q - 3) % 4 := ⟨⟨(Q - 3) % 4, by omega⟩, rfl⟩
  have hh : ∃ h : Fin 2, h.val = (R - 4) / 16 := ⟨⟨(R - 4) / 16, by omega⟩, rfl⟩
  obtain ⟨r, hr⟩ := hr
  obtain ⟨h, hh⟩ := hh
  have := key r h hr hh
  have tm : ∃ p ∈ tripL_k0_t2 (F := Ideal) Variants.none c none i arg1 harg1 arg2 harg2 arg3 harg3 arg4 harg4 arg5 harg5 arg6 harg6 arg7 harg7 arg8 harg8 arg9 harg9 arg10 harg10 arg11 harg11 k v X1 ⟨(Q - 3) / 4, ht⟩, y ∈ p.1.set := by
    unfold tripL_k0_t2 trip_k0_t2
    dsimp only
    clear hr hh key mem
    revert this
    fin_cases r <;> fin_cases h <;> intro this
    · exact ⟨_, .tail _ (.tail _ (.tail _ (.tail _ (.tail _ (.tail _ (.tail _ (.head _))))))), this⟩
    · exact ⟨_, .tail _ (.tail _ (.tail _ (.tail _ (.tail _ (.tail _ (.head _)))))), this⟩
    · exact ⟨_, .tail _ (.tail _ (.tail _ (.tail _ (.tail _ (.head _))))), this⟩
    · exact ⟨_, .tail _ (.tail _ (.tail _ (.tail _ (.head _)))), this⟩
    · exact ⟨_, .tail _ (.tail _ (.tail _ (.head _))), this⟩
    · exact ⟨_, .tail _ (.tail _ (.head _)), this⟩
    · exact ⟨_, .tail _ (.head _), this⟩
    · exact ⟨_, .head _, this⟩
  obtain ⟨p, hp, hy⟩ := tm
  exact ⟨p, mem p hp, hy⟩

/-- The word buffer after tile `k`. -/
theorem after8_read (X1 : Con Ideal arg1) (k : Fin k0_t1_loop.trips) (f8 : Con Ideal arg8) (hf : Padded arg8 f8) (y : S12x864x2x128.Idx) :
    arg8.view.read (Elt Ideal) (after8 c i arg1 harg1 arg2 harg2 arg3 harg3 arg4 harg4 arg5 harg5 arg6 harg6 arg7 harg7 arg8 harg8 arg9 harg9 arg10 harg10 arg11 harg11 X1 k f8) y = G8 (arg1.view.read (Elt Ideal) X1) k.val (arg8.view.read (Elt Ideal) f8) y := by
  refine read_writes_eq arg8.view f8 (G8 (arg1.view.read (Elt Ideal) X1) k.val (arg8.view.read (Elt Ideal) f8)) _ (fun p hp => ?_) y ?_
  · obtain ⟨t, -, hp⟩ := (mem_trips (fun n => pb_k0_t2 (F := Ideal) Variants.none c none i arg1 harg1 arg2 harg2 arg3 harg3 arg4 harg4 arg5 harg5 arg6 harg6 arg7 harg7 arg8 harg8 arg9 harg9 arg10 harg10 arg11 harg11 k (Scf.iv 0#32 1#32 k) X1 n) (fun t => tripL_k0_t2 (F := Ideal) Variants.none c none i arg1 harg1 arg2 harg2 arg3 harg3 arg4 harg4 arg5 harg5 arg6 harg6 arg7 harg7 arg8 harg8 arg9 harg9 arg10 harg10 arg11 harg11 k (Scf.iv 0#32 1#32 k) X1 t) rfl
      (fun t => pb_k0_t2_succ (F := Ideal) Variants.none c none i arg1 harg1 arg2 harg2 arg3 harg3 arg4 harg4 arg5 harg5 arg6 harg6 arg7 harg7 arg8 harg8 arg9 harg9 arg10 harg10 arg11 harg11 k (Scf.iv 0#32 1#32 k) X1 t) p _ le_rfl).mp hp
    exact t2_pieces c i arg1 harg1 arg2 harg2 arg3 harg3 arg4 harg4 arg5 harg5 arg6 harg6 arg7 harg7 arg8 harg8 arg9 harg9 arg10 harg10 arg11 harg11 X1 k _ _ t p hp
  · by_cases h0 : (y 0).val = k.val
    · by_cases hi : Inside (2 * (y 1).val + (y 2).val)
      · exact .inl (t2_cover c i arg1 harg1 arg2 harg2 arg3 harg3 arg4 harg4 arg5 harg5 arg6 harg6 arg7 harg7 arg8 harg8 arg9 harg9 arg10 harg10 arg11 harg11 X1 k _ y h0 hi)
      · refine .inr ((hf y hi).trans ?_)
        unfold G8 plane
        rw [if_pos h0, if_neg hi]
    · refine .inr ?_
      unfold G8
      rw [if_neg h0]

/-- Tile `k` is in, transposed and padded. -/
def Tiled (X : S1x1536x1280.Idx → EReal) (M : Memref sig .tc .vmem S12x864x2x128 .bf16) (d k : ℕ) (g : Con Ideal M) : Prop :=
  ∀ y : S12x864x2x128.Idx, (y 0).val = k → M.view.read (Elt Ideal) g y = plane X (128 * k + (y 3).val) (2 * (y 1).val + (y 2).val + d)

theorem after8_tiled (X1 : Con Ideal arg1) (k : Fin k0_t1_loop.trips) (f8 : Con Ideal arg8) (hf : Padded arg8 f8) :
    Tiled (arg1.view.read (Elt Ideal) X1) arg8 0 k.val (after8 c i arg1 harg1 arg2 harg2 arg3 harg3 arg4 harg4 arg5 harg5 arg6 harg6 arg7 harg7 arg8 harg8 arg9 harg9 arg10 harg10 arg11 harg11 X1 k f8) := fun y h => by
  rw [after8_read c i arg1 harg1 arg2 harg2 arg3 harg3 arg4 harg4 arg5 harg5 arg6 harg6 arg7 harg7 arg8 harg8 arg9 harg9 arg10 harg10 arg11 harg11 X1 k f8 hf y]
  unfold G8
  rw [if_pos h]; rfl

theorem after8_padded (X1 : Con Ideal arg1) (k : Fin k0_t1_loop.trips) (f8 : Con Ideal arg8) (hf : Padded arg8 f8) : Padded arg8 (after8 c i arg1 harg1 arg2 harg2 arg3 harg3 arg4 harg4 arg5 harg5 arg6 harg6 arg7 harg7 arg8 harg8 arg9 harg9 arg10 harg10 arg11 harg11 X1 k f8) := fun y h => by
  rw [after8_read c i arg1 harg1 arg2 harg2 arg3 harg3 arg4 harg4 arg5 harg5 arg6 harg6 arg7 harg7 arg8 harg8 arg9 harg9 arg10 harg10 arg11 harg11 X1 k f8 hf y]
  unfold G8 plane
  rw [if_neg h, hf y h, ite_self]

/-! ## The buffer moved by one pixel -/

/-- Eight words of a tile that is in. -/
theorem load_apply {X : S1x1536x1280.Idx → EReal} {M : Memref sig .tc .vmem S12x864x2x128 .bf16} {d k : ℕ} {g : Con Ideal M} (hg : Tiled X M d k g)
    {off : Fin 4 → ℕ} {q : ℕ} (ho : off = ![k, q, 0, 0]) (inb : ∀ a, off a + S1x8x2x128.size a ≤ S12x864x2x128.size a) (z : S1x8x2x128.Idx) :
    View.readAt (Elt Ideal) M.view (Rect.unit (s := S12x864x2x128) off S1x8x2x128.size inb).toLoadRect g z = plane X (128 * k + (z 3).val) (2 * (q + (z 1).val) + (z 2).val + d) := by
  subst ho
  have hz0 : (z 0).val < 1 := (z 0).isLt
  refine (hg ((Rect.unit (s := S12x864x2x128) ![k, q, 0, 0] S1x8x2x128.size inb).emb z) (by show k + 1 * (z 0).val = k; omega)).trans ?_
  show plane X (128 * k + (0 + 1 * (z 3).val)) (2 * (q + 1 * (z 1).val) + (0 + 1 * (z 2).val) + d) = _
  congr 1 <;> omega

/-- The moved buffer's contents over `g` once tile `k` is in. -/
def G9 (X : S1x1536x1280.Idx → EReal) (k : ℕ) (g : S12x864x2x128.Idx → EReal) (y : S12x864x2x128.Idx) : EReal :=
  if (y 0).val = k then plane X (128 * k + (y 3).val) (2 * (y 1).val + (y 2).val + 1) else g y

theorem t3_piece {X : S1x1536x1280.Idx → EReal} {k : Fin k0_t1_loop.trips} {g8 : Con Ideal arg8} (hg : Tiled X arg8 0 k.val g8) (g : S12x864x2x128.Idx → EReal)
    (t : Fin k0_t3_loop.trips) (r : Fin 4) (x : S1x8x2x128.Idx) :
    k0_pay518 (shapeCast S8x128 (shapeCast S1x8x128 (rowsOfParity 1 S1x8x1x128 (View.readAt (Elt Ideal) arg8.view (Rect.unit (s := S12x864x2x128) (k0_off3 k t (BitVec.ofNat 32 (8 * r.val))) S1x8x2x128.size (k0_off3_inb k t r)).toLoadRect g8) bitcasts_S1x8x2x128_w16_S1x8x1x128_w32) shapeCasts_S1x8x1x128_S1x8x128) shapeCasts_S1x8x128_S8x128)
      (View.readAt (Elt Ideal) arg8.view (Rect.unit (s := S12x864x2x128) (k0_off4 k t (BitVec.ofNat 32 (8 * r.val))) S1x8x2x128.size (k0_off4_inb k t r)).toLoadRect g8) x
      = G9 X k.val g ((Rect.unit (s := S12x864x2x128) (k0_off3 k t (BitVec.ofNat 32 (8 * r.val))) S1x8x2x128.size (k0_off3_inb k t r)).emb x) := by
  refine (odd_apply _ _ x).trans ?_
  have hx0 : (x 0).val < 1 := (x 0).isLt
  have hx2 : (x 2).val < 2 := (x 2).isLt
  rw [load_apply hg (off3_eq k t r), load_apply hg (off4_eq k t r)]
  have e : ∀ a, ((Rect.unit (s := S12x864x2x128) (k0_off3 k t (BitVec.ofNat 32 (8 * r.val))) S1x8x2x128.size (k0_off3_inb k t r)).emb x a).val
      = (![k.val, 54 + 32 * t.val + 8 * r.val, 0, 0] : Fin 4 → ℕ) a + 1 * (x a).val := fun a => by
    rw [← off3_eq k t r]; rfl
  have e0 : _ = k.val + 1 * (x 0).val := e 0
  have e1 : _ = 54 + 32 * t.val + 8 * r.val + 1 * (x 1).val := e 1
  have e2 : _ = 0 + 1 * (x 2).val := e 2
  have e3 : _ = 0 + 1 * (x 3).val := e 3
  unfold G9
  rw [e0, e1, e2, e3, if_pos (c := k.val + 1 * (x 0).val = k.val) (by omega)]
  show (if (x 2).val = 0 then plane X (128 * k.val + (x 3).val) (2 * (54 + 32 * t.val + 8 * r.val + (x 1).val) + 1 + 0)
    else plane X (128 * k.val + (x 3).val) (2 * (54 + 32 * t.val + 8 * r.val + 1 + (x 1).val) + 0 + 0)) = _
  split <;> congr 1 <;> omega

theorem t3_pieces {X : S1x1536x1280.Idx → EReal} {k : Fin k0_t1_loop.trips} {g8 : Con Ideal arg8} (hg : Tiled X arg8 0 k.val g8) (g : S12x864x2x128.Idx → EReal)
    (v : BitVec 32) (t : Fin k0_t3_loop.trips) :
    ∀ p ∈ tripL_k0_t3 (F := Ideal) Variants.none c none i arg1 harg1 arg2 harg2 arg3 harg3 arg4 harg4 arg5 harg5 arg6 harg6 arg7 harg7 arg8 harg8 arg9 harg9 arg10 harg10 arg11 harg11 k v g8 t, ∀ x : p.1.shape.Idx, p.2 x = G9 X k.val g (p.1.emb x) := by
  unfold tripL_k0_t3 trip_k0_t3
  dsimp only
  refine List.forall_mem_cons.mpr ⟨fun x => t3_piece arg8 hg g t 3 x, ?_⟩
  refine List.forall_mem_cons.mpr ⟨fun x => t3_piece arg8 hg g t 2 x, ?_⟩
  refine List.forall_mem_cons.mpr ⟨fun x => t3_piece arg8 hg g t 1 x, ?_⟩
  refine List.forall_mem_cons.mpr ⟨fun x => t3_piece arg8 hg g t 0 x, ?_⟩
  exact fun _ h => absurd h List.not_mem_nil

theorem t3_cover (g8 : Con Ideal arg8) (k : Fin k0_t1_loop.trips) (v : BitVec 32) (y : S12x864x2x128.Idx) (h0 : (y 0).val = k.val)
    (h1 : 54 ≤ (y 1).val) (h2 : (y 1).val < 790) :
    ∃ p ∈ pb_k0_t3 (F := Ideal) Variants.none c none i arg1 harg1 arg2 harg2 arg3 harg3 arg4 harg4 arg5 harg5 arg6 harg6 arg7 harg7 arg8 harg8 arg9 harg9 arg10 harg10 arg11 harg11 k v g8 k0_t3_loop.trips, y ∈ p.1.set := by
  have hy2 : (y 2).val < 2 := (y 2).isLt
  have hy3 : (y 3).val < 128 := (y 3).isLt
  have ht : ((y 1).val - 54) / 32 < k0_t3_loop.trips := by rw [trips3]; omega
  have key : ∀ (r : Fin 4), r.val = ((y 1).val - 54) % 32 / 8 → y ∈ (Rect.unit (s := S12x864x2x128) (k0_off3 k ⟨((y 1).val - 54) / 32, ht⟩ (BitVec.ofNat 32 (8 * r.val))) S1x8x2x128.size (k0_off3_inb k ⟨((y 1).val - 54) / 32, ht⟩ r)).set := by
    intro r hr
    refine mem_unit _ _ ?_
    rw [off3_eq k ⟨((y 1).val - 54) / 32, ht⟩ r]
    refine fun a => ?_
    fin_cases a
    · show k.val ≤ (y 0).val ∧ (y 0).val < k.val + 1
      omega
    · show 54 + 32 * (((y 1).val - 54) / 32) + 8 * r.val ≤ (y 1).val ∧ (y 1).val < 54 + 32 * (((y 1).val - 54) / 32) + 8 * r.val + 8
      omega
    · show 0 ≤ (y 2).val ∧ (y 2).val < 0 + 2
      omega
    · show 0 ≤ (y 3).val ∧ (y 3).val < 0 + 128
      omega
  have mem : ∀ p, p ∈ tripL_k0_t3 (F := Ideal) Variants.none c none i arg1 harg1 arg2 harg2 arg3 harg3 arg4 harg4 arg5 harg5 arg6 harg6 arg7 harg7 arg8 harg8 arg9 harg9 arg10 harg10 arg11 harg11 k v g8 ⟨((y 1).val - 54) / 32, ht⟩ → p ∈ pb_k0_t3 (F := Ideal) Variants.none c none i arg1 harg1 arg2 harg2 arg3 harg3 arg4 harg4 arg5 harg5 arg6 harg6 arg7 harg7 arg8 harg8 arg9 harg9 arg10 harg10 arg11 harg11 k v g8 k0_t3_loop.trips := fun p hp =>
    (mem_trips (fun n => pb_k0_t3 (F := Ideal) Variants.none c none i arg1 harg1 arg2 harg2 arg3 harg3 arg4 harg4 arg5 harg5 arg6 harg6 arg7 harg7 arg8 harg8 arg9 harg9 arg10 harg10 arg11 harg11 k v g8 n) (fun t => tripL_k0_t3 (F := Ideal) Variants.none c none i arg1 harg1 arg2 harg2 arg3 harg3 arg4 harg4 arg5 harg5 arg6 harg6 arg7 harg7 arg8 harg8 arg9 harg9 arg10 harg10 arg11 harg11 k v g8 t) rfl
      (fun t => pb_k0_t3_succ (F := Ideal) Variants.none c none i arg1 harg1 arg2 harg2 arg3 harg3 arg4 harg4 arg5 harg5 arg6 harg6 arg7 harg7 arg8 harg8 arg9 harg9 arg10 harg10 arg11 harg11 k v g8 t) p _ le_rfl).mpr ⟨⟨((y 1).val - 54) / 32, ht⟩, ht, hp⟩
  obtain ⟨r, hr⟩ : ∃ r : Fin 4, r.val = ((y 1).val - 54) % 32 / 8 := ⟨⟨((y 1).val - 54) % 32 / 8, by omega⟩, rfl⟩
  have := key r hr
  have tm : ∃ p ∈ tripL_k0_t3 (F := Ideal) Variants.none c none i arg1 harg1 arg2 harg2 arg3 harg3 arg4 harg4 arg5 harg5 arg6 harg6 arg7 harg7 arg8 harg8 arg9 harg9 arg10 harg10 arg11 harg11 k v g8 ⟨((y 1).val - 54) / 32, ht⟩, y ∈ p.1.set := by
    unfold tripL_k0_t3 trip_k0_t3
    dsimp only
    clear hr key mem
    revert this
    fin_cases r <;> intro this
    · exact ⟨_, .tail _ (.tail _ (.tail _ (.head _))), this⟩
    · exact ⟨_, .tail _ (.tail _ (.head _)), this⟩
    · exact ⟨_, .tail _ (.head _), this⟩
    · exact ⟨_, .head _, this⟩
  obtain ⟨p, hp, hy⟩ := tm
  exact ⟨p, mem p hp, hy⟩

/-- The moved buffer after tile `k`. -/
theorem after9_read {X : S1x1536x1280.Idx → EReal} {k : Fin k0_t1_loop.trips} {g8 : Con Ideal arg8} (hg : Tiled X arg8 0 k.val g8) (f9 : Con Ideal arg9) (hf : Edged arg9 f9) (y : S12x864x2x128.Idx) :
    arg9.view.read (Elt Ideal) (after9 c i arg1 harg1 arg2 harg2 arg3 harg3 arg4 harg4 arg5 harg5 arg6 harg6 arg7 harg7 arg8 harg8 arg9 harg9 arg10 harg10 arg11 harg11 k g8 f9) y = G9 X k.val (arg9.view.read (Elt Ideal) f9) y := by
  refine read_writes_eq arg9.view f9 (G9 X k.val (arg9.view.read (Elt Ideal) f9)) _ (fun p hp => ?_) y ?_
  · obtain ⟨t, -, hp⟩ := (mem_trips (fun n => pb_k0_t3 (F := Ideal) Variants.none c none i arg1 harg1 arg2 harg2 arg3 harg3 arg4 harg4 arg5 harg5 arg6 harg6 arg7 harg7 arg8 harg8 arg9 harg9 arg10 harg10 arg11 harg11 k (Scf.iv 0#32 1#32 k) g8 n) (fun t => tripL_k0_t3 (F := Ideal) Variants.none c none i arg1 harg1 arg2 harg2 arg3 harg3 arg4 harg4 arg5 harg5 arg6 harg6 arg7 harg7 arg8 harg8 arg9 harg9 arg10 harg10 arg11 harg11 k (Scf.iv 0#32 1#32 k) g8 t) rfl
      (fun t => pb_k0_t3_succ (F := Ideal) Variants.none c none i arg1 harg1 arg2 harg2 arg3 harg3 arg4 harg4 arg5 harg5 arg6 harg6 arg7 harg7 arg8 harg8 arg9 harg9 arg10 harg10 arg11 harg11 k (Scf.iv 0#32 1#32 k) g8 t) p _ le_rfl).mp hp
    exact t3_pieces c i arg1 harg1 arg2 harg2 arg3 harg3 arg4 harg4 arg5 harg5 arg6 harg6 arg7 harg7 arg8 harg8 arg9 harg9 arg10 harg10 arg11 harg11 hg _ _ t p hp
  · by_cases h0 : (y 0).val = k.val
    · by_cases h1 : 54 ≤ (y 1).val ∧ (y 1).val < 790
      · exact .inl (t3_cover c i arg1 harg1 arg2 harg2 arg3 harg3 arg4 harg4 arg5 harg5 arg6 harg6 arg7 harg7 arg8 harg8 arg9 harg9 arg10 harg10 arg11 harg11 g8 k _ y h0 h1.1 h1.2)
      · have hy2 : (y 2).val < 2 := (y 2).isLt
        refine .inr ((hf y (by omega)).trans ?_)
        unfold G9 plane
        rw [if_pos h0, if_neg fun h' => by obtain ⟨⟨h3, h4⟩, h5⟩ := h'; omega]
    · refine .inr ?_
      unfold G9
      rw [if_neg h0]

theorem after9_tiled {X : S1x1536x1280.Idx → EReal} {k : Fin k0_t1_loop.trips} {g8 : Con Ideal arg8} (hg : Tiled X arg8 0 k.val g8) (f9 : Con Ideal arg9) (hf : Edged arg9 f9) :
    Tiled X arg9 1 k.val (after9 c i arg1 harg1 arg2 harg2 arg3 harg3 arg4 harg4 arg5 harg5 arg6 harg6 arg7 harg7 arg8 harg8 arg9 harg9 arg10 harg10 arg11 harg11 k g8 f9) := fun y h => by
  rw [after9_read c i arg1 harg1 arg2 harg2 arg3 harg3 arg4 harg4 arg5 harg5 arg6 harg6 arg7 harg7 arg8 harg8 arg9 harg9 arg10 harg10 arg11 harg11 hg f9 hf y]
  unfold G9
  rw [if_pos h]

theorem after9_edged {X : S1x1536x1280.Idx → EReal} {k : Fin k0_t1_loop.trips} {g8 : Con Ideal arg8} (hg : Tiled X arg8 0 k.val g8) (f9 : Con Ideal arg9) (hf : Edged arg9 f9) :
    Edged arg9 (after9 c i arg1 harg1 arg2 harg2 arg3 harg3 arg4 harg4 arg5 harg5 arg6 harg6 arg7 harg7 arg8 harg8 arg9 harg9 arg10 harg10 arg11 harg11 k g8 f9) := fun y h => by
  have hy2 : (y 2).val < 2 := (y 2).isLt
  rw [after9_read c i arg1 harg1 arg2 harg2 arg3 harg3 arg4 harg4 arg5 harg5 arg6 harg6 arg7 harg7 arg8 harg8 arg9 harg9 arg10 harg10 arg11 harg11 hg f9 hf y]
  unfold G9 plane
  rw [if_neg (c := Inside _) fun h' => by obtain ⟨⟨h3, h4⟩, h5⟩ := h'; omega, hf y h, ite_self]

end Cert.DwlnIdeal.Hand

end
-- ==== Proof.DwlnConv.lean ====
module

public import proofs.«01_k».proof.Proof.DwlnBuffers

/-! The convolution: what the 49 taps of one piece of 16 pixels add up to. -/

@[expose] public section

noncomputable section

namespace Cert.DwlnIdeal.Hand

open Cert.DwlnIdeal Cert.DwlnIdeal.Gen
open Idealize.ShloMosaic Idealize.ShloMosaic.TcCoe Idealize.ShloMosaic.Tactic

theorem trips1 : k0_t1_loop.trips = 12 := by decide +kernel
theorem trips4 : k0_t4_loop.trips = 10 := by decide +kernel

/-- Where the weights of a tap of tile `k` are, as the kernel computes it. -/
def woff (k : Fin k0_t1_loop.trips) (tap : ℕ) : Fin 4 → ℕ :=
  let c : Index := Scalar.indexCast (Scf.iv 0#32 1#32 k)
  ![c.toNat, tap, 0, 0]

theorem woff_eq : ∀ (k : Fin k0_t1_loop.trips) (tap : ℕ), woff k tap = ![k.val, tap, 0, 0] := fun k tap => by
  have h : ∀ k : Fin k0_t1_loop.trips, (Scalar.indexCast (Scf.iv 0#32 1#32 k) : Index).toNat = k.val := by decide +kernel
  unfold woff
  show ![(Scalar.indexCast (Scf.iv 0#32 1#32 k) : Index).toNat, tap, 0, 0] = _
  rw [h k]

theorem woff_inb (k : Fin k0_t1_loop.trips) (tap : Fin 49) : ∀ a, woff k tap.val a + S1x1x16x128.size a ≤ S12x49x16x128.size a := by
  have hk : k.val < 12 := k.isLt
  have ht := tap.isLt
  rw [woff_eq]
  intro a
  fin_cases a
  · show k.val + 1 ≤ 12; omega
  · show tap.val + 1 ≤ 49; omega
  · show 0 + 16 ≤ 16; omega
  · show 0 + 128 ≤ 128; omega

theorem tapOff_inb (k : Fin k0_t1_loop.trips) (t : Fin k0_t4_loop.trips) (r : Fin 10) (h : Fin 12) :
    ∀ a, k0_off6 k t (BitVec.ofNat 32 (18 * r.val)) (BitVec.ofNat 32 h.val) a + S1x8x2x128.size a ≤ S12x864x2x128.size a := by
  have hk : k.val < 12 := k.isLt
  have ht : t.val < 10 := t.isLt
  have hr := r.isLt
  have hh := h.isLt
  rw [off6_eq]
  intro a
  fin_cases a
  · show k.val + 1 ≤ 12; omega
  · show 72 * t.val + 18 * r.val + h.val + 8 ≤ 864; omega
  · show 0 + 2 ≤ 2; omega
  · show 0 + 128 ≤ 128; omega

variable (c : Dev nD) (i : grid0.Coords)
  (arg1 : Memref sig .tc .vmem S1x1536x1280 .bf16) (harg1 : arg1.IsWhole)
  (arg2 : Memref sig .tc .vmem S12x49x16x128 .bf16) (harg2 : arg2.IsWhole)
  (arg3 : Memref sig .tc .vmem S1x1536 .f32) (harg3 : arg3.IsWhole)
  (arg4 : Memref sig .tc .vmem S1x1536 .f32) (harg4 : arg4.IsWhole)
  (arg5 : Memref sig .tc .vmem S1x1536 .f32) (harg5 : arg5.IsWhole)
  (arg6 : Memref sig .tc .vmem S1x1280x1536 .fp8e4m3) (harg6 : arg6.IsWhole)
  (arg7 : Memref sig .tc .vmem S1x1x1280 .f32) (harg7 : arg7.IsWhole)
  (arg8 : Memref sig .tc .vmem S12x864x2x128 .bf16) (harg8 : arg8.IsWhole)
  (arg9 : Memref sig .tc .vmem S12x864x2x128 .bf16) (harg9 : arg9.IsWhole)
  (arg10 : Memref sig .tc .vmem S1280x1536 .f32) (harg10 : arg10.IsWhole)
  (arg11 : Memref sig .tc .vmem S1280x128 .f32) (harg11 : arg11.IsWhole)

/-- One tap of a piece: 16 pixels of the plane times 16 rows of weights. -/
def tapTerm (M : Memref sig .tc .vmem S12x864x2x128 .bf16) (g : Con Ideal M) (X2 : Con Ideal arg2) (k : Fin k0_t1_loop.trips) (t : Fin k0_t4_loop.trips)
    (rin : Fin 10) (h : Fin 12) (tap : Fin 49) : FVec Ideal S16x128 .f32 :=
  mulf
    (extf .f32 (interleaveRows S16x128
      (shapeCast S8x128 (shapeCast S1x8x128 (rowsOfParity 0 S1x8x1x128 (View.readAt (Elt Ideal) M.view (Rect.unit (s := S12x864x2x128) (k0_off6 k t (BitVec.ofNat 32 (18 * rin.val)) (BitVec.ofNat 32 h.val)) S1x8x2x128.size (tapOff_inb k t rin h)).toLoadRect g) bitcasts_S1x8x2x128_w16_S1x8x1x128_w32) shapeCasts_S1x8x1x128_S1x8x128) shapeCasts_S1x8x128_S8x128)
      (shapeCast S8x128 (shapeCast S1x8x128 (rowsOfParity 1 S1x8x1x128 (View.readAt (Elt Ideal) M.view (Rect.unit (s := S12x864x2x128) (k0_off6 k t (BitVec.ofNat 32 (18 * rin.val)) (BitVec.ofNat 32 h.val)) S1x8x2x128.size (tapOff_inb k t rin h)).toLoadRect g) bitcasts_S1x8x2x128_w16_S1x8x1x128_w32) shapeCasts_S1x8x1x128_S1x8x128) shapeCasts_S1x8x128_S8x128)
      bitcasts_S16x128_w16_S8x128_w32) bitsLt_bf16_f32)
    (extf .f32 (shapeCast S16x128 (View.readAt (Elt Ideal) arg2.view (Rect.unit (s := S12x49x16x128) (woff k tap.val) S1x1x16x128.size (woff_inb k tap)).toLoadRect X2) shapeCasts_S1x1x16x128_S16x128) bitsLt_bf16_f32)

/-- The tap of row `dy` and column `dx` of the piece of row `r` and half `h`. -/
def tapAt (M : Memref sig .tc .vmem S12x864x2x128 .bf16) (g : Con Ideal M) (X2 : Con Ideal arg2) (k : Fin k0_t1_loop.trips) (t : Fin k0_t4_loop.trips)
    (r : Fin 4) (h : Fin 2) (dx dy : Fin 7) : FVec Ideal S16x128 .f32 :=
  tapTerm arg2 M g X2 k t ⟨dy.val + r.val, by omega⟩ ⟨(1 + 16 * h.val + dx.val) / 2, by omega⟩ ⟨dy.val * 7 + dx.val, by omega⟩

/-- A column of taps. -/
def column (f : Fin 7 → FVec Ideal S16x128 .f32) (acc : FVec Ideal S16x128 .f32) : FVec Ideal S16x128 .f32 :=
  addf (addf (addf (addf (addf (addf (addf acc (f 0)) (f 1)) (f 2)) (f 3)) (f 4)) (f 5)) (f 6)

/-- The first column of taps. -/
def column0 (f : Fin 7 → FVec Ideal S16x128 .f32) : FVec Ideal S16x128 .f32 :=
  addf (addf (addf (addf (addf (addf (f 0) (f 1)) (f 2)) (f 3)) (f 4)) (f 5)) (f 6)

theorem column_apply (f : Fin 7 → FVec Ideal S16x128 .f32) (acc : FVec Ideal S16x128 .f32) (x : S16x128.Idx) :
    (column f acc x : EReal) = acc x + ∑ dy, (f dy x : EReal) := by
  rw [Fin.sum_univ_seven]
  simp only [← add_assoc]
  rfl

theorem column0_apply (f : Fin 7 → FVec Ideal S16x128 .f32) (x : S16x128.Idx) :
    (column0 f x : EReal) = ∑ dy, (f dy x : EReal) := by
  rw [Fin.sum_univ_seven]
  rfl

/-- All taps of a piece. -/
def taps (X2 : Con Ideal arg2) (g8 : Con Ideal arg8) (g9 : Con Ideal arg9) (k : Fin k0_t1_loop.trips) (t : Fin k0_t4_loop.trips) (r : Fin 4) (h : Fin 2) : FVec Ideal S16x128 .f32 :=
  column (tapAt arg2 arg9 g9 X2 k t r h 6) (column (tapAt arg2 arg8 g8 X2 k t r h 5) (column (tapAt arg2 arg9 g9 X2 k t r h 4)
    (column (tapAt arg2 arg8 g8 X2 k t r h 3) (column (tapAt arg2 arg9 g9 X2 k t r h 2) (column (tapAt arg2 arg8 g8 X2 k t r h 1)
      (column0 (tapAt arg2 arg9 g9 X2 k t r h 0)))))))

/-- Weight `(dy, dx)` of the channel of `y`, from the row its pixel uses. -/
def weightOf (W : S12x49x16x128.Idx → EReal) (dx dy : Fin 7) (y : S1280x1536.Idx) : EReal :=
  W (ix4 ⟨(y 1).val / 128, by have : (y 1).val < 1536 := (y 1).isLt; omega⟩ ⟨dy.val * 7 + dx.val, by omega⟩ ⟨(y 0).val % 16, by omega⟩ ⟨(y 1).val % 128, by omega⟩)

/-- One tap of the convolution at pixel `y 0` and channel `y 1`. -/
def tapSpec (X : S1x1536x1280.Idx → EReal) (W : S12x49x16x128.Idx → EReal) (y : S1280x1536.Idx) (dx dy : Fin 7) : EReal :=
  plane X (y 1).val (36 * ((y 0).val / 32 + dy.val) + (1 + (y 0).val % 32 + dx.val)) * weightOf W dx dy y

/-- The convolution at pixel `y 0` and channel `y 1`. -/
def convSpec (X : S1x1536x1280.Idx → EReal) (W : S12x49x16x128.Idx → EReal) (B : S1x1536.Idx → EReal) (y : S1280x1536.Idx) : EReal :=
  (∑ dx, ∑ dy, tapSpec X W y dx dy) + B (ix2 0 (y 1))

theorem weight_apply (a : S1x1x16x128.Idx → EReal) (x : S16x128.Idx) : shapeCast S16x128 a shapeCasts_S1x1x16x128_S16x128 x = a (ix4 0 0 (x 0) (x 1)) := by
  idx_vars x
  pointwise

theorem term_apply (a b : FVec Ideal S16x128 .bf16) (x : S16x128.Idx) : (mulf (extf .f32 a bitsLt_bf16_f32) (extf .f32 b bitsLt_bf16_f32) x : EReal) = (a x : EReal) * b x := rfl

theorem tapAt_apply {X : S1x1536x1280.Idx → EReal} {M : Memref sig .tc .vmem S12x864x2x128 .bf16} {d : ℕ} {g : Con Ideal M} {k : Fin k0_t1_loop.trips}
    (hg : Tiled X M d k.val g) (X2 : Con Ideal arg2) (t : Fin k0_t4_loop.trips) (r : Fin 4) (h : Fin 2) (dx dy : Fin 7) (hd : 2 * ((1 + 16 * h.val + dx.val) / 2) + d = 1 + 16 * h.val + dx.val)
    (x : S16x128.Idx) (y : S1280x1536.Idx) (hy0 : (y 0).val = (4 * t.val + r.val) * 32 + 16 * h.val + (x 0).val) (hy1 : (y 1).val = 128 * k.val + (x 1).val) :
    (tapAt arg2 M g X2 k t r h dx dy x : EReal) = tapSpec X (arg2.view.read (Elt Ideal) X2) y dx dy := by
  have hx0 : (x 0).val < 16 := (x 0).isLt
  have hx1 : (x 1).val < 128 := (x 1).isLt
  have hr := r.isLt
  have hh := h.isLt
  refine (term_apply _ _ x).trans ?_
  refine (congrArg₂ (fun u v : EReal => u * v) ((tap_apply _ x).trans (load_apply hg (off6_eq k t ⟨dy.val + r.val, by omega⟩ ⟨(1 + 16 * h.val + dx.val) / 2, by omega⟩) _ _)) (weight_apply _ x)).trans ?_
  unfold tapSpec weightOf
  congr 1
  · show plane X (128 * k.val + (x 1).val) (2 * (72 * t.val + 18 * (dy.val + r.val) + (1 + 16 * h.val + dx.val) / 2 + (x 0).val / 2) + (x 0).val % 2 + d) = _
    congr 1 <;> omega
  · show arg2.view.read (Elt Ideal) X2 _ = _
    congr 1
    refine funext fun a => Fin.ext ?_
    refine Eq.trans (b := woff k (dy.val * 7 + dx.val) a + 1 * ((ix4 0 0 (x 0) (x 1) : S1x1x16x128.Idx) a).val) rfl ?_
    rw [woff_eq]
    fin_cases a
    · show k.val + 1 * 0 = (y 1).val / 128; omega
    · show dy.val * 7 + dx.val + 1 * 0 = dy.val * 7 + dx.val; omega
    · show 0 + 1 * (x 0).val = (y 0).val % 16; omega
    · show 0 + 1 * (x 1).val = (y 1).val % 128; omega

theorem taps_apply {X : S1x1536x1280.Idx → EReal} {g8 : Con Ideal arg8} {g9 : Con Ideal arg9} {k : Fin k0_t1_loop.trips} (h8 : Tiled X arg8 0 k.val g8) (h9 : Tiled X arg9 1 k.val g9)
    (X2 : Con Ideal arg2) (t : Fin k0_t4_loop.trips) (r : Fin 4) (h : Fin 2) (x : S16x128.Idx) (y : S1280x1536.Idx)
    (hy0 : (y 0).val = (4 * t.val + r.val) * 32 + 16 * h.val + (x 0).val) (hy1 : (y 1).val = 128 * k.val + (x 1).val) :
    (taps arg2 arg8 arg9 X2 g8 g9 k t r h x : EReal) = ∑ dx, ∑ dy, tapSpec X (arg2.view.read (Elt Ideal) X2) y dx dy := by
  have even : ∀ dx dy : Fin 7, dx.val % 2 = 0 → (tapAt arg2 arg9 g9 X2 k t r h dx dy x : EReal) = tapSpec X (arg2.view.read (Elt Ideal) X2) y dx dy := fun dx dy he =>
    tapAt_apply arg2 h9 X2 t r h dx dy (by omega) x y hy0 hy1
  have odd : ∀ dx dy : Fin 7, dx.val % 2 = 1 → (tapAt arg2 arg8 g8 X2 k t r h dx dy x : EReal) = tapSpec X (arg2.view.read (Elt Ideal) X2) y dx dy := fun dx dy he =>
    tapAt_apply arg2 h8 X2 t r h dx dy (by omega) x y hy0 hy1
  unfold taps
  rw [column_apply, column_apply, column_apply, column_apply, column_apply, column_apply, column0_apply, Fin.sum_univ_seven (fun dx => ∑ dy, tapSpec X (arg2.view.read (Elt Ideal) X2) y dx dy)]
  simp only [even 0 _ rfl, odd 1 _ rfl, even 2 _ rfl, odd 3 _ rfl, even 4 _ rfl, odd 5 _ rfl, even 6 _ rfl]

/-- The bias over a piece's rows. -/
theorem bias_apply (v : S1x128.Idx → EReal) (x : S16x128.Idx) :
    broadcastTo S16x128 (shapeCast S1x128 v shapeCasts_S1x128_S1x128) broadcasts_S1x128_S16x128 x = v (ix2 0 (x 1)) := by
  idx_vars x
  pointwise

/-- The convolution's buffer over `g` once tile `k` is in. -/
def G10 (Y : S1280x1536.Idx → EReal) (k : ℕ) (g : S1280x1536.Idx → EReal) (y : S1280x1536.Idx) : EReal :=
  if (y 1).val / 128 = k then Y y else g y

/-- The tile's biases. -/
abbrev biases (X3 : Con Ideal arg3) (k : Fin k0_t1_loop.trips) : Vec Ideal S1x128 .f32 :=
  View.readAt (Elt Ideal) arg3.view (Rect.unit (s := S1x1536) (k0_off5 k) S1x128.size (k0_off5_inb k)).toLoadRect X3

theorem t4_piece {X : S1x1536x1280.Idx → EReal} {g8 : Con Ideal arg8} {g9 : Con Ideal arg9} {k : Fin k0_t1_loop.trips} (h8 : Tiled X arg8 0 k.val g8) (h9 : Tiled X arg9 1 k.val g9)
    (X2 : Con Ideal arg2) (X3 : Con Ideal arg3) (g : S1280x1536.Idx → EReal) (t : Fin k0_t4_loop.trips) (r : Fin 4) (h : Fin 2) (x : S16x128.Idx) :
    shapeCast S16x128 (addf (taps arg2 arg8 arg9 X2 g8 g9 k t r h) (broadcastTo S16x128 (shapeCast S1x128 (biases arg3 X3 k) shapeCasts_S1x128_S1x128) broadcasts_S1x128_S16x128)) shapeCasts_S16x128_S16x128 x
      = G10 (convSpec X (arg2.view.read (Elt Ideal) X2) (arg3.view.read (Elt Ideal) X3)) k.val g ((Rect.unit (s := S1280x1536) (k0_off56 k t (BitVec.ofNat 32 r.val) (BitVec.ofNat 32 (16 * h.val))) S16x128.size (k0_off56_inb k t r h)).emb x) := by
  have hx0 : (x 0).val < 16 := (x 0).isLt
  have hx1 : (x 1).val < 128 := (x 1).isLt
  obtain ⟨y, hy⟩ : ∃ y, y = (Rect.unit (s := S1280x1536) (k0_off56 k t (BitVec.ofNat 32 r.val) (BitVec.ofNat 32 (16 * h.val))) S16x128.size (k0_off56_inb k t r h)).emb x := ⟨_, rfl⟩
  have e : ∀ a, (y a).val = (![(4 * t.val + r.val) * 32 + 16 * h.val, 128 * k.val] : Fin 2 → ℕ) a + 1 * (x a).val := fun a => by
    rw [← off56_eq k t r h, hy]; rfl
  have e0 : (y 0).val = (4 * t.val + r.val) * 32 + 16 * h.val + 1 * (x 0).val := e 0
  have e1 : (y 1).val = 128 * k.val + 1 * (x 1).val := e 1
  rw [← hy, shapeCast_self]
  unfold G10 convSpec
  rw [if_pos (by omega)]
  refine congrArg₂ (fun u v : EReal => u + v) (taps_apply arg2 arg8 arg9 h8 h9 X2 t r h x y (by omega) (by omega)) ((bias_apply _ x).trans ?_)
  show arg3.view.read (Elt Ideal) X3 _ = _
  congr 1
  refine funext fun a => Fin.ext ?_
  refine Eq.trans (b := k0_off5 k a + 1 * ((ix2 0 (x 1) : S1x128.Idx) a).val) rfl ?_
  rw [off5_eq]
  fin_cases a
  · show 0 + 1 * 0 = 0; omega
  · show 128 * k.val + 1 * (x 1).val = (y 1).val; omega

set_option maxHeartbeats 2000000 in
theorem t4_pieces {X : S1x1536x1280.Idx → EReal} {g8 : Con Ideal arg8} {g9 : Con Ideal arg9} {k : Fin k0_t1_loop.trips} (h8 : Tiled X arg8 0 k.val g8) (h9 : Tiled X arg9 1 k.val g9)
    (X2 : Con Ideal arg2) (X3 : Con Ideal arg3) (g : S1280x1536.Idx → EReal) (v : BitVec 32) (t : Fin k0_t4_loop.trips) :
    ∀ p ∈ tripL_k0_t4 (F := Ideal) Variants.none c none i arg1 harg1 arg2 harg2 arg3 harg3 arg4 harg4 arg5 harg5 arg6 harg6 arg7 harg7 arg8 harg8 arg9 harg9 arg10 harg10 arg11 harg11 k v (biases arg3 X3 k) X2 g8 g9 t, ∀ x : p.1.shape.Idx,
      p.2 x = G10 (convSpec X (arg2.view.read (Elt Ideal) X2) (arg3.view.read (Elt Ideal) X3)) k.val g (p.1.emb x) := by
  unfold tripL_k0_t4 trip_k0_t4
  dsimp only
  refine List.forall_mem_cons.mpr ⟨fun x => t4_piece arg2 arg3 arg8 arg9 h8 h9 X2 X3 g t 3 1 x, ?_⟩
  refine List.forall_mem_cons.mpr ⟨fun x => t4_piece arg2 arg3 arg8 arg9 h8 h9 X2 X3 g t 2 1 x, ?_⟩
  refine List.forall_mem_cons.mpr ⟨fun x => t4_piece arg2 arg3 arg8 arg9 h8 h9 X2 X3 g t 1 1 x, ?_⟩
  refine List.forall_mem_cons.mpr ⟨fun x => t4_piece arg2 arg3 arg8 arg9 h8 h9 X2 X3 g t 0 1 x, ?_⟩
  refine List.forall_mem_cons.mpr ⟨fun x => t4_piece arg2 arg3 arg8 arg9 h8 h9 X2 X3 g t 3 0 x, ?_⟩
  refine List.forall_mem_cons.mpr ⟨fun x => t4_piece arg2 arg3 arg8 arg9 h8 h9 X2 X3 g t 2 0 x, ?_⟩
  refine List.forall_mem_cons.mpr ⟨fun x => t4_piece arg2 arg3 arg8 arg9 h8 h9 X2 X3 g t 1 0 x, ?_⟩
  refine List.forall_mem_cons.mpr ⟨fun x => t4_piece arg2 arg3 arg8 arg9 h8 h9 X2 X3 g t 0 0 x, ?_⟩
  exact fun _ h => absurd h List.not_mem_nil

theorem t4_cover (g8 : Con Ideal arg8) (g9 : Con Ideal arg9) (X2 : Con Ideal arg2) (v70 : Vec Ideal S1x128 .f32) (k : Fin k0_t1_loop.trips) (v : BitVec 32) (y : S1280x1536.Idx) (h0 : (y 1).val / 128 = k.val) :
    ∃ p ∈ pb_k0_t4 (F := Ideal) Variants.none c none i arg1 harg1 arg2 harg2 arg3 harg3 arg4 harg4 arg5 harg5 arg6 harg6 arg7 harg7 arg8 harg8 arg9 harg9 arg10 harg10 arg11 harg11 k v v70 X2 g8 g9 k0_t4_loop.trips, y ∈ p.1.set := by
  have hy0 : (y 0).val < 1280 := (y 0).isLt
  have ht : (y 0).val / 128 < k0_t4_loop.trips := by rw [trips4]; omega
  have key : ∀ (r : Fin 4) (h : Fin 2), r.val = (y 0).val / 32 % 4 → h.val = (y 0).val % 32 / 16 → y ∈ (Rect.unit (s := S1280x1536) (k0_off56 k ⟨(y 0).val / 128, ht⟩ (BitVec.ofNat 32 r.val) (BitVec.ofNat 32 (16 * h.val))) S16x128.size (k0_off56_inb k ⟨(y 0).val / 128, ht⟩ r h)).set := by
    intro r h hr hh
    refine mem_unit _ _ ?_
    rw [off56_eq k ⟨(y 0).val / 128, ht⟩ r h]
    refine fun a => ?_
    fin_cases a
    · show (4 * ((y 0).val / 128) + r.val) * 32 + 16 * h.val ≤ (y 0).val ∧ (y 0).val < (4 * ((y 0).val / 128) + r.val) * 32 + 16 * h.val + 16
      omega
    · show 128 * k.val ≤ (y 1).val ∧ (y 1).val < 128 * k.val + 128
      omega
  have mem : ∀ p, p ∈ tripL_k0_t4 (F := Ideal) Variants.none c none i arg1 harg1 arg2 harg2 arg3 harg3 arg4 harg4 arg5 harg5 arg6 harg6 arg7 harg7 arg8 harg8 arg9 harg9 arg10 harg10 arg11 harg11 k v v70 X2 g8 g9 ⟨(y 0).val / 128, ht⟩ → p ∈ pb_k0_t4 (F := Ideal) Variants.none c none i arg1 harg1 arg2 harg2 arg3 harg3 arg4 harg4 arg5 harg5 arg6 harg6 arg7 harg7 arg8 harg8 arg9 harg9 arg10 harg10 arg11 harg11 k v v70 X2 g8 g9 k0_t4_loop.trips := fun p hp =>
    (mem_trips (fun n => pb_k0_t4 (F := Ideal) Variants.none c none i arg1 harg1 arg2 harg2 arg3 harg3 arg4 harg4 arg5 harg5 arg6 harg6 arg7 harg7 arg8 harg8 arg9 harg9 arg10 harg10 arg11 harg11 k v v70 X2 g8 g9 n) (fun t => tripL_k0_t4 (F := Ideal) Variants.none c none i arg1 harg1 arg2 harg2 arg3 harg3 arg4 harg4 arg5 harg5 arg6 harg6 arg7 harg7 arg8 harg8 arg9 harg9 arg10 harg10 arg11 harg11 k v v70 X2 g8 g9 t) rfl
      (fun t => pb_k0_t4_succ (F := Ideal) Variants.none c none i arg1 harg1 arg2 harg2 arg3 harg3 arg4 harg4 arg5 harg5 arg6 harg6 arg7 harg7 arg8 harg8 arg9 harg9 arg10 harg10 arg11 harg11 k v v70 X2 g8 g9 t) p _ le_rfl).mpr ⟨⟨(y 0).val / 128, ht⟩, ht, hp⟩
  obtain ⟨r, hr⟩ : ∃ r : Fin 4, r.val = (y 0).val / 32 % 4 := ⟨⟨(y 0).val / 32 % 4, by omega⟩, rfl⟩
  obtain ⟨h, hh⟩ : ∃ h : Fin 2, h.val = (y 0).val % 32 / 16 := ⟨⟨(y 0).val % 32 / 16, by omega⟩, rfl⟩
  have := key r h hr hh
  have tm : ∃ p ∈ tripL_k0_t4 (F := Ideal) Variants.none c none i arg1 harg1 arg2 harg2 arg3 harg3 arg4 harg4 arg5 harg5 arg6 harg6 arg7 harg7 arg8 harg8 arg9 harg9 arg10 harg10 arg11 harg11 k v v70 X2 g8 g9 ⟨(y 0).val / 128, ht⟩, y ∈ p.1.set := by
    unfold tripL_k0_t4 trip_k0_t4
    dsimp only
    clear hr hh key mem
    revert this
    fin_cases r <;> fin_cases h <;> intro this
    · exact ⟨_, .tail _ (.tail _ (.tail _ (.tail _ (.tail _ (.tail _ (.tail _ (.head _))))))), this⟩
    · exact ⟨_, .tail _ (.tail _ (.tail _ (.head _))), this⟩
    · exact ⟨_, .tail _ (.tail _ (.tail _ (.tail _ (.tail _ (.tail _ (.head _)))))), this⟩
    · exact ⟨_, .tail _ (.tail _ (.head _)), this⟩
    · exact ⟨_, .tail _ (.tail _ (.tail _ (.tail _ (.tail _ (.head _))))), this⟩
    · exact ⟨_, .tail _ (.head _), this⟩
    · exact ⟨_, .tail _ (.tail _ (.tail _ (.tail _ (.head _)))), this⟩
    · exact ⟨_, .head _, this⟩
  obtain ⟨p, hp, hy⟩ := tm
  exact ⟨p, mem p hp, hy⟩

/-- The convolution's buffer after tile `k`. -/
theorem after10_read {X : S1x1536x1280.Idx → EReal} {g8 : Con Ideal arg8} {g9 : Con Ideal arg9} {k : Fin k0_t1_loop.trips} (h8 : Tiled X arg8 0 k.val g8) (h9 : Tiled X arg9 1 k.val g9)
    (X2 : Con Ideal arg2) (X3 : Con Ideal arg3) (f10 : Con Ideal arg10) (y : S1280x1536.Idx) :
    arg10.view.read (Elt Ideal) (after10 c i arg1 harg1 arg2 harg2 arg3 harg3 arg4 harg4 arg5 harg5 arg6 harg6 arg7 harg7 arg8 harg8 arg9 harg9 arg10 harg10 arg11 harg11 X2 X3 k g8 g9 f10) y
      = G10 (convSpec X (arg2.view.read (Elt Ideal) X2) (arg3.view.read (Elt Ideal) X3)) k.val (arg10.view.read (Elt Ideal) f10) y := by
  refine read_writes_eq arg10.view f10 (G10 (convSpec X (arg2.view.read (Elt Ideal) X2) (arg3.view.read (Elt Ideal) X3)) k.val (arg10.view.read (Elt Ideal) f10)) _ (fun p hp => ?_) y ?_
  · obtain ⟨t, -, hp⟩ := (mem_trips (fun n => pb_k0_t4 (F := Ideal) Variants.none c none i arg1 harg1 arg2 harg2 arg3 harg3 arg4 harg4 arg5 harg5 arg6 harg6 arg7 harg7 arg8 harg8 arg9 harg9 arg10 harg10 arg11 harg11 k (Scf.iv 0#32 1#32 k) (biases arg3 X3 k) X2 g8 g9 n) (fun t => tripL_k0_t4 (F := Ideal) Variants.none c none i arg1 harg1 arg2 harg2 arg3 harg3 arg4 harg4 arg5 harg5 arg6 harg6 arg7 harg7 arg8 harg8 arg9 harg9 arg10 harg10 arg11 harg11 k (Scf.iv 0#32 1#32 k) (biases arg3 X3 k) X2 g8 g9 t) rfl
      (fun t => pb_k0_t4_succ (F := Ideal) Variants.none c none i arg1 harg1 arg2 harg2 arg3 harg3 arg4 harg4 arg5 harg5 arg6 harg6 arg7 harg7 arg8 harg8 arg9 harg9 arg10 harg10 arg11 harg11 k (Scf.iv 0#32 1#32 k) (biases arg3 X3 k) X2 g8 g9 t) p _ le_rfl).mp hp
    exact t4_pieces c i arg1 harg1 arg2 harg2 arg3 harg3 arg4 harg4 arg5 harg5 arg6 harg6 arg7 harg7 arg8 harg8 arg9 harg9 arg10 harg10 arg11 harg11 h8 h9 X2 X3 _ _ t p hp
  · by_cases h0 : (y 1).val / 128 = k.val
    · exact .inl (t4_cover c i arg1 harg1 arg2 harg2 arg3 harg3 arg4 harg4 arg5 harg5 arg6 harg6 arg7 harg7 arg8 harg8 arg9 harg9 arg10 harg10 arg11 harg11 g8 g9 X2 _ k _ y h0)
    · refine .inr ?_
      unfold G10
      rw [if_neg h0]

/-- Before tile `k`: the word buffers zero where no pixel lands, the convolution done for the tiles before. -/
def Conv (X : S1x1536x1280.Idx → EReal) (W : S12x49x16x128.Idx → EReal) (B : S1x1536.Idx → EReal) (k : ℕ)
    (f8 : Con Ideal arg8) (f9 : Con Ideal arg9) (f10 : Con Ideal arg10) : Prop :=
  Padded arg8 f8 ∧ Edged arg9 f9 ∧ ∀ y : S1280x1536.Idx, (y 1).val < 128 * k → arg10.view.read (Elt Ideal) f10 y = convSpec X W B y

theorem conv_step (X1 : Con Ideal arg1) (X2 : Con Ideal arg2) (X3 : Con Ideal arg3) (k : Fin k0_t1_loop.trips) (f8 : Con Ideal arg8) (f9 : Con Ideal arg9) (f10 : Con Ideal arg10)
    (h : Conv arg8 arg9 arg10 (arg1.view.read (Elt Ideal) X1) (arg2.view.read (Elt Ideal) X2) (arg3.view.read (Elt Ideal) X3) k.val f8 f9 f10) :
    let g8 := after8 c i arg1 harg1 arg2 harg2 arg3 harg3 arg4 harg4 arg5 harg5 arg6 harg6 arg7 harg7 arg8 harg8 arg9 harg9 arg10 harg10 arg11 harg11 X1 k f8
    let g9 := after9 c i arg1 harg1 arg2 harg2 arg3 harg3 arg4 harg4 arg5 harg5 arg6 harg6 arg7 harg7 arg8 harg8 arg9 harg9 arg10 harg10 arg11 harg11 k g8 f9
    Conv arg8 arg9 arg10 (arg1.view.read (Elt Ideal) X1) (arg2.view.read (Elt Ideal) X2) (arg3.view.read (Elt Ideal) X3) (k.val + 1) g8 g9 (after10 c i arg1 harg1 arg2 harg2 arg3 harg3 arg4 harg4 arg5 harg5 arg6 harg6 arg7 harg7 arg8 harg8 arg9 harg9 arg10 harg10 arg11 harg11 X2 X3 k g8 g9 f10) := by
  obtain ⟨h8, h9, h10⟩ := h
  intro g8 g9
  have t8 := after8_tiled c i arg1 harg1 arg2 harg2 arg3 harg3 arg4 harg4 arg5 harg5 arg6 harg6 arg7 harg7 arg8 harg8 arg9 harg9 arg10 harg10 arg11 harg11 X1 k f8 h8
  have t9 := after9_tiled c i arg1 harg1 arg2 harg2 arg3 harg3 arg4 harg4 arg5 harg5 arg6 harg6 arg7 harg7 arg8 harg8 arg9 harg9 arg10 harg10 arg11 harg11 t8 f9 h9
  refine ⟨after8_padded c i arg1 harg1 arg2 harg2 arg3 harg3 arg4 harg4 arg5 harg5 arg6 harg6 arg7 harg7 arg8 harg8 arg9 harg9 arg10 harg10 arg11 harg11 X1 k f8 h8, after9_edged c i arg1 harg1 arg2 harg2 arg3 harg3 arg4 harg4 arg5 harg5 arg6 harg6 arg7 harg7 arg8 harg8 arg9 harg9 arg10 harg10 arg11 harg11 t8 f9 h9, fun y hy => ?_⟩
  rw [after10_read c i arg1 harg1 arg2 harg2 arg3 harg3 arg4 harg4 arg5 harg5 arg6 harg6 arg7 harg7 arg8 harg8 arg9 harg9 arg10 harg10 arg11 harg11 t8 t9 X2 X3 f10 y]
  unfold G10
  split
  · rfl
  · exact h10 y (by omega)

end Cert.DwlnIdeal.Hand

end
-- ==== Proof.DwlnSpec.lean ====
/- The function of the convolution call, over the extended reals: a depthwise convolution of 7 by 7 taps, a layer norm over
the 1536 channels of each pixel, and the quantisation of the pixel's row with a power-of-two scale.
-/
module

public import Idealize.ShloMosaic.Lib.Pointwise
public import proofs.«01_k».proof.Proof.Gelu
public import proofs.«01_k».proof.Proof.Scale
public import proofs.«01_k».proof.Proof.Spec

@[expose] public section

noncomputable section

namespace Cert.DwlnSpec

open Idealize.ShloMosaic

section Row

variable (f g b : Fin 1536 → EReal)

/-- A row's mean, its entries about the mean, and its variance. -/
def mean : EReal := (∑ j, f j) * ((1536⁻¹ : ℝ) : EReal)
def centred (j : Fin 1536) : EReal := f j - mean f
def var : EReal := (∑ j, centred f j * centred f j) * ((1536⁻¹ : ℝ) : EReal)

/-- The normed row, times `g` plus `b`. -/
def normed (j : Fin 1536) : EReal := centred f j * Ideal.rsqrt (var f + Ideal.ofBits .f32 0x358637BD#32) * g j + b j

/-- The largest absolute value of a row, the exponent of its scale, the scale, and the quantised row. -/
def amax : EReal := Finset.univ.sup fun j => max (normed f g b j) (-(normed f g b j))
def e : EReal := Scale.expR (amax f g b) (amax f g b * Ideal.ofBits .f32 0x3B124925#32)
def scale : EReal := Ideal.exp2 (e f g b)
def q (j : Fin 1536) : EReal := Gelu.clip (normed f g b j * Ideal.exp2 (0 - e f g b))

theorem amax_nonneg : 0 ≤ amax f g b :=
  le_trans (Spec.abs_nonneg _) (Finset.le_sup (f := fun j => max (normed f g b j) (-(normed f g b j))) (Finset.mem_univ (0 : Fin 1536)))

/-- What the kernel makes of the scale and its inverse is the function's. -/
theorem scaleK_eq : Scale.scaleK (amax f g b) (amax f g b * Ideal.ofBits .f32 0x3B124925#32) = scale f g b :=
  Scale.scale_eq Iff.rfl (fun h => by rw [h, zero_mul])
    (fun h => EReal.mul_pos (lt_of_le_of_ne (amax_nonneg f g b) (Ne.symm h)) Spec.small_pos)

theorem invK_eq : Scale.invK (amax f g b) (amax f g b * Ideal.ofBits .f32 0x3B124925#32) = Ideal.exp2 (0 - e f g b) :=
  Scale.inv_eq Iff.rfl (fun h => by rw [h, zero_mul])
    (fun h => EReal.mul_pos (lt_of_le_of_ne (amax_nonneg f g b) (Ne.symm h)) Spec.small_pos)

end Row

/-! ## The call's results as functions of its arguments -/

variable (x : Vec Ideal ⟨3, ![12, 1536, 1280]⟩ .bf16) (w : Vec Ideal ⟨3, ![1536, 7, 7]⟩ .bf16)
variable (b g β : Vec Ideal ⟨1, ![1536]⟩ .f32)

/-- Channel `d` of image `n` at row `r` and column `s` of the image with three zero rows and columns on each side. -/
def padded (n : Fin 12) (d : Fin 1536) (r s : ℕ) : EReal :=
  if h : (3 ≤ r ∧ r < 43) ∧ 3 ≤ s ∧ s < 35 then x (ix3 n d ⟨32 * (r - 3) + (s - 3), by omega⟩) else 0

/-- The convolution at pixel `p` (of 40 rows of 32), channel `d`. -/
def conv (n : Fin 12) (p : Fin 1280) (d : Fin 1536) : EReal :=
  (∑ dy : Fin 7, ∑ dx : Fin 7, padded x n d (p.val / 32 + dy.val) (p.val % 32 + dx.val) * w (ix3 d dy dx)) + b (ix1 d)

/-- The two results. -/
def quantised : Vec Ideal ⟨3, ![12, 1280, 1536]⟩ .fp8e4m3 :=
  fun i => q (conv x w b (i 0) (i 1)) (fun j => g (ix1 j)) (fun j => β (ix1 j)) (i 2)
def scales : Vec Ideal ⟨3, ![12, 1, 1280]⟩ .f32 :=
  fun i => scale (conv x w b (i 0) (i 2)) (fun j => g (ix1 j)) (fun j => β (ix1 j))

end Cert.DwlnSpec

end
-- ==== Proof.DwlnNorm.lean ====
/- What the kernel makes of 32 rows of the convolution: the layer norm, the largest absolute value of each row, the exponent
word by the binary search, and the quantised rows and scales.
-/
module

public import proofs.«01_k».proof.Proof.DwlnConv
public import proofs.«01_k».proof.Proof.DwlnSpec
public import proofs.«01_k».proof.Proof.RefBody

@[expose] public section

set_option maxRecDepth 16384

noncomputable section

namespace Cert.DwlnIdeal.Hand

open Cert.DwlnIdeal Cert.DwlnIdeal.Gen
open Idealize.ShloMosaic Idealize.ShloMosaic.TcCoe Idealize.SL.Sem

theorem inv_d : Named.named (F := Ideal) κ "inv_d" (φ := .f32) 0x3A2AAAAB#32 = ((1536⁻¹ : ℝ) : EReal) :=
  IdealRules.named_const.ideal_named_scalar _ _ _ _ rfl

theorem absf_max (a : EReal) : FloatOps.absf (F := Ideal) (φ := .f32) a = max a (-a) := rfl

/-- One step of the search, on a whole vector. -/
theorem vstep {S : Shape} (v : FVec Ideal S .f32) (k : IVec S 32) (s : BitVec 32) :
    select (cmpf .olt v (bitcastToFloat .f32 (shli (addi k (broadcast S s)) (broadcast S 23#32)))) k
      (addi k (broadcast S s)) = fun x => Scale.step (v x) s (k x) := by
  funext x
  show (if (BitVec.ofBool (decide (v x < Scale.thr (k x + s)))) = 1#1 then k x else k x + s) = Scale.step (v x) s (k x)
  unfold Scale.step
  by_cases h : v x < Scale.thr (k x + s)
  · simp [h]
  · simp [h]

/-- The zero test. -/
theorem zero_test (a v : EReal) (w : BitVec 32) :
    Scalar.select (IntOp.ori (BitVec.ofBool (decide (a = 0))) (BitVec.ofBool (decide (v = 0)))) 0#32 (IntOp.subi w 126#32)
      = if a = 0 ∨ v = 0 then 0#32 else w - 126#32 := by
  by_cases ha : a = 0 <;> by_cases hv : v = 0 <;> simp [ha, hv, Scalar.select, IntOp.ori, IntOp.subi]

variable (v : Vec Ideal S32x1536 .f32) (g b : Vec Ideal S1x1536 .f32)

/-- Row `r` of a block of rows, and the one row of a vector. -/
abbrev brow (v : S32x1536.Idx → EReal) (r : Fin 32) : Fin 1536 → EReal := fun j => v (ix2 r j)
abbrev line (g : S1x1536.Idx → EReal) : Fin 1536 → EReal := fun j => g (ix2 0 j)

theorem z_apply (x : S32x1536.Idx) : k0_pay505 (F := Ideal) v g b x = DwlnSpec.normed (brow v (x 0)) (line g) (line b) (x 1) := by
  unfold k0_pay505
  idx_vars x
  pointwise [DwlnSpec.normed, DwlnSpec.centred, DwlnSpec.var, DwlnSpec.mean]
  rw [inv_d]

theorem z_eq : k0_pay505 (F := Ideal) v g b = fun x : S32x1536.Idx => DwlnSpec.normed (brow v (x 0)) (line g) (line b) (x 1) := funext (z_apply v g b)

theorem a_eq : k0_pay506 (F := Ideal) v g b = fun x : S32x128.Idx => DwlnSpec.amax (brow v (x 0)) (line g) (line b) := by
  unfold k0_pay506
  rw [z_eq]
  funext x
  idx_vars x
  pointwise [DwlnSpec.amax]
  simp only [absf_max]
  rfl

theorem s_eq : k0_pay507 (F := Ideal) v g b = fun x : S32x128.Idx => DwlnSpec.amax (brow v (x 0)) (line g) (line b) * Ideal.ofBits .f32 0x3B124925#32 := by
  unfold k0_pay507
  rw [a_eq]
  rfl

/-- The words halfway through the search, and its next comparison. -/
abbrev half : IVec S32x128 32 := k0_pay510 (F := Ideal) (k0_pay507 (F := Ideal) v g b) k0_pay508 (k0_pay509 (F := Ideal) v g b) 125#32
abbrev next : IVec S32x128 1 := k0_pay511 (F := Ideal) (k0_pay507 (F := Ideal) v g b) k0_pay508 (k0_pay509 (F := Ideal) v g b) 125#32

/-- The exponent word of each row. -/
theorem word_eq : k0_pay512 (F := Ideal) (k0_pay506 (F := Ideal) v g b) (k0_pay507 (F := Ideal) v g b) (half v g b) (next v g b) 4#32
    = fun x : S32x128.Idx => Scale.expWord (DwlnSpec.amax (brow v (x 0)) (line g) (line b)) (DwlnSpec.amax (brow v (x 0)) (line g) (line b) * Ideal.ofBits .f32 0x3B124925#32) := by
  unfold half next k0_pay512 k0_pay511 k0_pay510 k0_pay509 k0_pay508
  rw [a_eq, s_eq]
  dsimp only
  rw [vstep, vstep, vstep, vstep, vstep, vstep, vstep, vstep]
  funext y
  idx_vars y
  pointwise
  exact zero_test _ _ _

/-- The scales, in every lane. -/
theorem scale_eq : k0_pay522 (F := Ideal) (k0_pay513 (F := Ideal) (k0_pay506 (F := Ideal) v g b) (k0_pay507 (F := Ideal) v g b) (half v g b) (next v g b) 4#32)
    = fun x : S32x128.Idx => DwlnSpec.scale (brow v (x 0)) (line g) (line b) := by
  unfold k0_pay522 k0_pay513
  rw [word_eq]
  funext x
  idx_vars x
  pointwise
  exact DwlnSpec.scaleK_eq ..

/-- The quantised rows. -/
theorem q_eq : k0_pay521 (F := Ideal) (k0_pay514 (F := Ideal) (k0_pay505 (F := Ideal) v g b) (k0_pay506 (F := Ideal) v g b) (k0_pay507 (F := Ideal) v g b) (half v g b) (next v g b) 4#32)
      (Scalar.ofBits .f32 0x43E00000#32) k0_pay515
    = fun x : S1x32x1536.Idx => DwlnSpec.q (brow v (x 1)) (line g) (line b) (x 2) := by
  unfold k0_pay521 k0_pay514 k0_pay515
  rw [word_eq, z_eq]
  funext x
  idx_vars x
  pointwise [DwlnSpec.q, Gelu.clip]
  rw [← DwlnSpec.invK_eq, Cert.ReferenceIdeal.Body.c448, Cert.ReferenceIdeal.Body.cm448]
  rfl

end Cert.DwlnIdeal.Hand

end
-- ==== Proof.DwlnRows.lean ====
/- What the loop over the rows leaves: 40 trips of 32 rows each, the quantised rows in one buffer and the scales, in every
lane, in the other.
-/
module

public import proofs.«01_k».proof.Proof.DwlnNorm

@[expose] public section

set_option maxRecDepth 16384

noncomputable section

namespace Cert.DwlnIdeal.Hand

open Cert.DwlnIdeal Cert.DwlnIdeal.Gen
open Idealize.ShloMosaic Idealize.ShloMosaic.TcCoe Idealize.SL.Sem

theorem trips5 : k0_t5_loop.trips = 40 := by decide +kernel

variable (c : Dev nD) (i : grid0.Coords)
  (arg1 : Memref sig .tc .vmem S1x1536x1280 .bf16) (harg1 : arg1.IsWhole)
  (arg2 : Memref sig .tc .vmem S12x49x16x128 .bf16) (harg2 : arg2.IsWhole)
  (arg3 : Memref sig .tc .vmem S1x1536 .f32) (harg3 : arg3.IsWhole)
  (arg4 : Memref sig .tc .vmem S1x1536 .f32) (harg4 : arg4.IsWhole)
  (arg5 : Memref sig .tc .vmem S1x1536 .f32) (harg5 : arg5.IsWhole)
  (arg6 : Memref sig .tc .vmem S1x1280x1536 .fp8e4m3) (harg6 : arg6.IsWhole)
  (arg7 : Memref sig .tc .vmem S1x1x1280 .f32) (harg7 : arg7.IsWhole)
  (arg8 : Memref sig .tc .vmem S12x864x2x128 .bf16) (harg8 : arg8.IsWhole)
  (arg9 : Memref sig .tc .vmem S12x864x2x128 .bf16) (harg9 : arg9.IsWhole)
  (arg10 : Memref sig .tc .vmem S1280x1536 .f32) (harg10 : arg10.IsWhole)
  (arg11 : Memref sig .tc .vmem S1280x128 .f32) (harg11 : arg11.IsWhole)

/-- Row `p` of the convolution. -/
abbrev crow (C : S1280x1536.Idx → EReal) (p : Fin 1280) : Fin 1536 → EReal := fun j => C (ix2 p j)

/-- The quantised rows and the scales of a convolution, as the two buffers hold them. -/
def rowsQ (C : S1280x1536.Idx → EReal) (g b : S1x1536.Idx → EReal) (y : S1x1280x1536.Idx) : EReal :=
  DwlnSpec.q (crow C (y 1)) (line g) (line b) (y 2)
def rowsS (C : S1280x1536.Idx → EReal) (g b : S1x1536.Idx → EReal) (y : S1280x128.Idx) : EReal :=
  DwlnSpec.scale (crow C (y 0)) (line g) (line b)

/-- The 32 rows of trip `t`, and the two one-row vectors, as the trip loads them. -/
abbrev rows10 (X10 : Con Ideal arg10) (t : Fin k0_t5_loop.trips) : Vec Ideal S32x1536 .f32 :=
  View.readAt (Elt Ideal) arg10.view (Rect.unit (s := S1280x1536) (k0_off57 t) S32x1536.size (k0_off57_inb t)).toLoadRect X10
abbrev row4 (X4 : Con Ideal arg4) : Vec Ideal S1x1536 .f32 :=
  View.readAt (Elt Ideal) arg4.view (Rect.unit (s := S1x1536) ![0, 0] S1x1536.size inb_S1x1536_S1x1536_0_0).toLoadRect X4
abbrev row5 (X5 : Con Ideal arg5) : Vec Ideal S1x1536 .f32 :=
  View.readAt (Elt Ideal) arg5.view (Rect.unit (s := S1x1536) ![0, 0] S1x1536.size inb_S1x1536_S1x1536_0_0).toLoadRect X5

theorem hz2 : (![0, 0] : Fin 2 → ℕ) = fun _ => 0 := funext fun a => by fin_cases a <;> rfl

theorem row4_eq (X4 : Con Ideal arg4) : line (row4 arg4 X4) = line (arg4.view.read (Elt Ideal) X4) := by
  funext j
  show arg4.view.read (Elt Ideal) X4 _ = _
  congr 1
  refine funext fun a => Fin.ext ?_
  fin_cases a
  · rfl
  · show 0 + 1 * j.val = j.val; omega
theorem row5_eq (X5 : Con Ideal arg5) : line (row5 arg5 X5) = line (arg5.view.read (Elt Ideal) X5) := by
  funext j
  show arg5.view.read (Elt Ideal) X5 _ = _
  congr 1
  refine funext fun a => Fin.ext ?_
  fin_cases a
  · rfl
  · show 0 + 1 * j.val = j.val; omega

theorem rows10_eq (X10 : Con Ideal arg10) (t : Fin k0_t5_loop.trips) (r : Fin 32) (p : Fin 1280) (hp : p.val = 32 * t.val + r.val) :
    brow (rows10 arg10 X10 t) r = crow (arg10.view.read (Elt Ideal) X10) p := by
  funext j
  show arg10.view.read (Elt Ideal) X10 _ = _
  unfold crow
  congr 1
  refine funext fun a => Fin.ext ?_
  refine Eq.trans (b := k0_off57 t a + 1 * ((ix2 r j : S32x1536.Idx) a).val) rfl ?_
  rw [off57_eq]
  fin_cases a
  · show 32 * t.val + 1 * r.val = p.val; omega
  · show 0 + 1 * j.val = j.val; omega

section Trip

variable (X4 : Con Ideal arg4) (X5 : Con Ideal arg5) (X10 : Con Ideal arg10) (t : Fin k0_t5_loop.trips)

/-- What a trip computes of its rows. -/
abbrev tripA : FVec Ideal S32x128 .f32 := k0_pay506 (F := Ideal) (rows10 arg10 X10 t) (row4 arg4 X4) (row5 arg5 X5)
abbrev tripS : FVec Ideal S32x128 .f32 := k0_pay507 (F := Ideal) (rows10 arg10 X10 t) (row4 arg4 X4) (row5 arg5 X5)
abbrev tripH : IVec S32x128 32 := half (rows10 arg10 X10 t) (row4 arg4 X4) (row5 arg5 X5)
abbrev tripN : IVec S32x128 1 := next (rows10 arg10 X10 t) (row4 arg4 X4) (row5 arg5 X5)

theorem t5_quantised (x : S1x32x1536.Idx) :
    k0_pay521 (F := Ideal) (k0_pay514 (F := Ideal) (k0_pay505 (F := Ideal) (rows10 arg10 X10 t) (row4 arg4 X4) (row5 arg5 X5))
        (tripA arg4 arg5 arg10 X4 X5 X10 t) (tripS arg4 arg5 arg10 X4 X5 X10 t) (tripH arg4 arg5 arg10 X4 X5 X10 t) (tripN arg4 arg5 arg10 X4 X5 X10 t) 4#32)
      (Scalar.ofBits .f32 0x43E00000#32) k0_pay515 x
      = rowsQ (arg10.view.read (Elt Ideal) X10) (arg4.view.read (Elt Ideal) X4) (arg5.view.read (Elt Ideal) X5)
          ((Rect.unit (s := S1x1280x1536) (k0_off58 t) S1x32x1536.size (k0_off58_inb t)).emb x) := by
  obtain ⟨y, hy⟩ : ∃ y, y = (Rect.unit (s := S1x1280x1536) (k0_off58 t) S1x32x1536.size (k0_off58_inb t)).emb x := ⟨_, rfl⟩
  have e : ∀ a, (y a).val = (![0, 32 * t.val, 0] : Fin 3 → ℕ) a + 1 * (x a).val := fun a => by
    rw [← off58_eq t, hy]; rfl
  have e1 : (y 1).val = 32 * t.val + 1 * (x 1).val := e 1
  have e2 : (y 2).val = 0 + 1 * (x 2).val := e 2
  rw [← hy]
  refine (congrFun (q_eq _ _ _) x).trans ?_
  unfold rowsQ
  rw [row4_eq, row5_eq, rows10_eq arg10 X10 t (x 1) (y 1) (by omega), show x 2 = y 2 from Fin.ext (by omega)]

theorem t5_scale (x : S32x128.Idx) :
    k0_pay522 (F := Ideal) (k0_pay513 (F := Ideal) (tripA arg4 arg5 arg10 X4 X5 X10 t) (tripS arg4 arg5 arg10 X4 X5 X10 t) (tripH arg4 arg5 arg10 X4 X5 X10 t) (tripN arg4 arg5 arg10 X4 X5 X10 t) 4#32) x
      = rowsS (arg10.view.read (Elt Ideal) X10) (arg4.view.read (Elt Ideal) X4) (arg5.view.read (Elt Ideal) X5)
          ((Rect.unit (s := S1280x128) (k0_off59 t) S32x128.size (k0_off59_inb t)).emb x) := by
  obtain ⟨y, hy⟩ : ∃ y, y = (Rect.unit (s := S1280x128) (k0_off59 t) S32x128.size (k0_off59_inb t)).emb x := ⟨_, rfl⟩
  have e : ∀ a, (y a).val = (![32 * t.val, 0] : Fin 2 → ℕ) a + 1 * (x a).val := fun a => by
    rw [← off59_eq t, hy]; rfl
  have e0 : (y 0).val = 32 * t.val + 1 * (x 0).val := e 0
  rw [← hy]
  refine (congrFun (scale_eq _ _ _) x).trans ?_
  unfold rowsS
  rw [row4_eq, row5_eq, rows10_eq arg10 X10 t (x 0) (y 0) (by omega)]

/-- A trip's pieces. -/
abbrev trip5 := tripL_k0_t5 (F := Ideal) Variants.none c none i arg1 harg1 arg2 harg2 arg3 harg3 arg4 harg4 arg5 harg5 arg6 harg6 arg7 harg7 arg8 harg8 arg9 harg9 arg10 harg10 arg11 harg11 X4 X5 X10 t

theorem t5_pieces :
    (∀ p ∈ (trip5 c i arg1 harg1 arg2 harg2 arg3 harg3 arg4 harg4 arg5 harg5 arg6 harg6 arg7 harg7 arg8 harg8 arg9 harg9 arg10 harg10 arg11 harg11 X4 X5 X10 t).1, ∀ x : p.1.shape.Idx,
      p.2 x = rowsQ (arg10.view.read (Elt Ideal) X10) (arg4.view.read (Elt Ideal) X4) (arg5.view.read (Elt Ideal) X5) (p.1.emb x))
    ∧ (∀ p ∈ (trip5 c i arg1 harg1 arg2 harg2 arg3 harg3 arg4 harg4 arg5 harg5 arg6 harg6 arg7 harg7 arg8 harg8 arg9 harg9 arg10 harg10 arg11 harg11 X4 X5 X10 t).2, ∀ x : p.1.shape.Idx,
      p.2 x = rowsS (arg10.view.read (Elt Ideal) X10) (arg4.view.read (Elt Ideal) X4) (arg5.view.read (Elt Ideal) X5) (p.1.emb x)) := by
  unfold trip5 tripL_k0_t5 trip_k0_t5
  dsimp only
  exact ⟨List.forall_mem_cons.mpr ⟨fun x => t5_quantised arg4 arg5 arg10 X4 X5 X10 t x, fun _ h => absurd h List.not_mem_nil⟩,
    List.forall_mem_cons.mpr ⟨fun x => t5_scale arg4 arg5 arg10 X4 X5 X10 t x, fun _ h => absurd h List.not_mem_nil⟩⟩

theorem t5_covers6 (y : S1x1280x1536.Idx) (h : (y 1).val / 32 = t.val) : ∃ p ∈ (trip5 c i arg1 harg1 arg2 harg2 arg3 harg3 arg4 harg4 arg5 harg5 arg6 harg6 arg7 harg7 arg8 harg8 arg9 harg9 arg10 harg10 arg11 harg11 X4 X5 X10 t).1, y ∈ p.1.set := by
  have hy0 : (y 0).val < 1 := (y 0).isLt
  have hy2 : (y 2).val < 1536 := (y 2).isLt
  have key : y ∈ (Rect.unit (s := S1x1280x1536) (k0_off58 t) S1x32x1536.size (k0_off58_inb t)).set := by
    refine mem_unit _ _ ?_
    rw [off58_eq t]
    refine fun a => ?_
    fin_cases a
    · show 0 ≤ (y 0).val ∧ (y 0).val < 0 + 1; omega
    · show 32 * t.val ≤ (y 1).val ∧ (y 1).val < 32 * t.val + 32; omega
    · show 0 ≤ (y 2).val ∧ (y 2).val < 0 + 1536; omega
  unfold trip5 tripL_k0_t5 trip_k0_t5
  dsimp only
  exact ⟨_, List.mem_cons_self, key⟩

theorem t5_covers11 (y : S1280x128.Idx) (h : (y 0).val / 32 = t.val) : ∃ p ∈ (trip5 c i arg1 harg1 arg2 harg2 arg3 harg3 arg4 harg4 arg5 harg5 arg6 harg6 arg7 harg7 arg8 harg8 arg9 harg9 arg10 harg10 arg11 harg11 X4 X5 X10 t).2, y ∈ p.1.set := by
  have hy1 : (y 1).val < 128 := (y 1).isLt
  have key : y ∈ (Rect.unit (s := S1280x128) (k0_off59 t) S32x128.size (k0_off59_inb t)).set := by
    refine mem_unit _ _ ?_
    rw [off59_eq t]
    refine fun a => ?_
    fin_cases a
    · show 32 * t.val ≤ (y 0).val ∧ (y 0).val < 32 * t.val + 32; omega
    · show 0 ≤ (y 1).val ∧ (y 1).val < 0 + 128; omega
  unfold trip5 tripL_k0_t5 trip_k0_t5
  dsimp only
  exact ⟨_, List.mem_cons_self, key⟩

end Trip

section Loop

variable (X4 : Con Ideal arg4) (X5 : Con Ideal arg5) (X10 : Con Ideal arg10)

theorem mem5_1 (p) : p ∈ (pieces5 c i arg1 harg1 arg2 harg2 arg3 harg3 arg4 harg4 arg5 harg5 arg6 harg6 arg7 harg7 arg8 harg8 arg9 harg9 arg10 harg10 arg11 harg11 X4 X5 X10).1 ↔ ∃ t : Fin k0_t5_loop.trips, t.val < k0_t5_loop.trips ∧ p ∈ (trip5 c i arg1 harg1 arg2 harg2 arg3 harg3 arg4 harg4 arg5 harg5 arg6 harg6 arg7 harg7 arg8 harg8 arg9 harg9 arg10 harg10 arg11 harg11 X4 X5 X10 t).1 :=
  mem_trips (fun n => (pb_k0_t5 (F := Ideal) Variants.none c none i arg1 harg1 arg2 harg2 arg3 harg3 arg4 harg4 arg5 harg5 arg6 harg6 arg7 harg7 arg8 harg8 arg9 harg9 arg10 harg10 arg11 harg11 X4 X5 X10 n).1) (fun t => (trip5 c i arg1 harg1 arg2 harg2 arg3 harg3 arg4 harg4 arg5 harg5 arg6 harg6 arg7 harg7 arg8 harg8 arg9 harg9 arg10 harg10 arg11 harg11 X4 X5 X10 t).1) rfl
    (fun t => congrArg Prod.fst (pb_k0_t5_succ (F := Ideal) Variants.none c none i arg1 harg1 arg2 harg2 arg3 harg3 arg4 harg4 arg5 harg5 arg6 harg6 arg7 harg7 arg8 harg8 arg9 harg9 arg10 harg10 arg11 harg11 X4 X5 X10 t)) p _ le_rfl

theorem mem5_2 (p) : p ∈ (pieces5 c i arg1 harg1 arg2 harg2 arg3 harg3 arg4 harg4 arg5 harg5 arg6 harg6 arg7 harg7 arg8 harg8 arg9 harg9 arg10 harg10 arg11 harg11 X4 X5 X10).2 ↔ ∃ t : Fin k0_t5_loop.trips, t.val < k0_t5_loop.trips ∧ p ∈ (trip5 c i arg1 harg1 arg2 harg2 arg3 harg3 arg4 harg4 arg5 harg5 arg6 harg6 arg7 harg7 arg8 harg8 arg9 harg9 arg10 harg10 arg11 harg11 X4 X5 X10 t).2 :=
  mem_trips (fun n => (pb_k0_t5 (F := Ideal) Variants.none c none i arg1 harg1 arg2 harg2 arg3 harg3 arg4 harg4 arg5 harg5 arg6 harg6 arg7 harg7 arg8 harg8 arg9 harg9 arg10 harg10 arg11 harg11 X4 X5 X10 n).2) (fun t => (trip5 c i arg1 harg1 arg2 harg2 arg3 harg3 arg4 harg4 arg5 harg5 arg6 harg6 arg7 harg7 arg8 harg8 arg9 harg9 arg10 harg10 arg11 harg11 X4 X5 X10 t).2) rfl
    (fun t => congrArg Prod.snd (pb_k0_t5_succ (F := Ideal) Variants.none c none i arg1 harg1 arg2 harg2 arg3 harg3 arg4 harg4 arg5 harg5 arg6 harg6 arg7 harg7 arg8 harg8 arg9 harg9 arg10 harg10 arg11 harg11 X4 X5 X10 t)) p _ le_rfl

/-- The quantised rows. -/
theorem read6 (f6 : Con Ideal arg6) (y : S1x1280x1536.Idx) :
    arg6.view.read (Elt Ideal) (arg6.view.writes (Elt Ideal) f6 (pieces5 c i arg1 harg1 arg2 harg2 arg3 harg3 arg4 harg4 arg5 harg5 arg6 harg6 arg7 harg7 arg8 harg8 arg9 harg9 arg10 harg10 arg11 harg11 X4 X5 X10).1) y
      = rowsQ (arg10.view.read (Elt Ideal) X10) (arg4.view.read (Elt Ideal) X4) (arg5.view.read (Elt Ideal) X5) y := by
  refine read_writes_eq arg6.view f6 (rowsQ _ _ _) _ (fun p hp => ?_) y (.inl ?_)
  · obtain ⟨t, -, hp⟩ := (mem5_1 c i arg1 harg1 arg2 harg2 arg3 harg3 arg4 harg4 arg5 harg5 arg6 harg6 arg7 harg7 arg8 harg8 arg9 harg9 arg10 harg10 arg11 harg11 X4 X5 X10 p).mp hp
    exact (t5_pieces c i arg1 harg1 arg2 harg2 arg3 harg3 arg4 harg4 arg5 harg5 arg6 harg6 arg7 harg7 arg8 harg8 arg9 harg9 arg10 harg10 arg11 harg11 X4 X5 X10 t).1 p hp
  · have hy : (y 1).val < 1280 := (y 1).isLt
    have ht : (y 1).val / 32 < k0_t5_loop.trips := by rw [trips5]; omega
    obtain ⟨p, hp, hm⟩ := t5_covers6 c i arg1 harg1 arg2 harg2 arg3 harg3 arg4 harg4 arg5 harg5 arg6 harg6 arg7 harg7 arg8 harg8 arg9 harg9 arg10 harg10 arg11 harg11 X4 X5 X10 ⟨_, ht⟩ y rfl
    exact ⟨p, (mem5_1 c i arg1 harg1 arg2 harg2 arg3 harg3 arg4 harg4 arg5 harg5 arg6 harg6 arg7 harg7 arg8 harg8 arg9 harg9 arg10 harg10 arg11 harg11 X4 X5 X10 p).mpr ⟨_, ht, hp⟩, hm⟩

/-- The scales, in every lane. -/
theorem read11 (f11 : Con Ideal arg11) (y : S1280x128.Idx) :
    arg11.view.read (Elt Ideal) (arg11.view.writes (Elt Ideal) f11 (pieces5 c i arg1 harg1 arg2 harg2 arg3 harg3 arg4 harg4 arg5 harg5 arg6 harg6 arg7 harg7 arg8 harg8 arg9 harg9 arg10 harg10 arg11 harg11 X4 X5 X10).2) y
      = rowsS (arg10.view.read (Elt Ideal) X10) (arg4.view.read (Elt Ideal) X4) (arg5.view.read (Elt Ideal) X5) y := by
  refine read_writes_eq arg11.view f11 (rowsS _ _ _) _ (fun p hp => ?_) y (.inl ?_)
  · obtain ⟨t, -, hp⟩ := (mem5_2 c i arg1 harg1 arg2 harg2 arg3 harg3 arg4 harg4 arg5 harg5 arg6 harg6 arg7 harg7 arg8 harg8 arg9 harg9 arg10 harg10 arg11 harg11 X4 X5 X10 p).mp hp
    exact (t5_pieces c i arg1 harg1 arg2 harg2 arg3 harg3 arg4 harg4 arg5 harg5 arg6 harg6 arg7 harg7 arg8 harg8 arg9 harg9 arg10 harg10 arg11 harg11 X4 X5 X10 t).2 p hp
  · have hy : (y 0).val < 1280 := (y 0).isLt
    have ht : (y 0).val / 32 < k0_t5_loop.trips := by rw [trips5]; omega
    obtain ⟨p, hp, hm⟩ := t5_covers11 c i arg1 harg1 arg2 harg2 arg3 harg3 arg4 harg4 arg5 harg5 arg6 harg6 arg7 harg7 arg8 harg8 arg9 harg9 arg10 harg10 arg11 harg11 X4 X5 X10 ⟨_, ht⟩ y rfl
    exact ⟨p, (mem5_2 c i arg1 harg1 arg2 harg2 arg3 harg3 arg4 harg4 arg5 harg5 arg6 harg6 arg7 harg7 arg8 harg8 arg9 harg9 arg10 harg10 arg11 harg11 X4 X5 X10 p).mpr ⟨_, ht, hp⟩, hm⟩

end Loop

section Lanes

variable (X4 : Con Ideal arg4) (X5 : Con Ideal arg5) (X10 : Con Ideal arg10)

/-- The scales, as the launch hands them out: lane 0 of each row. -/
def rowsT (C : S1280x1536.Idx → EReal) (g b : S1x1536.Idx → EReal) (y : S1x1x1280.Idx) : EReal :=
  DwlnSpec.scale (crow C (y 2)) (line g) (line b)

theorem lane0 (v : Vec Ideal S128x128 .f32) :
    k0_pay523 (F := Ideal) v = fun x : S1x1x128.Idx => v (ix2 (x 2) 0) := by
  unfold k0_pay523
  funext x
  idx_vars x
  pointwise

theorem inb7 (o : ℕ) (ho : o + 128 ≤ 1280) (a : Fin 3) : (![0, 0, o] : Fin 3 → ℕ) a + S1x1x128.size a ≤ S1x1x1280.size a := by
  fin_cases a
  · exact Nat.le_refl 1
  · exact Nat.le_refl 1
  · exact ho
theorem inb11 (o : ℕ) (ho : o + 128 ≤ 1280) (a : Fin 2) : (![o, 0] : Fin 2 → ℕ) a + S128x128.size a ≤ S1280x128.size a := by
  fin_cases a
  · exact ho
  · exact Nat.le_refl 128

theorem lanes_piece (f11 : Con Ideal arg11) (o : ℕ) (ho : o + 128 ≤ 1280) (x : S1x1x128.Idx) :
    k0_pay523 (F := Ideal) (View.readAt (Elt Ideal) arg11.view (Rect.unit (s := S1280x128) ![o, 0] S128x128.size (inb11 o ho)).toLoadRect
        (arg11.view.writes (Elt Ideal) f11 (pieces5 c i arg1 harg1 arg2 harg2 arg3 harg3 arg4 harg4 arg5 harg5 arg6 harg6 arg7 harg7 arg8 harg8 arg9 harg9 arg10 harg10 arg11 harg11 X4 X5 X10).2)) x
      = rowsT (arg10.view.read (Elt Ideal) X10) (arg4.view.read (Elt Ideal) X4) (arg5.view.read (Elt Ideal) X5)
          ((Rect.unit (s := S1x1x1280) ![0, 0, o] S1x1x128.size (inb7 o ho)).emb x) := by
  refine (congrFun (lane0 _) x).trans ?_
  refine (read11 c i arg1 harg1 arg2 harg2 arg3 harg3 arg4 harg4 arg5 harg5 arg6 harg6 arg7 harg7 arg8 harg8 arg9 harg9 arg10 harg10 arg11 harg11 X4 X5 X10 f11 _).trans ?_
  unfold rowsS rowsT
  congr 2

theorem strip {α : Type} {P : α → Prop} {a : α} {l : List α} {n o : ℕ} (h : o ≤ n → P a) (h' : n < o → ∃ p ∈ l, P p) :
    ∃ p ∈ a :: l, P p := by
  rcases Nat.lt_or_ge n o with hn | hn
  · obtain ⟨p, hp, hP⟩ := h' hn
    exact ⟨p, List.mem_cons_of_mem _ hp, hP⟩
  · exact ⟨a, List.mem_cons_self, h hn⟩

theorem lanes_mem (y : S1x1x1280.Idx) (o : ℕ) (ho : o + 128 ≤ 1280)
    (lo : o ≤ (y 2).val) (hi : (y 2).val < o + 128) : y ∈ (Rect.unit (s := S1x1x1280) ![0, 0, o] S1x1x128.size (inb7 o ho)).set := by
  have hy0 : (y 0).val < 1 := (y 0).isLt
  have hy1 : (y 1).val < 1 := (y 1).isLt
  refine mem_unit _ _ fun a => ?_
  fin_cases a
  · show 0 ≤ (y 0).val ∧ (y 0).val < 0 + 1; omega
  · show 0 ≤ (y 1).val ∧ (y 1).val < 0 + 1; omega
  · exact ⟨lo, hi⟩

/-- The pieces of the scales' output. -/
abbrev pieces7 (f11 : Con Ideal arg11) := (kernelRun (F := Ideal) c i arg1 harg1 arg2 harg2 arg3 harg3 arg4 harg4 arg5 harg5 arg6 harg6 arg7 harg7 arg8 harg8 arg9 harg9 arg10 harg10 arg11 harg11 X4 X5).1 f11 X10

theorem pieces7_val (f11 : Con Ideal arg11) : ∀ p ∈ pieces7 c i arg1 harg1 arg2 harg2 arg3 harg3 arg4 harg4 arg5 harg5 arg6 harg6 arg7 harg7 arg8 harg8 arg9 harg9 arg10 harg10 arg11 harg11 X4 X5 X10 f11, ∀ x : p.1.shape.Idx,
    p.2 x = rowsT (arg10.view.read (Elt Ideal) X10) (arg4.view.read (Elt Ideal) X4) (arg5.view.read (Elt Ideal) X5) (p.1.emb x) := by
  unfold pieces7 kernelRun
  dsimp only
  refine List.forall_mem_cons.mpr ⟨fun x => by exact lanes_piece c i arg1 harg1 arg2 harg2 arg3 harg3 arg4 harg4 arg5 harg5 arg6 harg6 arg7 harg7 arg8 harg8 arg9 harg9 arg10 harg10 arg11 harg11 X4 X5 X10 f11 1152 (by decide) x, ?_⟩
  refine List.forall_mem_cons.mpr ⟨fun x => by exact lanes_piece c i arg1 harg1 arg2 harg2 arg3 harg3 arg4 harg4 arg5 harg5 arg6 harg6 arg7 harg7 arg8 harg8 arg9 harg9 arg10 harg10 arg11 harg11 X4 X5 X10 f11 1024 (by decide) x, ?_⟩
  refine List.forall_mem_cons.mpr ⟨fun x => by exact lanes_piece c i arg1 harg1 arg2 harg2 arg3 harg3 arg4 harg4 arg5 harg5 arg6 harg6 arg7 harg7 arg8 harg8 arg9 harg9 arg10 harg10 arg11 harg11 X4 X5 X10 f11 896 (by decide) x, ?_⟩
  refine List.forall_mem_cons.mpr ⟨fun x => by exact lanes_piece c i arg1 harg1 arg2 harg2 arg3 harg3 arg4 harg4 arg5 harg5 arg6 harg6 arg7 harg7 arg8 harg8 arg9 harg9 arg10 harg10 arg11 harg11 X4 X5 X10 f11 768 (by decide) x, ?_⟩
  refine List.forall_mem_cons.mpr ⟨fun x => by exact lanes_piece c i arg1 harg1 arg2 harg2 arg3 harg3 arg4 harg4 arg5 harg5 arg6 harg6 arg7 harg7 arg8 harg8 arg9 harg9 arg10 harg10 arg11 harg11 X4 X5 X10 f11 640 (by decide) x, ?_⟩
  refine List.forall_mem_cons.mpr ⟨fun x => by exact lanes_piece c i arg1 harg1 arg2 harg2 arg3 harg3 arg4 harg4 arg5 harg5 arg6 harg6 arg7 harg7 arg8 harg8 arg9 harg9 arg10 harg10 arg11 harg11 X4 X5 X10 f11 512 (by decide) x, ?_⟩
  refine List.forall_mem_cons.mpr ⟨fun x => by exact lanes_piece c i arg1 harg1 arg2 harg2 arg3 harg3 arg4 harg4 arg5 harg5 arg6 harg6 arg7 harg7 arg8 harg8 arg9 harg9 arg10 harg10 arg11 harg11 X4 X5 X10 f11 384 (by decide) x, ?_⟩
  refine List.forall_mem_cons.mpr ⟨fun x => by exact lanes_piece c i arg1 harg1 arg2 harg2 arg3 harg3 arg4 harg4 arg5 harg5 arg6 harg6 arg7 harg7 arg8 harg8 arg9 harg9 arg10 harg10 arg11 harg11 X4 X5 X10 f11 256 (by decide) x, ?_⟩
  refine List.forall_mem_cons.mpr ⟨fun x => by exact lanes_piece c i arg1 harg1 arg2 harg2 arg3 harg3 arg4 harg4 arg5 harg5 arg6 harg6 arg7 harg7 arg8 harg8 arg9 harg9 arg10 harg10 arg11 harg11 X4 X5 X10 f11 128 (by decide) x, ?_⟩
  refine List.forall_mem_cons.mpr ⟨fun x => by exact lanes_piece c i arg1 harg1 arg2 harg2 arg3 harg3 arg4 harg4 arg5 harg5 arg6 harg6 arg7 harg7 arg8 harg8 arg9 harg9 arg10 harg10 arg11 harg11 X4 X5 X10 f11 0 (by decide) x, ?_⟩
  exact fun _ h => absurd h List.not_mem_nil

theorem pieces7_cover (f11 : Con Ideal arg11) (y : S1x1x1280.Idx) : ∃ p ∈ pieces7 c i arg1 harg1 arg2 harg2 arg3 harg3 arg4 harg4 arg5 harg5 arg6 harg6 arg7 harg7 arg8 harg8 arg9 harg9 arg10 harg10 arg11 harg11 X4 X5 X10 f11, y ∈ p.1.set := by
  have hi : (y 2).val < 1280 := (y 2).isLt
  unfold pieces7 kernelRun
  dsimp only
  refine strip (n := (y 2).val) (fun lo => by exact lanes_mem y 1152 (by decide) lo hi) fun hi => ?_
  refine strip (n := (y 2).val) (fun lo => by exact lanes_mem y 1024 (by decide) lo hi) fun hi => ?_
  refine strip (n := (y 2).val) (fun lo => by exact lanes_mem y 896 (by decide) lo hi) fun hi => ?_
  refine strip (n := (y 2).val) (fun lo => by exact lanes_mem y 768 (by decide) lo hi) fun hi => ?_
  refine strip (n := (y 2).val) (fun lo => by exact lanes_mem y 640 (by decide) lo hi) fun hi => ?_
  refine strip (n := (y 2).val) (fun lo => by exact lanes_mem y 512 (by decide) lo hi) fun hi => ?_
  refine strip (n := (y 2).val) (fun lo => by exact lanes_mem y 384 (by decide) lo hi) fun hi => ?_
  refine strip (n := (y 2).val) (fun lo => by exact lanes_mem y 256 (by decide) lo hi) fun hi => ?_
  refine strip (n := (y 2).val) (fun lo => by exact lanes_mem y 128 (by decide) lo hi) fun hi => ?_
  exact ⟨_, List.mem_cons_self, lanes_mem y 0 (by decide) (Nat.zero_le _) hi⟩

theorem read7 (f7 : Con Ideal arg7) (f11 : Con Ideal arg11) (y : S1x1x1280.Idx) :
    arg7.view.read (Elt Ideal) (arg7.view.writes (Elt Ideal) f7 (pieces7 c i arg1 harg1 arg2 harg2 arg3 harg3 arg4 harg4 arg5 harg5 arg6 harg6 arg7 harg7 arg8 harg8 arg9 harg9 arg10 harg10 arg11 harg11 X4 X5 X10 f11)) y
      = rowsT (arg10.view.read (Elt Ideal) X10) (arg4.view.read (Elt Ideal) X4) (arg5.view.read (Elt Ideal) X5) y :=
  read_writes_eq arg7.view f7 (rowsT _ _ _) _ (pieces7_val c i arg1 harg1 arg2 harg2 arg3 harg3 arg4 harg4 arg5 harg5 arg6 harg6 arg7 harg7 arg8 harg8 arg9 harg9 arg10 harg10 arg11 harg11 X4 X5 X10 f11) y (.inl (pieces7_cover c i arg1 harg1 arg2 harg2 arg3 harg3 arg4 harg4 arg5 harg5 arg6 harg6 arg7 harg7 arg8 harg8 arg9 harg9 arg10 harg10 arg11 harg11 X4 X5 X10 f11 y))

end Lanes

end Cert.DwlnIdeal.Hand

end
-- ==== Proof.DwlnLaunch.lean ====
/- The launch of the kernel: its twelve points, the two word buffers zero outside the image between them, each point's two
output blocks as functions of its input blocks.
-/
module

public import proofs.«01_k».proof.Proof.DwlnRows

@[expose] public section

set_option maxRecDepth 16384

noncomputable section

namespace Cert.DwlnIdeal.Hand

open Cert.DwlnIdeal Cert.DwlnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

/-! ## The word buffers between the points -/

/-- Zero outside the image, and zero before word 54 and from word 790 on, of what a buffer reads as. -/
def PadV (d : S12x864x2x128.Idx → EReal) : Prop := ∀ y : S12x864x2x128.Idx, ¬ Inside (2 * (y 1).val + (y 2).val) → d y = 0
def EdgeV (d : S12x864x2x128.Idx → EReal) : Prop := ∀ y : S12x864x2x128.Idx, (y 1).val < 54 ∨ 790 ≤ (y 1).val → d y = 0

theorem zeroed_read (M : Memref sig .tc .vmem S12x864x2x128 .bf16) (f : Con Ideal M) (y : S12x864x2x128.Idx) :
    M.view.read (Elt Ideal) (zeroed M f) y = 0 := by
  refine read_writes_eq M.view f (fun _ => 0) _ (List.forall_mem_cons.mpr ⟨fun x => ?_, fun _ h => absurd h List.not_mem_nil⟩) y (.inl ⟨_, List.mem_cons_self, ?_⟩)
  · exact Ideal.ofBits_zero_bf16
  · refine mem_unit inb_S12x864x2x128_S12x864x2x128_0_0_0_0 _ fun a => ?_
    have h := (y a).isLt
    fin_cases a <;> exact ⟨Nat.zero_le _, (Nat.zero_add _).symm ▸ h⟩

/-- The first point of the grid is the one that zeroes them. -/
theorem first_of : ∀ t : Fin cfg0.N, t.val = 0 → first (grid0.coords t) :=
  (by decide +kernel : ∀ t : Fin grid0.N, t.val = 0 → first (grid0.coords t))

/-- After all the tiles the convolution's buffer holds the convolution. -/
theorem conv_all {arg8 arg9 : Memref sig .tc .vmem S12x864x2x128 .bf16} {arg10 : Memref sig .tc .vmem S1280x1536 .f32}
    {X : S1x1536x1280.Idx → EReal} {W : S12x49x16x128.Idx → EReal} {B : S1x1536.Idx → EReal} {f8 f9 f10}
    (h : Conv arg8 arg9 arg10 X W B k0_t1_loop.trips f8 f9 f10) : arg10.view.read (Elt Ideal) f10 = convSpec X W B :=
  funext fun y => h.2.2 y (by rw [trips1]; exact (y 1).isLt)

/-- A block stated of the buffers' contents is the block stated of what they read as. -/
theorem block_eq {α : Type} {β₁ β₂ β₃ β₄ β₅ γ : Type} {conv : β₁ → β₂ → β₃ → γ} {G : γ → β₄ → β₅ → α} {a₁ b₁ : β₁} {a₂ b₂ : β₂} {a₃ b₃ : β₃} {a₄ b₄ : β₄} {a₅ b₅ : β₅} {v : γ} {r : α}
    (h₁ : a₁ = b₁) (h₂ : a₂ = b₂) (h₃ : a₃ = b₃) (h₄ : a₄ = b₄) (h₅ : a₅ = b₅) (hv : v = conv a₁ a₂ a₃) (h : r = G v a₄ a₅) : r = G (conv b₁ b₂ b₃) b₄ b₅ := by
  subst h₁ h₂ h₃ h₄ h₅ hv; exact h

variable (m : (ℓ : Loc nD τ sig) → Buf (Elt Ideal) ℓ) (ρ : Dev nD → PrngReg)

abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)
abbrev ms4 (t : Fin cfg0.N) := win0_4.stage (cfg0.slots t 4)
abbrev ms5 (t : Fin cfg0.N) := win0_5.stage (cfg0.slots t 5)
abbrev ms6 (t : Fin cfg0.N) := win0_6.stage (cfg0.slots t 6)

/-- The invariant between the points, conjunct by conjunct: the four scratch buffers at some contents, the generator register. -/
theorem PhiA0_eq (c : Dev nD) :
    (Pipeline.ΦA spec0 c : sProp (𝕄 Ideal))
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d))
          ∗ (∃ r, prngReg c r)) := by
  unfold Pipeline.ΦA; rw [scopedRest0_eq]; simp only [owns_whole]; try rfl

/-- The same before point `k`, with what the two word buffers hold once the first point has run. -/
def Phi (c : Dev nD) (k : ℕ) : sProp (𝕄 Ideal) :=
  iprop(iprop((∃ d, owns (c : Thread nD τ) (Memref.whole cc0_scratch0) fullShare d ∗ ⌜0 < k → PadV d⌝) ∗ (∃ d, owns (c : Thread nD τ) (Memref.whole cc0_scratch1) fullShare d ∗ ⌜0 < k → EdgeV d⌝)
          ∗ (∃ d, owns (c : Thread nD τ) (Memref.whole cc0_scratch2) fullShare d) ∗ (∃ d, owns (c : Thread nD τ) (Memref.whole cc0_scratch3) fullShare d))
          ∗ (∃ r, prngReg c r))

theorem Phi_in (c : Dev nD) : (Pipeline.ΦA spec0 c : sProp (𝕄 Ideal)) ⊢ Phi c 0 := by
  rw [PhiA0_eq]
  unfold Phi
  iintro ⟨⟨⟨%d8, H8⟩, ⟨%d9, H9⟩, H10, H11⟩, Hg⟩
  isplitl [H8 H9 H10 H11]
  · isplitl [H8]; · iexists d8; isplitl [H8]; · iexact H8
                    ipureintro; exact fun h => absurd h (Nat.lt_irrefl 0)
    isplitl [H9]; · iexists d9; isplitl [H9]; · iexact H9
                    ipureintro; exact fun h => absurd h (Nat.lt_irrefl 0)
    isplitl [H10]; · iexact H10
    iexact H11
  iexact Hg

theorem Phi_out (c : Dev nD) (k : ℕ) : Phi c k ⊢ (Pipeline.ΦA spec0 c : sProp (𝕄 Ideal)) := by
  rw [PhiA0_eq]
  unfold Phi
  iintro ⟨⟨⟨%d8, H8, %h8⟩, ⟨%d9, H9, %h9⟩, H10, H11⟩, Hg⟩
  isplitl [H8 H9 H10 H11]
  · isplitl [H8]; · iexists d8; iexact H8
    isplitl [H9]; · iexists d9; iexact H9
    isplitl [H10]; · iexact H10
    iexact H11
  iexact Hg

/-! ## The proof data -/

/-- The two output blocks of point `t`. -/
def blockQ (c : Dev nD) (t : Fin cfg0.N) : Vec Ideal S1x1280x1536 .fp8e4m3 :=
  rowsQ (convSpec (iblk m c 0 t) (iblk m c 1 t) (iblk m c 2 t)) (iblk m c 3 t) (iblk m c 4 t)
def blockT (c : Dev nD) (t : Fin cfg0.N) : Vec Ideal S1x1x1280 .f32 :=
  rowsT (convSpec (iblk m c 0 t) (iblk m c 1 t) (iblk m c 2 t)) (iblk m c 3 t) (iblk m c 4 t)

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blockQ m c t
    | ⟨6, _⟩ => blockT m c t
  Φ k := Phi c k.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = blockQ m c t := by dsimp only [dats]
theorem after0_6 (c : Dev nD) (t : Fin cfg0.N) : (dats m 0 c).after 6 t = blockT m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp (𝕄 Ideal) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))
/-- and what it returns. -/
def bodyPost (c : Dev nD) (t : Fin cfg0.N) : sProp (𝕄 Ideal) :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 1200000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).Φ t.succ = Phi c (t.val + 1) from rfl,
    show (dats m 0 c).owesAt () t.succ = (dats m 0 c).owesAt () t.castSucc from rfl,
    after0_0, after0_1, after0_2, after0_3, after0_4, after0_5, after0_6]
  rw [show (dats m 0 c).Φ t.castSucc = Phi c t.val from rfl]
  unfold Phi owns
  iintro ⟨⟨⟨⟨%e8, ⟨%f8, %h8, H8⟩, %p8⟩, ⟨%e9, ⟨%f9, %h9, H9⟩, %p9⟩, ⟨%e10, %f10, %h10, H10⟩, ⟨%e11, %f11, %h11, H11⟩⟩, Hg⟩, Ho, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩⟩
  iapply ((kernelRun (F := Ideal) c (grid0.coords t) _ _ _ _ _ _ _ _ _ _ _ _ _ _ _ _ _ _ _ _ _ _ f4 f5).2 f1 f2 f3
    (fun k => Conv (Memref.whole cc0_scratch0) (Memref.whole cc0_scratch1) (Memref.whole cc0_scratch2) ((ms0 t).view.read (Elt Ideal) f1) ((ms1 t).view.read (Elt Ideal) f2) ((ms2 t).view.read (Elt Ideal) f3) k)
    (fun k g8 g9 g10 h => conv_step c (grid0.coords t) _ _ _ _ _ _ _ _ _ _ _ _ _ _ _ _ _ _ _ _ _ _ f1 f2 f3 k g8 g9 g10 h) f6 f7 f8 f9 f10 f11
    (fun _ => ⟨fun y _ => zeroed_read _ f8 y, fun y _ => zeroed_read _ f9 y, fun y hy => absurd hy (Nat.not_lt_zero _)⟩)
    (fun hn => ?_) _)
  · have ht : 0 < t.val := Nat.pos_of_ne_zero fun h => hn (first_of t h)
    exact ⟨fun y hy => (congrFun h8 y).trans (p8 ht y hy), fun y hy => (congrFun h9 y).trans (p9 ht y hy), fun y hy => absurd hy (Nat.not_lt_zero _)⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  unfold ran
  iintro ⟨%g8, %g9, %g10, H1, H2, H3, H4, H5, H6, H7, H8, H9, H10, H11, %hC⟩
  isplitl [H8 H9 H10 H11 Hg]
  · isplitl [H8 H9 H10 H11]
    · isplitl [H8]; · iexists _
                      isplitl [H8]; · iexists _; isplitr; swap; · iexact H8
                                      ipureintro; rfl
                      ipureintro; exact fun _ => hC.1
      isplitl [H9]; · iexists _
                      isplitl [H9]; · iexists _; isplitr; swap; · iexact H9
                                      ipureintro; rfl
                      ipureintro; exact fun _ => hC.2.1
      isplitl [H10]; · iexists _, _; isplitr; swap; · iexact H10
                       ipureintro; rfl
      iexists _, _; isplitr; swap; · iexact H11
      ipureintro; rfl
    iexact Hg
  isplitl [Ho]; · iexact Ho
  isplitl [H1]; · iexists _; isplitr; swap; · iexact H1
                  ipureintro; exact h1
  isplitl [H2]; · iexists _; isplitr; swap; · iexact H2
                  ipureintro; exact h2
  isplitl [H3]; · iexists _; isplitr; swap; · iexact H3
                  ipureintro; exact h3
  isplitl [H4]; · iexists _; isplitr; swap; · iexact H4
                  ipureintro; exact h4
  isplitl [H5]; · iexists _; isplitr; swap; · iexact H5
                  ipureintro; exact h5
  isplitl [H6]; · iexists _; isplitr; swap; · iexact H6
                  ipureintro
                  exact block_eq h1 h2 h3 h4 h5 (conv_all hC) (funext fun y => read6 c (grid0.coords t) _ _ _ _ _ _ _ _ _ _ _ _ _ _ _ _ _ _ _ _ _ _ f4 f5 g10 f6 y)
  iexists _; isplitr; swap; · iexact H7
  ipureintro
  exact block_eq h1 h2 h3 h4 h5 (conv_all hC) (funext fun y => read7 c (grid0.coords t) _ _ _ _ _ _ _ _ _ _ _ _ _ _ _ _ _ _ _ _ _ _ f4 f5 g10 f7 f11 y)

/-- The body table's row at the point is the body as `bodyAt0` spells it. -/
theorem defs₀_row (t : Fin cfg0.N) : defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The launch, with every semaphore counter zero at the end. -/
theorem run_main_quiescent : θ_run defs (onTc (τ := τ) (main (F := Ideal))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => Phi_in c) (hout := fun c => Phi_out c _)

theorem run_main : θ_run defs (onTc (τ := τ) (main (F := Ideal))) (s₀ m ρ) (Pipeline.FramePost cfgs (dats m) 0 (V m)) :=
  (θ_run defs _ _).mono (fun _ h => h.1) (run_main_quiescent m ρ)

/-- The argument arrays end unchanged. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (Gen.frame_of m ρ (dats m) (A_eq m) (run_main m ρ)) ((θ_run defs _ _).mono (fun _ h => h.2) (run_main_quiescent m ρ))

end Cert.DwlnIdeal.Hand

end
-- ==== Proof.DwlnArray.lean ====
/- The two arrays the convolution kernel's run leaves, as functions of the argument arrays. Point `t` of the grid works on
image `t`.
-/
module

public import proofs.«01_k».proof.Proof.DwlnLaunch
public import proofs.«01_k».proof.Proof.Reshape

@[expose] public section

set_option maxRecDepth 16384

noncomputable section

namespace Cert.DwlnIdeal.Arrays

open Idealize.ShloMosaic Idealize.ShloMosaic.TcCoe Idealize.SL.Sem
open Cert.DwlnIdeal Cert.DwlnIdeal.Gen Cert.DwlnIdeal.Hand

/-! ## Where each window's block lies -/

theorem idx0 : ∀ t : Fin cfg0.N, win0_0.index t (0 : Fin 3) = t.val ∧ win0_0.index t (1 : Fin 3) = 0
    ∧ win0_0.index t (2 : Fin 3) = 0 := (by decide +kernel : ∀ t : Fin grid0.N, _)
theorem idx1 : ∀ t : Fin cfg0.N, win0_1.index t (0 : Fin 4) = 0 ∧ win0_1.index t (1 : Fin 4) = 0
    ∧ win0_1.index t (2 : Fin 4) = 0 ∧ win0_1.index t (3 : Fin 4) = 0 := (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 3) = t.val ∧ win0_5.index t (1 : Fin 3) = 0
    ∧ win0_5.index t (2 : Fin 3) = 0 := (by decide +kernel : ∀ t : Fin grid0.N, _)
theorem idx6 : ∀ t : Fin cfg0.N, win0_6.index t (0 : Fin 3) = t.val ∧ win0_6.index t (1 : Fin 3) = 0
    ∧ win0_6.index t (2 : Fin 3) = 0 := (by decide +kernel : ∀ t : Fin grid0.N, _)

/-! ## The host's arrays read index by index -/

section Host

variable (a : S1536x7x7.Idx → EReal)

/-- The weights in twelve groups of 128 channels, tap by tap, each over sixteen rows. -/
abbrev spread : S12x49x16x128.Idx → EReal :=
  broadcastInDim S12x49x16x128 ![0, 1, 2, 3] bcast_S12x49x1x128_S12x49x16x128_0_1_2_3
    (broadcastInDim S12x49x1x128 ![0, 1, 3] bcast_S12x49x128_S12x49x1x128_0_1_3
      (transpose S12x49x128 [0, 2, 1] (shapeCast S12x128x49 a shapeCasts_S1536x7x7_S12x128x49) transposes_S12x128x49_S12x49x128_0_2_1))

theorem spread_apply (k : Fin 12) (n : Fin 49) (r : Fin 16) (l : Fin 128) (d : Fin 1536) (dy dx : Fin 7)
    (hd : d.val = 128 * k.val + l.val) (hn : n.val = dy.val * 7 + dx.val) : spread a (ix4 k n r l) = a (ix3 d dy dx) := by
  unfold spread
  pointwise
  refine congrArg a (funext fun x => Fin.ext ?_)
  match x with
  | ⟨0, _⟩ => show _ = d.val; simp; omega
  | ⟨1, _⟩ => show _ = dy.val; simp; omega
  | ⟨2, _⟩ => show _ = dx.val; simp; omega

end Host

variable (m : (ℓ : Loc nD τ sig) → Buf (Elt Ideal) ℓ) (c : Dev nD)

theorem V_v3 : V m c main_v3 = spread (m ((c : Thread nD τ).loc main_arg1)) := by
  show StableHlo.after hostOps0 _ (Proc.devRef .tc main_v3) = _
  after_results
  rfl
theorem V_v4 : V m c main_v4 = shapeCast S1x1536 (m ((c : Thread nD τ).loc main_arg2)) shapeCasts_S1536_S1x1536 := by
  show StableHlo.after hostOps0 _ (Proc.devRef .tc main_v4) = _
  after_results
  rfl
theorem V_v5 : V m c main_v5 = shapeCast S1x1536 (m ((c : Thread nD τ).loc main_arg3)) shapeCasts_S1536_S1x1536 := by
  show StableHlo.after hostOps0 _ (Proc.devRef .tc main_v5) = _
  after_results
  rfl
theorem V_v6 : V m c main_v6 = shapeCast S1x1536 (m ((c : Thread nD τ).loc main_arg4)) shapeCasts_S1536_S1x1536 := by
  show StableHlo.after hostOps0 _ (Proc.devRef .tc main_v6) = _
  after_results
  rfl

/-! ## Each block as a part of its array -/

variable (t : Fin cfg0.N)

theorem t_lt : t.val < 12 := t.isLt

theorem blk0 (d : Fin 1536) (s : Fin 1280) : (iblk m c 0 t : Vec Ideal S1x1536x1280 .bf16) (ix3 0 d s)
    = V m c main_arg0 (ix3 ⟨t.val, t_lt t⟩ d s) := by
  obtain ⟨e0, e1, e2⟩ := idx0 t
  show V m c main_arg0 (((cfg0.win 0).blk t).view.emb (ix3 0 d s)) = _
  congr 1
  funext a; apply Fin.ext
  match a with
  | ⟨0, _⟩ => show win0_0.index t (0 : Fin 3) * 1 + 1 * 0 = t.val; omega
  | ⟨1, _⟩ => show win0_0.index t (1 : Fin 3) * 1536 + 1 * d.val = d.val; omega
  | ⟨2, _⟩ => show win0_0.index t (2 : Fin 3) * 1280 + 1 * s.val = s.val; omega

theorem blk1 : (iblk m c 1 t : Vec Ideal S12x49x16x128 .bf16) = V m c main_v3 := by
  obtain ⟨e0, e1, e2, e3⟩ := idx1 t
  funext j
  show V m c main_v3 (((cfg0.win 1).blk t).view.emb j) = _
  congr 1
  funext a; apply Fin.ext
  match a with
  | ⟨0, _⟩ => show win0_1.index t (0 : Fin 4) * 12 + 1 * (j 0).val = (j 0).val; omega
  | ⟨1, _⟩ => show win0_1.index t (1 : Fin 4) * 49 + 1 * (j 1).val = (j 1).val; omega
  | ⟨2, _⟩ => show win0_1.index t (2 : Fin 4) * 16 + 1 * (j 2).val = (j 2).val; omega
  | ⟨3, _⟩ => show win0_1.index t (3 : Fin 4) * 128 + 1 * (j 3).val = (j 3).val; omega

theorem blk2 : (iblk m c 2 t : Vec Ideal S1x1536 .f32) = V m c main_v4 := by
  obtain ⟨e0, e1⟩ := idx2 t
  funext j
  show V m c main_v4 (((cfg0.win 2).blk t).view.emb j) = _
  congr 1
  funext a; apply Fin.ext
  match a with
  | ⟨0, _⟩ => show win0_2.index t (0 : Fin 2) * 1 + 1 * (j 0).val = (j 0).val; omega
  | ⟨1, _⟩ => show win0_2.index t (1 : Fin 2) * 1536 + 1 * (j 1).val = (j 1).val; omega

theorem blk3 : (iblk m c 3 t : Vec Ideal S1x1536 .f32) = V m c main_v5 := by
  obtain ⟨e0, e1⟩ := idx3 t
  funext j
  show V m c main_v5 (((cfg0.win 3).blk t).view.emb j) = _
  congr 1
  funext a; apply Fin.ext
  match a with
  | ⟨0, _⟩ => show win0_3.index t (0 : Fin 2) * 1 + 1 * (j 0).val = (j 0).val; omega
  | ⟨1, _⟩ => show win0_3.index t (1 : Fin 2) * 1536 + 1 * (j 1).val = (j 1).val; omega

theorem blk4 : (iblk m c 4 t : Vec Ideal S1x1536 .f32) = V m c main_v6 := by
  obtain ⟨e0, e1⟩ := idx4 t
  funext j
  show V m c main_v6 (((cfg0.win 4).blk t).view.emb j) = _
  congr 1
  funext a; apply Fin.ext
  match a with
  | ⟨0, _⟩ => show win0_4.index t (0 : Fin 2) * 1 + 1 * (j 0).val = (j 0).val; omega
  | ⟨1, _⟩ => show win0_4.index t (1 : Fin 2) * 1536 + 1 * (j 1).val = (j 1).val; omega

/-! ## The results -/

/-- The arguments. -/
abbrev x : Vec Ideal S12x1536x1280 .bf16 := m ((c : Thread nD τ).loc main_arg0)
abbrev w : Vec Ideal S1536x7x7 .bf16 := m ((c : Thread nD τ).loc main_arg1)
abbrev b : Vec Ideal S1536 .f32 := m ((c : Thread nD τ).loc main_arg2)
abbrev g : Vec Ideal S1536 .f32 := m ((c : Thread nD τ).loc main_arg3)
abbrev β : Vec Ideal S1536 .f32 := m ((c : Thread nD τ).loc main_arg4)

theorem E0 (d : Fin 1536) (s : Fin 1280) : (iblk m c 0 t : Vec Ideal S1x1536x1280 .bf16) (ix3 0 d s) = x m c (ix3 ⟨t.val, t_lt t⟩ d s) := by
  rw [blk0, V_main_arg0]
theorem E1 : (iblk m c 1 t : Vec Ideal S12x49x16x128 .bf16) = spread (w m c) := by rw [blk1, V_v3]
theorem E2 : (iblk m c 2 t : Vec Ideal S1x1536 .f32) = Spec.line (b m c) := by rw [blk2, V_v4, Spec.line_eq']
theorem E3 : (iblk m c 3 t : Vec Ideal S1x1536 .f32) = Spec.line (g m c) := by rw [blk3, V_v5, Spec.line_eq']
theorem E4 : (iblk m c 4 t : Vec Ideal S1x1536 .f32) = Spec.line (β m c) := by rw [blk4, V_v6, Spec.line_eq']

/-- The padded rows of pitch 36 hold the padded image: of a row's 38 places the last three are the next row's first. -/
theorem plane_padded (X : S1x1536x1280.Idx → EReal) (x : S12x1536x1280.Idx → EReal) (n : Fin 12) (hX : ∀ d s, X (ix3 0 d s) = x (ix3 n d s))
    (d : Fin 1536) (r s : ℕ) (hs : s < 38) : plane X d.val (36 * r + (1 + s)) = DwlnSpec.padded x n d r s := by
  unfold DwlnSpec.padded
  by_cases h : s < 35
  · rw [plane_eq X d.val _ r (1 + s) rfl (by omega)]
    by_cases hp : (3 ≤ r ∧ r < 43) ∧ 3 ≤ s ∧ s < 35
    · rw [dif_pos hp, if_pos ⟨hp.1, by omega⟩, ← hX]
      unfold xat
      rw [dif_pos ⟨d.isLt, by omega⟩]
      refine congrArg X (congrArg (ix3 0 d) (Fin.ext ?_))
      show 32 * (r - 3) + (1 + s - 4) = 32 * (r - 3) + (s - 3)
      omega
    · rw [dif_neg hp, if_neg fun h' => hp ⟨h'.1, by omega, h⟩]
  · rw [plane_eq X d.val _ (r + 1) (s - 35) (by omega) (by omega), if_neg (by omega), dif_neg (by omega)]

theorem conv_eq (p : Fin 1280) :
    crow (convSpec (iblk m c 0 t) (iblk m c 1 t) (iblk m c 2 t)) p = DwlnSpec.conv (x m c) (w m c) (b m c) ⟨t.val, t_lt t⟩ p := by
  funext d
  show convSpec _ _ _ (ix2 p d) = _
  unfold convSpec DwlnSpec.conv
  rw [E2, Finset.sum_comm]
  refine congrArg₂ (fun u v : EReal => u + v) (Finset.sum_congr rfl fun dy _ => Finset.sum_congr rfl fun dx _ => ?_) rfl
  unfold tapSpec weightOf
  refine congrArg₂ (fun u v : EReal => u * v) ?_ ?_
  · show plane _ d.val (36 * (p.val / 32 + dy.val) + (1 + p.val % 32 + dx.val)) = _
    rw [Nat.add_assoc 1]
    exact plane_padded _ (x m c) _ (E0 m c t) d _ _ (by omega)
  · rw [E1]
    exact spread_apply _ _ _ _ _ d dy dx (by show d.val = 128 * (d.val / 128) + d.val % 128; omega) rfl

abbrev G5 : Vec Ideal S12x1280x1536 .fp8e4m3 := DwlnSpec.quantised (x m c) (w m c) (b m c) (g m c) (β m c)
abbrev G6 : Vec Ideal S12x1x1280 .f32 := DwlnSpec.scales (x m c) (w m c) (b m c) (g m c) (β m c)

theorem val5 (p : Fin 1280) (d : Fin 1536) : rowsQ (convSpec (iblk m c 0 t) (iblk m c 1 t) (iblk m c 2 t)) (iblk m c 3 t) (iblk m c 4 t) (ix3 0 p d)
    = G5 m c (ix3 ⟨t.val, t_lt t⟩ p d) := by
  show DwlnSpec.q (crow _ p) _ _ d = _
  rw [conv_eq, E3, E4]
  rfl

theorem val6 (p : Fin 1280) : rowsT (convSpec (iblk m c 0 t) (iblk m c 1 t) (iblk m c 2 t)) (iblk m c 3 t) (iblk m c 4 t) (ix3 0 0 p)
    = G6 m c (ix3 ⟨t.val, t_lt t⟩ 0 p) := by
  show DwlnSpec.scale (crow _ p) _ _ = _
  rw [conv_eq, E3, E4]
  rfl

theorem flushed5 : (dats m 0 c).flushed 5 t = (cfg0.win 5).cut (grid0.coords t) (blockQ m c t) := by
  show (cfg0.win 5).cut (grid0.coords t) ((dats m 0 c).after 5 t) = _
  rw [after0_5]
theorem flushed6 : (dats m 0 c).flushed 6 t = (cfg0.win 6).cut (grid0.coords t) (blockT m c t) := by
  show (cfg0.win 6).cut (grid0.coords t) ((dats m 0 c).after 6 t) = _
  rw [after0_6]

theorem flushed5_eq : (dats m 0 c).flushed 5 t = ((cfg0.win 5).blk t).view.read (Elt Ideal) (G5 m c) := by
  rw [flushed5]
  obtain ⟨e0, e1, e2⟩ := idx5 t
  funext j
  show DwlnSpec.q (crow _ (j 1)) _ _ (j 2) = G5 m c (((cfg0.win 5).blk t).view.emb j)
  have he : ((cfg0.win 5).blk t).view.emb j = ix3 ⟨t.val, t_lt t⟩ (j 1) (j 2) := by
    funext a; apply Fin.ext
    match a with
    | ⟨0, _⟩ => show win0_5.index t (0 : Fin 3) * 1 + 1 * (j 0).val = t.val; have : (j 0).val < 1 := (j 0).isLt; omega
    | ⟨1, _⟩ => show win0_5.index t (1 : Fin 3) * 1280 + 1 * (j 1).val = (j 1).val; omega
    | ⟨2, _⟩ => show win0_5.index t (2 : Fin 3) * 1536 + 1 * (j 2).val = (j 2).val; omega
  rw [he]
  exact val5 m c t (j 1) (j 2)

theorem flushed6_eq : (dats m 0 c).flushed 6 t = ((cfg0.win 6).blk t).view.read (Elt Ideal) (G6 m c) := by
  rw [flushed6]
  obtain ⟨e0, e1, e2⟩ := idx6 t
  funext j
  show DwlnSpec.scale (crow _ (j 2)) _ _ = G6 m c (((cfg0.win 6).blk t).view.emb j)
  have he : ((cfg0.win 6).blk t).view.emb j = ix3 ⟨t.val, t_lt t⟩ 0 (j 2) := by
    funext a; apply Fin.ext
    match a with
    | ⟨0, _⟩ => show win0_6.index t (0 : Fin 3) * 1 + 1 * (j 0).val = t.val; have : (j 0).val < 1 := (j 0).isLt; omega
    | ⟨1, _⟩ => show win0_6.index t (1 : Fin 3) * 1 + 1 * (j 1).val = 0; have : (j 1).val < 1 := (j 1).isLt; omega
    | ⟨2, _⟩ => show win0_6.index t (2 : Fin 3) * 1280 + 1 * (j 2).val = (j 2).val; omega
  rw [he]
  exact val6 m c t (j 2)

/-! ## Every index is in some point's block -/

theorem covered5 (i : S12x1280x1536.Idx) :
    ∃ t : Fin cfg0.N, (cfg0.win 5).flush t = true ∧ i ∈ ((cfg0.win 5).blk t).view.set := by
  refine ⟨(i 0 : Fin cfg0.N), flush0_5 _, ?_⟩
  obtain ⟨e0, e1, e2⟩ := idx5 (i 0 : Fin cfg0.N)
  have h := ((cfg0.win 5).blk (i 0 : Fin cfg0.N)).view.emb_mem_set (ix3 0 (i 1) (i 2))
  have he : ((cfg0.win 5).blk (i 0 : Fin cfg0.N)).view.emb (ix3 0 (i 1) (i 2)) = i := by
    funext a; apply Fin.ext
    match a with
    | ⟨0, _⟩ => show win0_5.index _ (0 : Fin 3) * 1 + 1 * 0 = (i 0).val; rw [e0]; omega
    | ⟨1, _⟩ => show win0_5.index _ (1 : Fin 3) * 1280 + 1 * (i 1).val = (i 1).val; omega
    | ⟨2, _⟩ => show win0_5.index _ (2 : Fin 3) * 1536 + 1 * (i 2).val = (i 2).val; omega
  rwa [he] at h

theorem covered6 (i : S12x1x1280.Idx) :
    ∃ t : Fin cfg0.N, (cfg0.win 6).flush t = true ∧ i ∈ ((cfg0.win 6).blk t).view.set := by
  refine ⟨(i 0 : Fin cfg0.N), flush0_6 _, ?_⟩
  obtain ⟨e0, e1, e2⟩ := idx6 (i 0 : Fin cfg0.N)
  have h := ((cfg0.win 6).blk (i 0 : Fin cfg0.N)).view.emb_mem_set (ix3 0 0 (i 2))
  have he : ((cfg0.win 6).blk (i 0 : Fin cfg0.N)).view.emb (ix3 0 0 (i 2)) = i := by
    funext a; apply Fin.ext
    match a with
    | ⟨0, _⟩ => show win0_6.index _ (0 : Fin 3) * 1 + 1 * 0 = (i 0).val; rw [e0]; omega
    | ⟨1, _⟩ => show win0_6.index _ (1 : Fin 3) * 1 + 1 * 0 = (i 1).val; have : (i 1).val < 1 := (i 1).isLt; omega
    | ⟨2, _⟩ => show win0_6.index _ (2 : Fin 3) * 1280 + 1 * (i 2).val = (i 2).val; omega
  rwa [he] at h

/-! ## The arrays after the run -/

theorem final5 : (dats m 0 c).arrAt 5 cfg0.N = G5 m c :=
  (dats m 0 c).arrAt_eq_of_cover 5 (G5 m c) (fun t _ => flushed5_eq m c t) covered5

theorem final6 : (dats m 0 c).arrAt 6 cfg0.N = G6 m c :=
  (dats m 0 c).arrAt_eq_of_cover 6 (G6 m c) (fun t _ => flushed6_eq m c t) covered6

variable (ρ : Dev nD → PrngReg)

theorem run_blocks : θ_run defs (onTc (τ := τ) (main (F := Ideal))) ⟨m, fun _ => 0, ρ⟩ (fun r => ∀ c : Dev nD,
      r.2.mem ((c.tc : Thread nD τ).loc main_v7_0) = G5 m c
      ∧ r.2.mem ((c.tc : Thread nD τ).loc main_v7_1) = G6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 5).trans (final5 m c), ((h c).1 6).trans (final6 m c),
    ((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩) (run_main m ρ)

end Cert.DwlnIdeal.Arrays

end
-- ==== Proof.DwlnRefBody.lean ====
/- What the reference's body computes of whole arrays: the 49 taps as a sum, the layer norm, and the quantisation.
-/
module

public import proofs.«01_k».proof.Proof.DwlnSpec
public import proofs.«01_k».proof.Proof.RefBody
public import proofs.«01_k».proof.Proof.Gen.DwlnReferenceIdeal.Frame
public import Idealize.ShloMosaic.Lib.Tactic

@[expose] public section

set_option maxRecDepth 16384

noncomputable section

namespace Cert.DwlnReferenceIdeal.Body

open Idealize.ShloMosaic Idealize.ShloMosaic.TcCoe Idealize.SL.Sem
open Cert.DwlnReferenceIdeal Cert.DwlnReferenceIdeal.Gen
open Cert.ReferenceIdeal.Body (c126 cm126 c448 cm448)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The constants -/

theorem c1536 : Ideal.ofBits .f32 0x44C00000#32 = ((1536 : ℝ) : EReal) := by
  have f1 : (0x44C00000#32).extractLsb' 31 1 = 0#1 := by decide
  have f2 : ((0x44C00000#32).extractLsb' 23 8).toNat = 137 := by decide
  have f3 : ((0x44C00000#32).extractLsb' 0 23).toNat = 4194304 := by decide
  simp only [Ideal.ofBits, Ideal.ieee, Nat.reduceAdd, f1, f2, f3]
  rw [if_neg (by omega), if_neg (by omega), EReal.coe_eq_coe_iff]
  norm_num

theorem div1536 (x : EReal) : Ideal.div x (Ideal.ofBits .f32 0x44C00000#32) = x * ((1536⁻¹ : ℝ) : EReal) := by
  rw [c1536, Ideal.div_coe (by norm_num)]
  norm_num

theorem ln_two : Named.named (F := Ideal) κ "ln_two" (φ := .f32) 0x3F317218#32 = ((Real.log 2 : ℝ) : EReal) :=
  IdealRules.named_const.ideal_named_scalar _ _ _ _ rfl

/-! ## The convolution -/

section Taps

variable (x0 : Vec Ideal S12x46x38x1536 .bf16) (x1 : Vec Ideal S7x7x1536 .bf16) (x2 : Vec Ideal S1x1x1x1536 .f32) (x3 x4 : Vec Ideal S1x1x1536 .f32)

theorem inbX (dy dx : Fin 7) (a : Fin 4) : (![0, dy.val, dx.val, 0] : Fin 4 → ℕ) a + S12x40x32x1536.size a ≤ S12x46x38x1536.size a := by
  fin_cases a
  · exact Nat.le_refl 12
  · show dy.val + 40 ≤ 46; omega
  · show dx.val + 32 ≤ 38; omega
  · exact Nat.le_refl 1536
theorem inbW (dy dx : Fin 7) (a : Fin 3) : (![dy.val, dx.val, 0] : Fin 3 → ℕ) a + S1x1x1536.size a ≤ S7x7x1536.size a := by
  fin_cases a
  · show dy.val + 1 ≤ 7; omega
  · show dx.val + 1 ≤ 7; omega
  · exact Nat.le_refl 1536

/-- One tap. -/
def tap (dy dx : Fin 7) : FVec Ideal S12x40x32x1536 .f32 :=
  mulf (extf .f32 (shapeCast S12x40x32x1536 (View.ld x0 (Rect.unit (s := S12x46x38x1536) ![0, dy.val, dx.val, 0] S12x40x32x1536.size (inbX dy dx)) : Vec Ideal S12x40x32x1536 .bf16) shapeCasts_S12x40x32x1536_S12x40x32x1536) bitsLt_bf16_f32)
    (broadcastTo S12x40x32x1536 (shapeCast S1x1x1x1536 (extf .f32 (shapeCast S1x1x1536 (View.ld x1 (Rect.unit (s := S7x7x1536) ![dy.val, dx.val, 0] S1x1x1536.size (inbW dy dx)) : Vec Ideal S1x1x1536 .bf16) shapeCasts_S1x1x1536_S1x1x1536) bitsLt_bf16_f32)
      shapeCasts_S1x1x1536_S1x1x1x1536) broadcasts_S1x1x1x1536_S12x40x32x1536)

/-- The seven taps of one row, added one after the other. -/
def taps (dy : Fin 7) (acc : FVec Ideal S12x40x32x1536 .f32) : FVec Ideal S12x40x32x1536 .f32 :=
  addf (addf (addf (addf (addf (addf (addf acc (tap x0 x1 dy 0)) (tap x0 x1 dy 1)) (tap x0 x1 dy 2)) (tap x0 x1 dy 3)) (tap x0 x1 dy 4)) (tap x0 x1 dy 5)) (tap x0 x1 dy 6)

theorem pay31_taps : k0_pay31 (F := Ideal) x0 x1 x2 x3 x4
    = taps x0 x1 6 (taps x0 x1 5 (taps x0 x1 4 (taps x0 x1 3 (taps x0 x1 2 (taps x0 x1 1 (taps x0 x1 0 (broadcast S12x40x32x1536 (Scalar.ofBits .f32 0x00000000#32)))))))) := by
  unfold k0_pay31 k0_pay27 k0_pay26 k0_pay25 k0_pay24 k0_pay23 k0_pay22 k0_pay21 k0_pay20 k0_pay19 k0_pay18 k0_pay17 k0_pay16 k0_pay15 k0_pay14
    k0_pay13 k0_pay12 k0_pay11 k0_pay10 k0_pay9 k0_pay8 k0_pay7 k0_pay6 k0_pay5 k0_pay4
  rfl

/-- A tap at one pixel and channel. -/
abbrev tapR (n : Fin 12) (r : Fin 40) (s : Fin 32) (d : Fin 1536) (dy dx : Fin 7) : EReal :=
  x0 (ix4 n ⟨dy.val + r.val, by omega⟩ ⟨dx.val + s.val, by omega⟩ d) * x1 (ix3 dy dx d)

theorem tap_apply (dy dx : Fin 7) (n : Fin 12) (r : Fin 40) (s : Fin 32) (d : Fin 1536) :
    tap x0 x1 dy dx (ix4 n r s d) = tapR x0 x1 n r s d dy dx := by
  unfold tap
  pointwise

theorem taps_apply (dy : Fin 7) (acc : FVec Ideal S12x40x32x1536 .f32) (n : Fin 12) (r : Fin 40) (s : Fin 32) (d : Fin 1536) :
    taps x0 x1 dy acc (ix4 n r s d) = acc (ix4 n r s d) + ∑ dx : Fin 7, tapR x0 x1 n r s d dy dx := by
  show acc _ + tap x0 x1 dy 0 _ + tap x0 x1 dy 1 _ + tap x0 x1 dy 2 _ + tap x0 x1 dy 3 _ + tap x0 x1 dy 4 _ + tap x0 x1 dy 5 _ + tap x0 x1 dy 6 _ = _
  simp only [tap_apply]
  rw [Fin.sum_univ_seven]
  simp only [add_assoc]

/-- The convolution, without its bias. -/
theorem pay31_apply (n : Fin 12) (r : Fin 40) (s : Fin 32) (d : Fin 1536) :
    k0_pay31 (F := Ideal) x0 x1 x2 x3 x4 (ix4 n r s d) = ∑ dy : Fin 7, ∑ dx : Fin 7, tapR x0 x1 n r s d dy dx := by
  rw [pay31_taps]
  simp only [taps_apply]
  rw [Fin.sum_univ_seven (f := fun dy => ∑ dx : Fin 7, tapR x0 x1 n r s d dy dx)]
  show Ideal.ofBits .f32 0x00000000#32 + _ + _ + _ + _ + _ + _ + _ = _
  rw [Ideal.ofBits_zero, zero_add]

end Taps

/-! ## The layer norm and the quantisation -/

section Rows

variable (v : FVec Ideal S12x40x32x1536 .f32) (b : Vec Ideal S1x1x1x1536 .f32) (g β : Vec Ideal S1x1x1536 .f32)

/-- Pixel `p`'s row with its bias, and the one row of a vector. -/
abbrev prow (n : Fin 12) (p : Fin 1280) : Fin 1536 → EReal :=
  fun j => v (ix4 n ⟨p.val / 32, by omega⟩ ⟨p.val % 32, by omega⟩ j) + b (ix4 0 0 0 j)
abbrev vrow (g : S1x1x1536.Idx → EReal) : Fin 1536 → EReal := fun j => g (ix3 0 0 j)

theorem pay28_eq : k0_pay28 (F := Ideal) v b g β = fun y : S12x1280x1536.Idx => DwlnSpec.normed (prow v b (y 0) (y 1)) (vrow g) (vrow β) (y 2) := by
  unfold k0_pay28
  funext y
  idx_vars y
  pointwise [DwlnSpec.normed, DwlnSpec.centred, DwlnSpec.var, DwlnSpec.mean]
  simp only [div1536]

theorem pay29_eq : k0_pay29 (F := Ideal) v b g β = fun y : S12x1280x1.Idx => DwlnSpec.amax (prow v b (y 0) (y 1)) (vrow g) (vrow β) := by
  unfold k0_pay29
  rw [pay28_eq]
  funext y
  idx_vars y
  pointwise [DwlnSpec.amax]
  rfl

theorem pay1_eq : k0_pay1 (F := Ideal) (k0_pay29 (F := Ideal) v b g β) (k0_pay30 (F := Ideal) v b g β)
    = fun y : S12x1280x1.Idx => DwlnSpec.e (prow v b (y 0) (y 1)) (vrow g) (vrow β) := by
  unfold k0_pay1 k0_pay30
  rw [pay29_eq]
  funext y
  idx_vars y
  pointwise [DwlnSpec.e, Scale.expR]
  rw [c126, cm126, ln_two]

theorem pay3_eq : k0_pay3 (F := Ideal) (k0_pay29 (F := Ideal) v b g β) (k0_pay30 (F := Ideal) v b g β)
    = fun y : S12x1x1280.Idx => DwlnSpec.scale (prow v b (y 0) (y 2)) (vrow g) (vrow β) := by
  unfold k0_pay3
  rw [pay1_eq]
  funext y
  idx_vars y
  pointwise [DwlnSpec.scale]
  rfl

theorem pay2_eq : k0_pay2 (F := Ideal) (k0_pay28 (F := Ideal) v b g β) (k0_pay29 (F := Ideal) v b g β) (k0_pay30 (F := Ideal) v b g β)
    = fun y : S12x1280x1536.Idx => DwlnSpec.q (prow v b (y 0) (y 1)) (vrow g) (vrow β) (y 2) := by
  unfold k0_pay2
  rw [pay1_eq, pay28_eq]
  funext y
  idx_vars y
  pointwise [DwlnSpec.q, Gelu.clip]
  rw [c448, cm448]
  rfl

end Rows

/-! ## The two results of the body -/

section Out

variable (x0 : Vec Ideal S12x46x38x1536 .bf16) (x1 : Vec Ideal S7x7x1536 .bf16) (x2 : Vec Ideal S1x1x1x1536 .f32) (x3 x4 : Vec Ideal S1x1x1536 .f32)

theorem ld2 : View.ld x2 r0_98 = x2 := View.ld_unit_zero hz4 ..
theorem ld3 : View.ld x3 r0_99 = x3 := View.ld_unit_zero hz3 ..

/-- Pixel `p`'s row of the convolution of the windows' arrays. -/
def rrow (n : Fin 12) (p : Fin 1280) : Fin 1536 → EReal :=
  fun d => (∑ dy : Fin 7, ∑ dx : Fin 7, tapR x0 x1 n ⟨p.val / 32, by omega⟩ ⟨p.val % 32, by omega⟩ d dy dx) + x2 (ix4 0 0 0 d)

theorem prow_eq (n : Fin 12) (p : Fin 1280) : prow (k0_pay31 (F := Ideal) x0 x1 x2 x3 x4) x2 n p = rrow x0 x1 x2 n p := by
  funext d
  show k0_pay31 (F := Ideal) x0 x1 x2 x3 x4 (ix4 n _ _ d) + _ = _
  rw [pay31_apply]
  rfl

theorem out_5 : out0_5 x0 x1 x2 x3 x4 = fun y : S12x1280x1536.Idx => DwlnSpec.q (rrow x0 x1 x2 (y 0) (y 1)) (vrow x3) (vrow x4) (y 2) := by
  unfold out0_5 k0_pay33 k0_pay32
  rw [View.canon_unit_zero hz3, ld2, ld3, ld3, pay2_eq]
  funext y
  exact congrArg (fun f => DwlnSpec.q f (vrow x3) (vrow x4) (y 2)) (prow_eq x0 x1 x2 x3 x4 (y 0) (y 1))

theorem out_6 : out0_6 x0 x1 x2 x3 x4 = fun y : S12x1x1280.Idx => DwlnSpec.scale (rrow x0 x1 x2 (y 0) (y 2)) (vrow x3) (vrow x4) := by
  unfold out0_6 k0_pay33 k0_pay32
  rw [View.canon_unit_zero hz3, ld2, ld3, ld3, pay3_eq]
  funext y
  exact congrArg (fun f => DwlnSpec.scale f (vrow x3) (vrow x4)) (prow_eq x0 x1 x2 x3 x4 (y 0) (y 2))

end Out

end Cert.DwlnReferenceIdeal.Body

end
-- ==== Proof.DwlnRefArray.lean ====
/- The two arrays the convolution's reference leaves, as functions of the argument arrays. Its grid has one point, and each
window's block is the whole array.
-/
module

public import proofs.«01_k».proof.Proof.DwlnRefBody

@[expose] public section

set_option maxRecDepth 16384

noncomputable section

namespace Cert.DwlnReferenceIdeal.Arrays

open Idealize.ShloMosaic Idealize.ShloMosaic.TcCoe Idealize.SL.Sem
open Cert.DwlnReferenceIdeal Cert.DwlnReferenceIdeal.Gen Cert.DwlnReferenceIdeal.Body

/-! ## The host's arrays read index by index -/

section Host

variable (x : S12x1536x1280.Idx → EReal) (w : S1536x7x7.Idx → EReal) (v : S1536.Idx → EReal)

/-- The images with their channels last, in rows, between zeros. -/
abbrev image : S12x46x38x1536.Idx → EReal :=
  pad S12x46x38x1536 ![0, 3, 3, 0] ![0, 3, 3, 0] ![0, 0, 0, 0]
    (shapeCast S12x40x32x1536 (transpose S12x1280x1536 [0, 2, 1] x transposes_S12x1536x1280_S12x1280x1536_0_2_1) shapeCasts_S12x1280x1536_S12x40x32x1536)
    (sitofp (F := Ideal) .bf16 (constantI S_ 32 0#32)) pads_S12x40x32x1536_S12x46x38x1536_000_330_330_000 h_S_

theorem zero_eq (i : S_.Idx) : (sitofp (F := Ideal) .bf16 (constantI S_ 32 0#32) i : EReal) = 0 := by
  show (((0#32 : BitVec 32).toInt : ℝ) : EReal) = 0
  simp

theorem image_apply (n : Fin 12) (r : Fin 46) (s : Fin 38) (d : Fin 1536) : image x (ix4 n r s d) = DwlnSpec.padded x n d r.val s.val := by
  unfold image DwlnSpec.padded
  by_cases h : (3 ≤ r.val ∧ r.val < 43) ∧ 3 ≤ s.val ∧ s.val < 35
  · rw [dif_pos h, pad_apply, dif_pos (fun a => by
      match a with
      | ⟨0, _⟩ => show 0 ≤ n.val ∧ (n.val - 0) % 1 = 0 ∧ (n.val - 0) / 1 < 12; omega
      | ⟨1, _⟩ => show 3 ≤ r.val ∧ (r.val - 3) % 1 = 0 ∧ (r.val - 3) / 1 < 40; omega
      | ⟨2, _⟩ => show 3 ≤ s.val ∧ (s.val - 3) % 1 = 0 ∧ (s.val - 3) / 1 < 32; omega
      | ⟨3, _⟩ => show 0 ≤ d.val ∧ (d.val - 0) % 1 = 0 ∧ (d.val - 0) / 1 < 1536; omega)]
    have e : ∀ (y : S12x40x32x1536.Idx) (y0 : (y 0).val = n.val) (y1 : (y 1).val = r.val - 3) (y2 : (y 2).val = s.val - 3) (y3 : (y 3).val = d.val),
        shapeCast S12x40x32x1536 (transpose S12x1280x1536 [0, 2, 1] x transposes_S12x1536x1280_S12x1280x1536_0_2_1) shapeCasts_S12x1280x1536_S12x40x32x1536 y
          = x (ix3 n d ⟨32 * (r.val - 3) + (s.val - 3), by omega⟩) := by
      intro y y0 y1 y2 y3
      idx_vars y
      pointwise
      refine congrArg x (funext fun a => Fin.ext ?_)
      match a with
      | ⟨0, _⟩ => exact y0
      | ⟨1, _⟩ => exact y3
      | ⟨2, _⟩ => dsimp at *; omega
    refine e _ ?_ ?_ ?_ ?_
    · show (n.val - 0) / 1 = n.val; omega
    · show (r.val - 3) / 1 = r.val - 3; omega
    · show (s.val - 3) / 1 = s.val - 3; omega
    · show (d.val - 0) / 1 = d.val; omega
  · rw [dif_neg h, pad_apply, dif_neg (fun hin => by
      have h1 : 3 ≤ r.val ∧ (r.val - 3) % 1 = 0 ∧ (r.val - 3) / 1 < 40 := hin 1
      have h2 : 3 ≤ s.val ∧ (s.val - 3) % 1 = 0 ∧ (s.val - 3) / 1 < 32 := hin 2
      omega)]
    exact zero_eq _

theorem taps_apply (dy dx : Fin 7) (d : Fin 1536) :
    transpose S7x7x1536 [1, 2, 0] w transposes_S1536x7x7_S7x7x1536_1_2_0 (ix3 dy dx d) = w (ix3 d dy dx) := by
  pointwise

theorem bias_apply (d : Fin 1536) : shapeCast S1x1x1x1536 v shapeCasts_S1536_S1x1x1x1536 (ix4 0 0 0 d) = v (ix1 d) := by
  pointwise

theorem vrow_apply : vrow (shapeCast S1x1x1536 v shapeCasts_S1536_S1x1x1536) = fun d => v (ix1 d) := by
  funext d
  show shapeCast S1x1x1536 v shapeCasts_S1536_S1x1x1536 (ix3 0 0 d) = _
  pointwise

end Host

variable (m : (ℓ : Loc nD τ sig) → Buf (Elt Ideal) ℓ) (c : Dev nD)

/-- The arguments. -/
abbrev x : Vec Ideal S12x1536x1280 .bf16 := m ((c : Thread nD τ).loc main_arg0)
abbrev w : Vec Ideal S1536x7x7 .bf16 := m ((c : Thread nD τ).loc main_arg1)
abbrev b : Vec Ideal S1536 .f32 := m ((c : Thread nD τ).loc main_arg2)
abbrev g : Vec Ideal S1536 .f32 := m ((c : Thread nD τ).loc main_arg3)
abbrev β : Vec Ideal S1536 .f32 := m ((c : Thread nD τ).loc main_arg4)

theorem V_v2 : V m c main_v2 = image (x m c) := by
  show StableHlo.after (hostOps0 ++ (hostOps0_1 ++ (hostOps0_2 ++ []))) _ (Proc.devRef .tc main_v2) = _
  simp only [List.cons_append, List.nil_append]
  after_results
  rfl
theorem V_v3 : V m c main_v3 = transpose S7x7x1536 [1, 2, 0] (w m c) transposes_S1536x7x7_S7x7x1536_1_2_0 := by
  show StableHlo.after (hostOps0 ++ (hostOps0_1 ++ (hostOps0_2 ++ []))) _ (Proc.devRef .tc main_v3) = _
  simp only [List.cons_append, List.nil_append]
  after_results
theorem V_v4 : V m c main_v4 = shapeCast S1x1x1x1536 (b m c) shapeCasts_S1536_S1x1x1x1536 := by
  show StableHlo.after (hostOps0 ++ (hostOps0_1 ++ (hostOps0_2 ++ []))) _ (Proc.devRef .tc main_v4) = _
  simp only [List.cons_append, List.nil_append]
  after_results
  rfl
theorem V_v5 : V m c main_v5 = shapeCast S1x1x1536 (g m c) shapeCasts_S1536_S1x1x1536 := by
  show StableHlo.after (hostOps0 ++ (hostOps0_1 ++ (hostOps0_2 ++ []))) _ (Proc.devRef .tc main_v5) = _
  simp only [List.cons_append, List.nil_append]
  after_results
  rfl
theorem V_v6 : V m c main_v6 = shapeCast S1x1x1536 (β m c) shapeCasts_S1536_S1x1x1536 := by
  show StableHlo.after (hostOps0 ++ (hostOps0_1 ++ (hostOps0_2 ++ []))) _ (Proc.devRef .tc main_v6) = _
  simp only [List.cons_append, List.nil_append]
  after_results
  rfl

/-! ## Each window's block is its whole array -/

variable (t : Fin cfg0.N)

theorem idx0 : ∀ t : Fin cfg0.N, win0_0.index t (0 : Fin 4) = 0 ∧ win0_0.index t (1 : Fin 4) = 0 ∧ win0_0.index t (2 : Fin 4) = 0 ∧ win0_0.index t (3 : Fin 4) = 0 :=
  (by decide +kernel : ∀ t : Fin grid0.N, _)
theorem emb0 (j : S12x46x38x1536.Idx) : ((cfg0.win 0).blk t).view.emb j = j := by
  obtain ⟨e0, e1, e2, e3⟩ := idx0 t
  funext a; apply Fin.ext
  match a with
  | ⟨0, _⟩ => show win0_0.index t (0 : Fin 4) * 12 + 1 * (j 0).val = (j 0).val; omega
  | ⟨1, _⟩ => show win0_0.index t (1 : Fin 4) * 46 + 1 * (j 1).val = (j 1).val; omega
  | ⟨2, _⟩ => show win0_0.index t (2 : Fin 4) * 38 + 1 * (j 2).val = (j 2).val; omega
  | ⟨3, _⟩ => show win0_0.index t (3 : Fin 4) * 1536 + 1 * (j 3).val = (j 3).val; omega
theorem blk0 : (iblk m c 0 t : Vec Ideal S12x46x38x1536 .bf16) = V m c main_v2 := by
  funext j
  show V m c main_v2 (((cfg0.win 0).blk t).view.emb j) = _
  rw [emb0]

theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)
theorem emb1 (j : S7x7x1536.Idx) : ((cfg0.win 1).blk t).view.emb j = j := by
  obtain ⟨e0, e1, e2⟩ := idx1 t
  funext a; apply Fin.ext
  match a with
  | ⟨0, _⟩ => show win0_1.index t (0 : Fin 3) * 7 + 1 * (j 0).val = (j 0).val; omega
  | ⟨1, _⟩ => show win0_1.index t (1 : Fin 3) * 7 + 1 * (j 1).val = (j 1).val; omega
  | ⟨2, _⟩ => show win0_1.index t (2 : Fin 3) * 1536 + 1 * (j 2).val = (j 2).val; omega
theorem blk1 : (iblk m c 1 t : Vec Ideal S7x7x1536 .bf16) = V m c main_v3 := by
  funext j
  show V m c main_v3 (((cfg0.win 1).blk t).view.emb j) = _
  rw [emb1]

theorem idx2 : ∀ t : Fin cfg0.N, win0_2.index t (0 : Fin 4) = 0 ∧ win0_2.index t (1 : Fin 4) = 0 ∧ win0_2.index t (2 : Fin 4) = 0 ∧ win0_2.index t (3 : Fin 4) = 0 :=
  (by decide +kernel : ∀ t : Fin grid0.N, _)
theorem emb2 (j : S1x1x1x1536.Idx) : ((cfg0.win 2).blk t).view.emb j = j := by
  obtain ⟨e0, e1, e2, e3⟩ := idx2 t
  funext a; apply Fin.ext
  match a with
  | ⟨0, _⟩ => show win0_2.index t (0 : Fin 4) * 1 + 1 * (j 0).val = (j 0).val; omega
  | ⟨1, _⟩ => show win0_2.index t (1 : Fin 4) * 1 + 1 * (j 1).val = (j 1).val; omega
  | ⟨2, _⟩ => show win0_2.index t (2 : Fin 4) * 1 + 1 * (j 2).val = (j 2).val; omega
  | ⟨3, _⟩ => show win0_2.index t (3 : Fin 4) * 1536 + 1 * (j 3).val = (j 3).val; omega
theorem blk2 : (iblk m c 2 t : Vec Ideal S1x1x1x1536 .f32) = V m c main_v4 := by
  funext j
  show V m c main_v4 (((cfg0.win 2).blk t).view.emb j) = _
  rw [emb2]

theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)
theorem emb3 (j : S1x1x1536.Idx) : ((cfg0.win 3).blk t).view.emb j = j := by
  obtain ⟨e0, e1, e2⟩ := idx3 t
  funext a; apply Fin.ext
  match a with
  | ⟨0, _⟩ => show win0_3.index t (0 : Fin 3) * 1 + 1 * (j 0).val = (j 0).val; omega
  | ⟨1, _⟩ => show win0_3.index t (1 : Fin 3) * 1 + 1 * (j 1).val = (j 1).val; omega
  | ⟨2, _⟩ => show win0_3.index t (2 : Fin 3) * 1536 + 1 * (j 2).val = (j 2).val; omega
theorem blk3 : (iblk m c 3 t : Vec Ideal S1x1x1536 .f32) = V m c main_v5 := by
  funext j
  show V m c main_v5 (((cfg0.win 3).blk t).view.emb j) = _
  rw [emb3]

theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)
theorem emb4 (j : S1x1x1536.Idx) : ((cfg0.win 4).blk t).view.emb j = j := by
  obtain ⟨e0, e1, e2⟩ := idx4 t
  funext a; apply Fin.ext
  match a with
  | ⟨0, _⟩ => show win0_4.index t (0 : Fin 3) * 1 + 1 * (j 0).val = (j 0).val; omega
  | ⟨1, _⟩ => show win0_4.index t (1 : Fin 3) * 1 + 1 * (j 1).val = (j 1).val; omega
  | ⟨2, _⟩ => show win0_4.index t (2 : Fin 3) * 1536 + 1 * (j 2).val = (j 2).val; omega
theorem blk4 : (iblk m c 4 t : Vec Ideal S1x1x1536 .f32) = V m c main_v6 := by
  funext j
  show V m c main_v6 (((cfg0.win 4).blk t).view.emb j) = _
  rw [emb4]

theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)
theorem emb5 (j : S12x1280x1536.Idx) : ((cfg0.win 5).blk t).view.emb j = j := by
  obtain ⟨e0, e1, e2⟩ := idx5 t
  funext a; apply Fin.ext
  match a with
  | ⟨0, _⟩ => show win0_5.index t (0 : Fin 3) * 12 + 1 * (j 0).val = (j 0).val; omega
  | ⟨1, _⟩ => show win0_5.index t (1 : Fin 3) * 1280 + 1 * (j 1).val = (j 1).val; omega
  | ⟨2, _⟩ => show win0_5.index t (2 : Fin 3) * 1536 + 1 * (j 2).val = (j 2).val; omega
theorem cut5 (Y : Vec Ideal S12x1280x1536 .fp8e4m3) : (cfg0.win 5).cut (grid0.coords t) Y = ((cfg0.win 5).blk t).view.read (Elt Ideal) Y := by
  funext j
  show Y j = Y (((cfg0.win 5).blk t).view.emb j)
  rw [emb5]
theorem covered5 (i : S12x1280x1536.Idx) : ∃ t : Fin cfg0.N, (cfg0.win 5).flush t = true ∧ i ∈ ((cfg0.win 5).blk t).view.set :=
  ⟨(⟨0, by decide⟩ : Fin cfg0.N), flush0_5 _, by
    have h := ((cfg0.win 5).blk (⟨0, by decide⟩ : Fin cfg0.N)).view.emb_mem_set i; rwa [emb5] at h⟩
theorem flushed5 : (dats m 0 c).flushed 5 t
    = (cfg0.win 5).cut (grid0.coords t) (out0_5 (iblk m c 0 t) (iblk m c 1 t) (iblk m c 2 t) (iblk m c 3 t) (iblk m c 4 t)) := by
  show (cfg0.win 5).cut (grid0.coords t) ((dats m 0 c).after 5 t) = _
  rw [after0_5]

theorem idx6 : ∀ t : Fin cfg0.N, win0_6.index t (0 : Fin 3) = 0 ∧ win0_6.index t (1 : Fin 3) = 0 ∧ win0_6.index t (2 : Fin 3) = 0 :=
  (by decide +kernel : ∀ t : Fin grid0.N, _)
theorem emb6 (j : S12x1x1280.Idx) : ((cfg0.win 6).blk t).view.emb j = j := by
  obtain ⟨e0, e1, e2⟩ := idx6 t
  funext a; apply Fin.ext
  match a with
  | ⟨0, _⟩ => show win0_6.index t (0 : Fin 3) * 12 + 1 * (j 0).val = (j 0).val; omega
  | ⟨1, _⟩ => show win0_6.index t (1 : Fin 3) * 1 + 1 * (j 1).val = (j 1).val; omega
  | ⟨2, _⟩ => show win0_6.index t (2 : Fin 3) * 1280 + 1 * (j 2).val = (j 2).val; omega
theorem cut6 (Y : Vec Ideal S12x1x1280 .f32) : (cfg0.win 6).cut (grid0.coords t) Y = ((cfg0.win 6).blk t).view.read (Elt Ideal) Y := by
  funext j
  show Y j = Y (((cfg0.win 6).blk t).view.emb j)
  rw [emb6]
theorem covered6 (i : S12x1x1280.Idx) : ∃ t : Fin cfg0.N, (cfg0.win 6).flush t = true ∧ i ∈ ((cfg0.win 6).blk t).view.set :=
  ⟨(⟨0, by decide⟩ : Fin cfg0.N), flush0_6 _, by
    have h := ((cfg0.win 6).blk (⟨0, by decide⟩ : Fin cfg0.N)).view.emb_mem_set i; rwa [emb6] at h⟩
theorem flushed6 : (dats m 0 c).flushed 6 t
    = (cfg0.win 6).cut (grid0.coords t) (out0_6 (iblk m c 0 t) (iblk m c 1 t) (iblk m c 2 t) (iblk m c 3 t) (iblk m c 4 t)) := by
  show (cfg0.win 6).cut (grid0.coords t) ((dats m 0 c).after 6 t) = _
  rw [after0_6]

/-! ## The results -/

theorem conv_eq (n : Fin 12) (p : Fin 1280) :
    rrow (iblk m c 0 t) (iblk m c 1 t) (iblk m c 2 t) n p = DwlnSpec.conv (x m c) (w m c) (b m c) n p := by
  rw [blk0, blk1, blk2, V_v2, V_v3, V_v4]
  funext d
  unfold rrow tapR DwlnSpec.conv
  rw [bias_apply]
  refine congrArg₂ (fun u v : EReal => u + v) (Finset.sum_congr rfl fun dy _ => Finset.sum_congr rfl fun dx _ => ?_) rfl
  rw [taps_apply, image_apply]
  show DwlnSpec.padded (x m c) n d (dy.val + p.val / 32) (dx.val + p.val % 32) * _ = _
  rw [Nat.add_comm dy.val, Nat.add_comm dx.val]

abbrev G5 : Vec Ideal S12x1280x1536 .fp8e4m3 := DwlnSpec.quantised (x m c) (w m c) (b m c) (g m c) (β m c)
abbrev G6 : Vec Ideal S12x1x1280 .f32 := DwlnSpec.scales (x m c) (w m c) (b m c) (g m c) (β m c)

theorem E3 : vrow (iblk m c 3 t) = fun d => g m c (ix1 d) := by rw [blk3, V_v5, vrow_apply]
theorem E4 : vrow (iblk m c 4 t) = fun d => β m c (ix1 d) := by rw [blk4, V_v6, vrow_apply]

theorem final5 : (dats m 0 c).arrAt 5 cfg0.N = G5 m c :=
  (dats m 0 c).arrAt_eq_of_cover 5 (G5 m c) (fun t _ => by
    rw [flushed5, out_5, E3, E4]
    refine (congrArg _ (funext fun y => ?_)).trans (cut5 t (G5 m c))
    exact congrArg (fun f => DwlnSpec.q f _ _ (y 2)) (conv_eq m c t (y 0) (y 1))) covered5

theorem final6 : (dats m 0 c).arrAt 6 cfg0.N = G6 m c :=
  (dats m 0 c).arrAt_eq_of_cover 6 (G6 m c) (fun t _ => by
    rw [flushed6, out_6, E3, E4]
    refine (congrArg _ (funext fun y => ?_)).trans (cut6 t (G6 m c))
    exact congrArg (fun f => DwlnSpec.scale f _ _) (conv_eq m c t (y 0) (y 2))) covered6

variable (ρ : Dev nD → PrngReg)

theorem run_blocks : θ_run defs (onTc (τ := τ) (main (F := Ideal))) ⟨m, fun _ => 0, ρ⟩ (fun r => ∀ c : Dev nD,
      r.2.mem ((c.tc : Thread nD τ).loc main_v7_0) = G5 m c
      ∧ r.2.mem ((c.tc : Thread nD τ).loc main_v7_1) = G6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 5).trans (final5 m c), ((h c).1 6).trans (final6 m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩) (run_main m ρ)

end Cert.DwlnReferenceIdeal.Arrays

end
-- ==== Proof.DwlnEqual.lean ====
/- The value claim of the convolution call: run from memories that agree on the arguments, the kernel and its reference end
with equal results. The claims that each program is its ideal program.
-/
module

public import proofs.«01_k».proof.Defs
public import proofs.«01_k».proof.Proof.DwlnArray
public import proofs.«01_k».proof.Proof.DwlnRefArray

@[expose] public section

set_option maxRecDepth 16384

noncomputable section

namespace Cert.Proof

open Idealize.ShloMosaic Idealize.ShloMosaic.TcCoe Idealize.SL.Sem

theorem algebraic_dwln : algebraic_DwlnIdeal_DwlnReferenceIdeal (hDwlnIdeal := Cert.DwlnIdeal.Gen.facts)
    (hDwlnReferenceIdeal := Cert.DwlnReferenceIdeal.Gen.facts) := by
  intro m g m' g' _ hargs
  refine ⟨fun c => Cert.DwlnIdeal.Arrays.G5 m c, fun c => Cert.DwlnIdeal.Arrays.G6 m c,
    Cert.DwlnIdeal.Arrays.run_blocks m g, ?_⟩
  refine (θ_run Cert.DwlnReferenceIdeal.defs _ _).mono (fun r h c => ?_) (Cert.DwlnReferenceIdeal.Arrays.run_blocks m' g')
  obtain ⟨h0, h1, hrest⟩ := h c
  obtain ⟨a0, a1, a2, a3, a4⟩ := hargs c
  refine ⟨h0.trans ?_, h1.trans ?_, hrest⟩
  · unfold Cert.DwlnReferenceIdeal.Arrays.G5 Cert.DwlnReferenceIdeal.Arrays.x Cert.DwlnReferenceIdeal.Arrays.w
      Cert.DwlnReferenceIdeal.Arrays.b Cert.DwlnReferenceIdeal.Arrays.g Cert.DwlnReferenceIdeal.Arrays.β
    rw [a0, a1, a2, a3, a4]
  · unfold Cert.DwlnReferenceIdeal.Arrays.G6 Cert.DwlnReferenceIdeal.Arrays.x Cert.DwlnReferenceIdeal.Arrays.w
      Cert.DwlnReferenceIdeal.Arrays.b Cert.DwlnReferenceIdeal.Arrays.g Cert.DwlnReferenceIdeal.Arrays.β
    rw [a0, a1, a2, a3, a4]

/-- The word buffers and the words taken apart and put together are the bf16 rows, and the named constant is 1/1536, rounded. -/
theorem preserves_dwln : preserves_Dwln_DwlnIdeal :=
  ⟨IdealRules.bf16_pair.bufferStatement _ _, IdealRules.bf16_pair.statement _ _, IdealRules.bf16_pair.selectZeroStatement _,
    IdealRules.bf16_pair.statement _ _, IdealRules.bf16_pair.statement _ _, IdealRules.bf16_pair.statement _ _,
    IdealRules.named_const.statement Cert.DwlnIdeal.κ "inv_d" .f32 0x3A2AAAAB#32 ((1536⁻¹ : ℝ) : EReal) rfl⟩

theorem preserves_dwln_reference : preserves_DwlnReference_DwlnReferenceIdeal :=
  IdealRules.named_const.statement Cert.DwlnReferenceIdeal.κ "ln_two" .f32 0x3F317218#32 ((Real.log 2 : ℝ) : EReal) rfl

end Cert.Proof

end
-- ==== Proof.lean ====
module

public import proofs.«01_k».proof.Defs
public import proofs.«01_k».proof.Proof.Gen.Kernel.Frame
public import proofs.«01_k».proof.Proof.Gen.Reference.Frame
public import proofs.«01_k».proof.Proof.Gen.KernelIdeal.Value
public import proofs.«01_k».proof.Proof.Gen.ReferenceIdeal.Value
public import proofs.«01_k».proof.Proof.Gen.DwlnReference.Frame
public import proofs.«01_k».proof.Proof.Gen.DwlnReferenceIdeal.Frame
public import proofs.«01_k».proof.Proof.Equal
public import proofs.«01_k».proof.Proof.DwlnFrame
public import proofs.«01_k».proof.Proof.DwlnEqual

@[expose] public section

theorem Cert.Proof.claim : Cert.Claim :=
  ⟨Cert.Kernel.Gen.facts, Cert.KernelIdeal.Gen.facts, Cert.ReferenceIdeal.Gen.facts, Cert.Reference.Gen.facts,
    Cert.Dwln.Gen.facts, Cert.DwlnIdeal.Gen.facts, Cert.DwlnReferenceIdeal.Gen.facts, Cert.DwlnReference.Gen.facts, Cert.Proof.preFacts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    fun m ρ _ => Cert.Reference.Gen.frame m ρ,
    fun m ρ _ => Cert.Dwln.Hand.frame m ρ,
    fun m ρ _ => Cert.DwlnIdeal.Hand.frame m ρ,
    fun m ρ _ => Cert.DwlnReferenceIdeal.Gen.frame m ρ,
    fun m ρ _ => Cert.DwlnReference.Gen.frame m ρ,
    Cert.Proof.preserves_kernel, Cert.Proof.preserves_reference, Cert.Proof.algebraic,
    Cert.Proof.preserves_dwln, Cert.Proof.preserves_dwln_reference, Cert.Proof.algebraic_dwln⟩
